-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v105) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S1x4096x16x128 : Shape := ⟨4, ![1, 4096, 16, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x16x128 : S_.BroadcastsInDim S1x4096x16x128 (![] : Fin 0 → Fin S1x4096x16x128.rank)
  reducesTo_S1x4096x16x128_S_d0_1_2_3 : S1x4096x16x128.ReducesTo [0, 1, 2, 3] S_

variable [Facts]

def fn {F : FTy → Type} [FloatOps F] (main_arg0 : FVec F S1x256x1024 .f32) (main_arg1 : FVec F S1024x1024 .f32) (main_arg2 : FVec F S1x4096x16x128 .f32) (main_arg3 : FVec F S1x4096x16x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x16x128 .f32 := Host.absf main_arg2
  let main_cst_2 : FVec F S_ .f32 := constant S_ .f32 0x7F800000#32
  let main_v10 : FVec F S1x4096x16x128 .f32 := broadcastInDim S1x4096x16x128 ![] bcast_S_S1x4096x16x128 main_cst_2
  let main_v11 : IVec S1x4096x16x128 1 := cmpf .olt main_v9 main_v10
  let main_c_3 : IVec S_ 1 := constantI S_ 1 1#1
  let main_v12 : IVec S_ 1 := (fun x v => Host.reduce IntOp.andi x v reducesTo_S1x4096x16x128_S_d0_1_2_3 h_S_) main_v11 main_c_3
  let main_v13 : IVec S_ 1 := andi main_v8 main_v12
  main_v13
-- ==== Pre_finite_ReferenceIdeal.lean ====
abbrev S1x256x1024 : Shape := ⟨3, ![1, 256, 1024]⟩
abbrev S1024x8192 : Shape := ⟨2, ![1024, 8192]⟩
abbrev S1x4096x16x128 : Shape := ⟨4, ![1, 4096, 16, 128]⟩
abbrev S8192x1024 : Shape := ⟨2, ![8192, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x4096x16x128 : S_.BroadcastsInDim S1x4096x16x128 (![] : Fin 0 → Fin S1x4096x16x128.rank)
  reducesTo_S1x4096x16x128_S_d0_1_2_3 : S1x4096x16x128.ReducesTo [0, 1, 2, 3] S_

variable [Facts]

def fn {F : FTy → Type} [FloatOps F] (main_arg0 : FVec F S1x256x1024 .f32) (main_arg1 : FVec F S1024x8192 .f32) (main_arg2 : FVec F S1x4096x16x128 .f32) (main_arg3 : FVec F S1x4096x16x128 .f32) (main_arg4 : FVec F S8192x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x4096x16x128 .f32 := Host.absf main_arg2
  let main_cst_2 : FVec F S_ .f32 := constant S_ .f32 0x7F800000#32
  let main_v10 : FVec F S1x4096x16x128 .f32 := broadcastInDim S1x4096x16x128 ![] bcast_S_S1x4096x16x128 main_cst_2
  let main_v11 : IVec S1x4096x16x128 1 := cmpf .olt main_v9 main_v10
  let main_c_3 : IVec S_ 1 := constantI S_ 1 1#1
  let main_v12 : IVec S_ 1 := (fun x v => Host.reduce IntOp.andi x v reducesTo_S1x4096x16x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x16x128 : Shape := ⟨4, ![1, 4096, 16, 128]⟩
abbrev S2x4096x128 : Shape := ⟨3, ![2, 4096, 128]⟩
abbrev S4x1024x256 : Shape := ⟨3, ![4, 1024, 256]⟩
abbrev S256x1024 : Shape := ⟨2, ![256, 1024]⟩
abbrev S8x32x1024 : Shape := ⟨3, ![8, 32, 1024]⟩
abbrev S32x1024 : Shape := ⟨2, ![32, 1024]⟩
abbrev S4 : Shape := ⟨1, ![4]⟩
abbrev S1 : Shape := ⟨1, ![1]⟩
abbrev S8 : Shape := ⟨1, ![8]⟩
abbrev S_ : Shape := ⟨0, ![]⟩
abbrev S1x1024x256 : Shape := ⟨3, ![1, 1024, 256]⟩
abbrev S1024x256 : Shape := ⟨2, ![1024, 256]⟩
abbrev S1x4096x128 : Shape := ⟨3, ![1, 4096, 128]⟩
abbrev S4096x128 : Shape := ⟨2, ![4096, 128]⟩
abbrev S1x4096x1x128 : Shape := ⟨4, ![1, 4096, 1, 128]⟩
abbrev S256x256 : Shape := ⟨2, ![256, 256]⟩
abbrev S128x128 : Shape := ⟨2, ![128, 128]⟩
abbrev S128x4096 : Shape := ⟨2, ![128, 4096]⟩
abbrev S128 : Shape := ⟨1, ![128]⟩
abbrev S128x1 : Shape := ⟨2, ![128, 1]⟩
abbrev S128x1024 : Shape := ⟨2, ![128, 1024]⟩
abbrev S1x32x1024 : Shape := ⟨3, ![1, 32, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x16x128, .f32⟩
  | .hbm, ⟨3, _⟩ => ⟨S1x4096x16x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S2x4096x128, .f32⟩
  | .local _ .vmem, ⟨3, _⟩ => ⟨S2x4096x128, .f32⟩
  | .local _ .vmem, ⟨4, _⟩ => ⟨S4x1024x256, .f32⟩
  | .local _ .vmem, ⟨5, _⟩ => ⟨S1024x1024, .f32⟩
  | .local _ .vmem, ⟨6, _⟩ => ⟨S256x1024, .bf16⟩
  | .local _ .vmem, ⟨7, _⟩ => ⟨S8x32x1024, .bf16⟩
  | .local _ .vmem, ⟨8, _⟩ => ⟨S32x1024, .bf16⟩
  | .local _ .vmem, ⟨9, _⟩ => ⟨S8x32x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 4 → Nat :=
  let c0_i32_26 : BitVec 32 := 0#32
  let c0_i32_31 : BitVec 32 := 0#32
  let c2_i32 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.muli c2_i32 v2
  let v4 : BitVec 32 := Scalar.addi v3 c0_i32
  let c0_i32_32 : BitVec 32 := 0#32
  ![0, 0, v4.toNat, 0]
def k0_dev1 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_55 : BitVec 32 := 1#32
  let v58 : BitVec 32 := Scalar.addi v2 c1_i32_55
  let c8_i32_56 : BitVec 32 := 8#32
  let v59 : BitVec 32 := Scalar.remsi v58 c8_i32_56
  let c1_i32_58 : BitVec 32 := 1#32
  let v60 : BitVec 32 := Scalar.muli v59 c1_i32_58
  let v61 : BitVec 32 := Scalar.addi c0_i32_59 v60
  v61.toNat
def k0_dev2 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_60 : BitVec 32 := 2#32
  let v62 : BitVec 32 := Scalar.addi v2 c2_i32_60
  let c8_i32_61 : BitVec 32 := 8#32
  let v63 : BitVec 32 := Scalar.remsi v62 c8_i32_61
  let c1_i32_63 : BitVec 32 := 1#32
  let v64 : BitVec 32 := Scalar.muli v63 c1_i32_63
  let v65 : BitVec 32 := Scalar.addi c0_i32_64 v64
  v65.toNat
def k0_dev3 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_65 : BitVec 32 := 3#32
  let v66 : BitVec 32 := Scalar.addi v2 c3_i32_65
  let c8_i32_66 : BitVec 32 := 8#32
  let v67 : BitVec 32 := Scalar.remsi v66 c8_i32_66
  let c1_i32_68 : BitVec 32 := 1#32
  let v68 : BitVec 32 := Scalar.muli v67 c1_i32_68
  let v69 : BitVec 32 := Scalar.addi c0_i32_69 v68
  v69.toNat
def k0_dev4 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v70 : BitVec 32 := Scalar.addi v2 c4_i32
  let c8_i32_70 : BitVec 32 := 8#32
  let v71 : BitVec 32 := Scalar.remsi v70 c8_i32_70
  let c1_i32_72 : BitVec 32 := 1#32
  let v72 : BitVec 32 := Scalar.muli v71 c1_i32_72
  let v73 : BitVec 32 := Scalar.addi c0_i32_73 v72
  v73.toNat
def k0_dev5 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v74 : BitVec 32 := Scalar.addi v2 c5_i32
  let c8_i32_74 : BitVec 32 := 8#32
  let v75 : BitVec 32 := Scalar.remsi v74 c8_i32_74
  let c1_i32_76 : BitVec 32 := 1#32
  let v76 : BitVec 32 := Scalar.muli v75 c1_i32_76
  let v77 : BitVec 32 := Scalar.addi c0_i32_77 v76
  v77.toNat
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v78 : BitVec 32 := Scalar.addi v2 c6_i32
  let c8_i32_78 : BitVec 32 := 8#32
  let v79 : BitVec 32 := Scalar.remsi v78 c8_i32_78
  let c1_i32_80 : BitVec 32 := 1#32
  let v80 : BitVec 32 := Scalar.muli v79 c1_i32_80
  let v81 : BitVec 32 := Scalar.addi c0_i32_81 v80
  v81.toNat
def k0_dev7 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_82 : BitVec 32 := 8#32
  let v83 : BitVec 32 := Scalar.remsi v82 c8_i32_82
  let c1_i32_84 : BitVec 32 := 1#32
  let v84 : BitVec 32 := Scalar.muli v83 c1_i32_84
  let v85 : BitVec 32 := Scalar.addi c0_i32_85 v84
  v85.toNat
def k0_cond1 (d0 : Dev nD) : BitVec 1 :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v256 : BitVec 32 := Scalar.subi c0_i32_199 v2
  let c8_i32_200 : BitVec 32 := 8#32
  let v257 : BitVec 32 := Scalar.addi v256 c8_i32_200
  let c8_i32_201 : BitVec 32 := 8#32
  let v258 : BitVec 32 := Scalar.remsi v257 c8_i32_201
  let c0_i32_202 : BitVec 32 := 0#32
  let v259 : BitVec 1 := Scalar.cmpi .ne v258 c0_i32_202
  let v260 : BitVec 32 := Scalar.extui v259
  let c0_i32_203 : BitVec 32 := 0#32
  let v261 : BitVec 1 := Scalar.cmpi .ne v260 c0_i32_203
  v261

def k0_off2 (d0 : Dev nD) : Fin 1 → Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v256 : BitVec 32 := Scalar.subi c0_i32_199 v2
  let c8_i32_200 : BitVec 32 := 8#32
  let v257 : BitVec 32 := Scalar.addi v256 c8_i32_200
  let c8_i32_201 : BitVec 32 := 8#32
  let v258 : BitVec 32 := Scalar.remsi v257 c8_i32_201
  ![v258.toNat]
def k0_off3 (d0 : Dev nD) : Fin 3 → Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v256 : BitVec 32 := Scalar.subi c0_i32_199 v2
  let c8_i32_200 : BitVec 32 := 8#32
  let v257 : BitVec 32 := Scalar.addi v256 c8_i32_200
  let c8_i32_201 : BitVec 32 := 8#32
  let v258 : BitVec 32 := Scalar.remsi v257 c8_i32_201
  let c0_i32_627 : BitVec 32 := 0#32
  let c0_i32_628 : BitVec 32 := 0#32
  ![v258.toNat, 0, 0]
def k0_dev8 : Nat :=
  let c0_i32_626 : BitVec 32 := 0#32
  let c0_i32_624 : BitVec 32 := 0#32
  let c1_i32_625 : BitVec 32 := 1#32
  let v725 : BitVec 32 := Scalar.muli c0_i32_624 c1_i32_625
  let v726 : BitVec 32 := Scalar.addi c0_i32_626 v725
  v726.toNat
def k0_cond2 (d0 : Dev nD) : BitVec 1 :=
  let c1_i32_204 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v262 : BitVec 32 := Scalar.subi c1_i32_204 v2
  let c8_i32_205 : BitVec 32 := 8#32
  let v263 : BitVec 32 := Scalar.addi v262 c8_i32_205
  let c8_i32_206 : BitVec 32 := 8#32
  let v264 : BitVec 32 := Scalar.remsi v263 c8_i32_206
  let c0_i32_207 : BitVec 32 := 0#32
  let v265 : BitVec 1 := Scalar.cmpi .ne v264 c0_i32_207
  let v266 : BitVec 32 := Scalar.extui v265
  let c0_i32_208 : BitVec 32 := 0#32
  let v267 : BitVec 1 := Scalar.cmpi .ne v266 c0_i32_208
  v267

def k0_off4 (d0 : Dev nD) : Fin 1 → Nat :=
  let c1_i32_204 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v262 : BitVec 32 := Scalar.subi c1_i32_204 v2
  let c8_i32_205 : BitVec 32 := 8#32
  let v263 : BitVec 32 := Scalar.addi v262 c8_i32_205
  let c8_i32_206 : BitVec 32 := 8#32
  let v264 : BitVec 32 := Scalar.remsi v263 c8_i32_206
  ![v264.toNat]
def k0_off5 (d0 : Dev nD) : Fin 3 → Nat :=
  let c1_i32_204 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v262 : BitVec 32 := Scalar.subi c1_i32_204 v2
  let c8_i32_205 : BitVec 32 := 8#32
  let v263 : BitVec 32 := Scalar.addi v262 c8_i32_205
  let c8_i32_206 : BitVec 32 := 8#32
  let v264 : BitVec 32 := Scalar.remsi v263 c8_i32_206
  let c0_i32_627 : BitVec 32 := 0#32
  let c0_i32_628 : BitVec 32 := 0#32
  ![v264.toNat, 0, 0]
def k0_dev9 : Nat :=
  let c0_i32_626 : BitVec 32 := 0#32
  let c1_i32_624 : BitVec 32 := 1#32
  let c1_i32_625 : BitVec 32 := 1#32
  let v725 : BitVec 32 := Scalar.muli c1_i32_624 c1_i32_625
  let v726 : BitVec 32 := Scalar.addi c0_i32_626 v725
  v726.toNat
def k0_cond3 (d0 : Dev nD) : BitVec 1 :=
  let c2_i32_209 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v268 : BitVec 32 := Scalar.subi c2_i32_209 v2
  let c8_i32_210 : BitVec 32 := 8#32
  let v269 : BitVec 32 := Scalar.addi v268 c8_i32_210
  let c8_i32_211 : BitVec 32 := 8#32
  let v270 : BitVec 32 := Scalar.remsi v269 c8_i32_211
  let c0_i32_212 : BitVec 32 := 0#32
  let v271 : BitVec 1 := Scalar.cmpi .ne v270 c0_i32_212
  let v272 : BitVec 32 := Scalar.extui v271
  let c0_i32_213 : BitVec 32 := 0#32
  let v273 : BitVec 1 := Scalar.cmpi .ne v272 c0_i32_213
  v273

def k0_off6 (d0 : Dev nD) : Fin 1 → Nat :=
  let c2_i32_209 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v268 : BitVec 32 := Scalar.subi c2_i32_209 v2
  let c8_i32_210 : BitVec 32 := 8#32
  let v269 : BitVec 32 := Scalar.addi v268 c8_i32_210
  let c8_i32_211 : BitVec 32 := 8#32
  let v270 : BitVec 32 := Scalar.remsi v269 c8_i32_211
  ![v270.toNat]
def k0_off7 (d0 : Dev nD) : Fin 3 → Nat :=
  let c2_i32_209 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v268 : BitVec 32 := Scalar.subi c2_i32_209 v2
  let c8_i32_210 : BitVec 32 := 8#32
  let v269 : BitVec 32 := Scalar.addi v268 c8_i32_210
  let c8_i32_211 : BitVec 32 := 8#32
  let v270 : BitVec 32 := Scalar.remsi v269 c8_i32_211
  let c0_i32_627 : BitVec 32 := 0#32
  let c0_i32_628 : BitVec 32 := 0#32
  ![v270.toNat, 0, 0]
def k0_dev10 : Nat :=
  let c0_i32_626 : BitVec 32 := 0#32
  let c2_i32_624 : BitVec 32 := 2#32
  let c1_i32_625 : BitVec 32 := 1#32
  let v725 : BitVec 32 := Scalar.muli c2_i32_624 c1_i32_625
  let v726 : BitVec 32 := Scalar.addi c0_i32_626 v725
  v726.toNat
def k0_cond4 (d0 : Dev nD) : BitVec 1 :=
  let c3_i32_214 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v274 : BitVec 32 := Scalar.subi c3_i32_214 v2
  let c8_i32_215 : BitVec 32 := 8#32
  let v275 : BitVec 32 := Scalar.addi v274 c8_i32_215
  let c8_i32_216 : BitVec 32 := 8#32
  let v276 : BitVec 32 := Scalar.remsi v275 c8_i32_216
  let c0_i32_217 : BitVec 32 := 0#32
  let v277 : BitVec 1 := Scalar.cmpi .ne v276 c0_i32_217
  let v278 : BitVec 32 := Scalar.extui v277
  let c0_i32_218 : BitVec 32 := 0#32
  let v279 : BitVec 1 := Scalar.cmpi .ne v278 c0_i32_218
  v279

def k0_off8 (d0 : Dev nD) : Fin 1 → Nat :=
  let c3_i32_214 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v274 : BitVec 32 := Scalar.subi c3_i32_214 v2
  let c8_i32_215 : BitVec 32 := 8#32
  let v275 : BitVec 32 := Scalar.addi v274 c8_i32_215
  let c8_i32_216 : BitVec 32 := 8#32
  let v276 : BitVec 32 := Scalar.remsi v275 c8_i32_216
  ![v276.toNat]
def k0_off9 (d0 : Dev nD) : Fin 3 → Nat :=
  let c3_i32_214 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v274 : BitVec 32 := Scalar.subi c3_i32_214 v2
  let c8_i32_215 : BitVec 32 := 8#32
  let v275 : BitVec 32 := Scalar.addi v274 c8_i32_215
  let c8_i32_216 : BitVec 32 := 8#32
  let v276 : BitVec 32 := Scalar.remsi v275 c8_i32_216
  let c0_i32_627 : BitVec 32 := 0#32
  let c0_i32_628 : BitVec 32 := 0#32
  ![v276.toNat, 0, 0]
def k0_dev11 : Nat :=
  let c0_i32_626 : BitVec 32 := 0#32
  let c3_i32_624 : BitVec 32 := 3#32
  let c1_i32_625 : BitVec 32 := 1#32
  let v725 : BitVec 32 := Scalar.muli c3_i32_624 c1_i32_625
  let v726 : BitVec 32 := Scalar.addi c0_i32_626 v725
  v726.toNat
def k0_cond5 (d0 : Dev nD) : BitVec 1 :=
  let c4_i32_245 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v359 : BitVec 32 := Scalar.subi c4_i32_245 v2
  let c8_i32_246 : BitVec 32 := 8#32
  let v360 : BitVec 32 := Scalar.addi v359 c8_i32_246
  let c8_i32_247 : BitVec 32 := 8#32
  let v361 : BitVec 32 := Scalar.remsi v360 c8_i32_247
  let c0_i32_248 : BitVec 32 := 0#32
  let v362 : BitVec 1 := Scalar.cmpi .ne v361 c0_i32_248
  let v363 : BitVec 32 := Scalar.extui v362
  let c0_i32_249 : BitVec 32 := 0#32
  let v364 : BitVec 1 := Scalar.cmpi .ne v363 c0_i32_249
  v364

def k0_off10 (d0 : Dev nD) : Fin 1 → Nat :=
  let c4_i32_245 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v359 : BitVec 32 := Scalar.subi c4_i32_245 v2
  let c8_i32_246 : BitVec 32 := 8#32
  let v360 : BitVec 32 := Scalar.addi v359 c8_i32_246
  let c8_i32_247 : BitVec 32 := 8#32
  let v361 : BitVec 32 := Scalar.remsi v360 c8_i32_247
  ![v361.toNat]
def k0_off11 (d0 : Dev nD) : Fin 3 → Nat :=
  let c4_i32_245 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v359 : BitVec 32 := Scalar.subi c4_i32_245 v2
  let c8_i32_246 : BitVec 32 := 8#32
  let v360 : BitVec 32 := Scalar.addi v359 c8_i32_246
  let c8_i32_247 : BitVec 32 := 8#32
  let v361 : BitVec 32 := Scalar.remsi v360 c8_i32_247
  let c0_i32_627 : BitVec 32 := 0#32
  let c0_i32_628 : BitVec 32 := 0#32
  ![v361.toNat, 0, 0]
def k0_dev12 : Nat :=
  let c0_i32_626 : BitVec 32 := 0#32
  let c4_i32_624 : BitVec 32 := 4#32
  let c1_i32_625 : BitVec 32 := 1#32
  let v725 : BitVec 32 := Scalar.muli c4_i32_624 c1_i32_625
  let v726 : BitVec 32 := Scalar.addi c0_i32_626 v725
  v726.toNat
def k0_cond6 (d0 : Dev nD) : BitVec 1 :=
  let c5_i32_250 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v365 : BitVec 32 := Scalar.subi c5_i32_250 v2
  let c8_i32_251 : BitVec 32 := 8#32
  let v366 : BitVec 32 := Scalar.addi v365 c8_i32_251
  let c8_i32_252 : BitVec 32 := 8#32
  let v367 : BitVec 32 := Scalar.remsi v366 c8_i32_252
  let c0_i32_253 : BitVec 32 := 0#32
  let v368 : BitVec 1 := Scalar.cmpi .ne v367 c0_i32_253
  let v369 : BitVec 32 := Scalar.extui v368
  let c0_i32_254 : BitVec 32 := 0#32
  let v370 : BitVec 1 := Scalar.cmpi .ne v369 c0_i32_254
  v370

def k0_off12 (d0 : Dev nD) : Fin 1 → Nat :=
  let c5_i32_250 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v365 : BitVec 32 := Scalar.subi c5_i32_250 v2
  let c8_i32_251 : BitVec 32 := 8#32
  let v366 : BitVec 32 := Scalar.addi v365 c8_i32_251
  let c8_i32_252 : BitVec 32 := 8#32
  let v367 : BitVec 32 := Scalar.remsi v366 c8_i32_252
  ![v367.toNat]
def k0_off13 (d0 : Dev nD) : Fin 3 → Nat :=
  let c5_i32_250 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v365 : BitVec 32 := Scalar.subi c5_i32_250 v2
  let c8_i32_251 : BitVec 32 := 8#32
  let v366 : BitVec 32 := Scalar.addi v365 c8_i32_251
  let c8_i32_252 : BitVec 32 := 8#32
  let v367 : BitVec 32 := Scalar.remsi v366 c8_i32_252
  let c0_i32_627 : BitVec 32 := 0#32
  let c0_i32_628 : BitVec 32 := 0#32
  ![v367.toNat, 0, 0]
def k0_dev13 : Nat :=
  let c0_i32_626 : BitVec 32 := 0#32
  let c5_i32_624 : BitVec 32 := 5#32
  let c1_i32_625 : BitVec 32 := 1#32
  let v725 : BitVec 32 := Scalar.muli c5_i32_624 c1_i32_625
  let v726 : BitVec 32 := Scalar.addi c0_i32_626 v725
  v726.toNat
def k0_cond7 (d0 : Dev nD) : BitVec 1 :=
  let c6_i32_255 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v371 : BitVec 32 := Scalar.subi c6_i32_255 v2
  let c8_i32_256 : BitVec 32 := 8#32
  let v372 : BitVec 32 := Scalar.addi v371 c8_i32_256
  let c8_i32_257 : BitVec 32 := 8#32
  let v373 : BitVec 32 := Scalar.remsi v372 c8_i32_257
  let c0_i32_258 : BitVec 32 := 0#32
  let v374 : BitVec 1 := Scalar.cmpi .ne v373 c0_i32_258
  let v375 : BitVec 32 := Scalar.extui v374
  let c0_i32_259 : BitVec 32 := 0#32
  let v376 : BitVec 1 := Scalar.cmpi .ne v375 c0_i32_259
  v376

def k0_off14 (d0 : Dev nD) : Fin 1 → Nat :=
  let c6_i32_255 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v371 : BitVec 32 := Scalar.subi c6_i32_255 v2
  let c8_i32_256 : BitVec 32 := 8#32
  let v372 : BitVec 32 := Scalar.addi v371 c8_i32_256
  let c8_i32_257 : BitVec 32 := 8#32
  let v373 : BitVec 32 := Scalar.remsi v372 c8_i32_257
  ![v373.toNat]
def k0_off15 (d0 : Dev nD) : Fin 3 → Nat :=
  let c6_i32_255 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v371 : BitVec 32 := Scalar.subi c6_i32_255 v2
  let c8_i32_256 : BitVec 32 := 8#32
  let v372 : BitVec 32 := Scalar.addi v371 c8_i32_256
  let c8_i32_257 : BitVec 32 := 8#32
  let v373 : BitVec 32 := Scalar.remsi v372 c8_i32_257
  let c0_i32_627 : BitVec 32 := 0#32
  let c0_i32_628 : BitVec 32 := 0#32
  ![v373.toNat, 0, 0]
def k0_dev14 : Nat :=
  let c0_i32_626 : BitVec 32 := 0#32
  let c6_i32_624 : BitVec 32 := 6#32
  let c1_i32_625 : BitVec 32 := 1#32
  let v725 : BitVec 32 := Scalar.muli c6_i32_624 c1_i32_625
  let v726 : BitVec 32 := Scalar.addi c0_i32_626 v725
  v726.toNat
def k0_cond8 (d0 : Dev nD) : BitVec 1 :=
  let c7_i32_260 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v377 : BitVec 32 := Scalar.subi c7_i32_260 v2
  let c8_i32_261 : BitVec 32 := 8#32
  let v378 : BitVec 32 := Scalar.addi v377 c8_i32_261
  let c8_i32_262 : BitVec 32 := 8#32
  let v379 : BitVec 32 := Scalar.remsi v378 c8_i32_262
  let c0_i32_263 : BitVec 32 := 0#32
  let v380 : BitVec 1 := Scalar.cmpi .ne v379 c0_i32_263
  let v381 : BitVec 32 := Scalar.extui v380
  let c0_i32_264 : BitVec 32 := 0#32
  let v382 : BitVec 1 := Scalar.cmpi .ne v381 c0_i32_264
  v382

def k0_off16 (d0 : Dev nD) : Fin 1 → Nat :=
  let c7_i32_260 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v377 : BitVec 32 := Scalar.subi c7_i32_260 v2
  let c8_i32_261 : BitVec 32 := 8#32
  let v378 : BitVec 32 := Scalar.addi v377 c8_i32_261
  let c8_i32_262 : BitVec 32 := 8#32
  let v379 : BitVec 32 := Scalar.remsi v378 c8_i32_262
  ![v379.toNat]
def k0_off17 (d0 : Dev nD) : Fin 3 → Nat :=
  let c7_i32_260 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v377 : BitVec 32 := Scalar.subi c7_i32_260 v2
  let c8_i32_261 : BitVec 32 := 8#32
  let v378 : BitVec 32 := Scalar.addi v377 c8_i32_261
  let c8_i32_262 : BitVec 32 := 8#32
  let v379 : BitVec 32 := Scalar.remsi v378 c8_i32_262
  let c0_i32_627 : BitVec 32 := 0#32
  let c0_i32_628 : BitVec 32 := 0#32
  ![v379.toNat, 0, 0]
def k0_dev15 : Nat :=
  let c0_i32_626 : BitVec 32 := 0#32
  let c7_i32_624 : BitVec 32 := 7#32
  let c1_i32_625 : BitVec 32 := 1#32
  let v725 : BitVec 32 := Scalar.muli c7_i32_624 c1_i32_625
  let v726 : BitVec 32 := Scalar.addi c0_i32_626 v725
  v726.toNat
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32 : BitVec 32 := 32#32
  let v432 : BitVec 32 := Scalar.muli v2 c32_i32
  let v433 : Index := Scalar.indexCast v432
  let c0_328 : Index := 0#32
  ![v433.toNat, 0]
def k0_off19 (d0 : Dev nD) : Fin 3 → Nat :=
  let c0_347 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_346 : BitVec 32 := 32#32
  let v464 : BitVec 32 := Scalar.muli v2 c32_i32_346
  let v465 : Index := Scalar.indexCast v464
  let c0_348 : Index := 0#32
  ![0, v465.toNat, 0]
def k0_dev16 (d0 : Dev nD) : Nat :=
  let c0_i32_357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_351 : BitVec 32 := 1#32
  let v473 : BitVec 32 := Scalar.addi v2 c1_i32_351
  let c8_i32_352 : BitVec 32 := 8#32
  let v474 : BitVec 32 := Scalar.remsi v473 c8_i32_352
  let c1_i32_356 : BitVec 32 := 1#32
  let v475 : BitVec 32 := Scalar.muli v474 c1_i32_356
  let v476 : BitVec 32 := Scalar.addi c0_i32_357 v475
  v476.toNat
def k0_dev17 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_360 : BitVec 32 := 2#32
  let v483 : BitVec 32 := Scalar.addi v2 c2_i32_360
  let c8_i32_361 : BitVec 32 := 8#32
  let v484 : BitVec 32 := Scalar.remsi v483 c8_i32_361
  let c1_i32_365 : BitVec 32 := 1#32
  let v485 : BitVec 32 := Scalar.muli v484 c1_i32_365
  let v486 : BitVec 32 := Scalar.addi c0_i32_366 v485
  v486.toNat
def k0_dev18 (d0 : Dev nD) : Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_369 : BitVec 32 := 3#32
  let v493 : BitVec 32 := Scalar.addi v2 c3_i32_369
  let c8_i32_370 : BitVec 32 := 8#32
  let v494 : BitVec 32 := Scalar.remsi v493 c8_i32_370
  let c1_i32_374 : BitVec 32 := 1#32
  let v495 : BitVec 32 := Scalar.muli v494 c1_i32_374
  let v496 : BitVec 32 := Scalar.addi c0_i32_375 v495
  v496.toNat
def k0_dev19 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_378 : BitVec 32 := 4#32
  let v503 : BitVec 32 := Scalar.addi v2 c4_i32_378
  let c8_i32_379 : BitVec 32 := 8#32
  let v504 : BitVec 32 := Scalar.remsi v503 c8_i32_379
  let c1_i32_383 : BitVec 32 := 1#32
  let v505 : BitVec 32 := Scalar.muli v504 c1_i32_383
  let v506 : BitVec 32 := Scalar.addi c0_i32_384 v505
  v506.toNat
def k0_dev20 (d0 : Dev nD) : Nat :=
  let c0_i32_393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_387 : BitVec 32 := 5#32
  let v513 : BitVec 32 := Scalar.addi v2 c5_i32_387
  let c8_i32_388 : BitVec 32 := 8#32
  let v514 : BitVec 32 := Scalar.remsi v513 c8_i32_388
  let c1_i32_392 : BitVec 32 := 1#32
  let v515 : BitVec 32 := Scalar.muli v514 c1_i32_392
  let v516 : BitVec 32 := Scalar.addi c0_i32_393 v515
  v516.toNat
def k0_dev21 (d0 : Dev nD) : Nat :=
  let c0_i32_402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_396 : BitVec 32 := 6#32
  let v523 : BitVec 32 := Scalar.addi v2 c6_i32_396
  let c8_i32_397 : BitVec 32 := 8#32
  let v524 : BitVec 32 := Scalar.remsi v523 c8_i32_397
  let c1_i32_401 : BitVec 32 := 1#32
  let v525 : BitVec 32 := Scalar.muli v524 c1_i32_401
  let v526 : BitVec 32 := Scalar.addi c0_i32_402 v525
  v526.toNat
def k0_dev22 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_405 : BitVec 32 := 7#32
  let v533 : BitVec 32 := Scalar.addi v2 c7_i32_405
  let c8_i32_406 : BitVec 32 := 8#32
  let v534 : BitVec 32 := Scalar.remsi v533 c8_i32_406
  let c1_i32_410 : BitVec 32 := 1#32
  let v535 : BitVec 32 := Scalar.muli v534 c1_i32_410
  let v536 : BitVec 32 := Scalar.addi c0_i32_411 v535
  v536.toNat
def k0_off20 (d0 : Dev nD) (c1_i32_477 : BitVec 32) : Fin 3 → Nat :=
  let c0_484 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v584 : BitVec 32 := Scalar.subi v2 c1_i32_477
  let c8_i32_478 : BitVec 32 := 8#32
  let v585 : BitVec 32 := Scalar.addi v584 c8_i32_478
  let c8_i32_479 : BitVec 32 := 8#32
  let v586 : BitVec 32 := Scalar.remsi v585 c8_i32_479
  let c32_i32_483 : BitVec 32 := 32#32
  let v590 : BitVec 32 := Scalar.muli v586 c32_i32_483
  let v591 : Index := Scalar.indexCast v590
  let c0_485 : Index := 0#32
  ![0, v591.toNat, 0]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1x256x1024 : Shape := ⟨3, ![1, 256, 1024]⟩
abbrev S1024x8192 : Shape := ⟨2, ![1024, 8192]⟩
abbrev S1x4096x16x128 : Shape := ⟨4, ![1, 4096, 16, 128]⟩
abbrev S8192x1024 : Shape := ⟨2, ![8192, 1024]⟩
abbrev S1x256x8192 : Shape := ⟨3, ![1, 256, 8192]⟩
abbrev S1x256x64x128 : Shape := ⟨4, ![1, 256, 64, 128]⟩
abbrev S1x4096x16x4x128 : Shape := ⟨5, ![1, 4096, 16, 4, 128]⟩
abbrev S1x4096x64x128 : Shape := ⟨4, ![1, 4096, 64, 128]⟩
abbrev S_ : Shape := ⟨0, ![]⟩
abbrev S1x64x256x1 : Shape := ⟨4, ![1, 64, 256, 1]⟩
abbrev S1x1024x64x128 : Shape := ⟨4, ![1, 1024, 64, 128]⟩
abbrev S1x64x256x1024 : Shape := ⟨4, ![1, 64, 256, 1024]⟩
abbrev S1x64x256 : Shape := ⟨3, ![1, 64, 256]⟩
abbrev S1x256x64x1 : Shape := ⟨4, ![1, 256, 64, 1]⟩
abbrev S1x64x128x256 : Shape := ⟨4, ![1, 64, 128, 256]⟩

abbrev nBuf : Space → Nat
  | .hbm => 126
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x8192, .f32⟩
  | .hbm, ⟨2, _⟩ => ⟨S1x4096x16x128, .f32⟩
  | .hbm, ⟨3, _⟩ => ⟨S1x4096x16x128, .f32⟩
  | .hbm, ⟨4, _⟩ => ⟨S8192x1024, .f32⟩
  | .hbm, ⟨5, _⟩ => ⟨S1x256x8192, .f32⟩
  | .hbm, ⟨6, _⟩ => ⟨S1x256x64x128, .f32⟩
  | .hbm, ⟨7, _⟩ => ⟨S1x4096x16x4x128, .f32⟩
  | .hbm, ⟨8, _⟩ => ⟨S1x4096x64x128, .f32⟩
  | .hbm, ⟨9, _⟩ => ⟨S1x4096x16x4x128, .f32⟩
  | .hbm, ⟨10, _⟩ => ⟨S1x4096x64x128, .f32⟩
  | .hbm, ⟨11, _⟩ => ⟨S_, .f32⟩
  | .hbm, ⟨12, _⟩ => ⟨S1x256x64x128, .f32⟩
  | .hbm, ⟨13, _⟩ => ⟨S_, .f32⟩
  | .hbm, ⟨14, _⟩ => ⟨S1x64x256x1, .f32⟩
  | .hbm, ⟨15, _⟩ => ⟨S_, .f32⟩
  | .hbm, ⟨16, _⟩ => ⟨S1x64x256x1, .f32⟩
  | .hbm, ⟨17, _⟩ => ⟨S1x1024x64x128, .f32⟩
  | .hbm, ⟨18, _⟩ => ⟨S1x1024x64x128, .f32⟩
  | .hbm, ⟨19, _⟩ => ⟨S1x64x256x1024, .f32⟩
  | .hbm, ⟨20, _⟩ => ⟨S_, .f32⟩
  | .hbm, ⟨21, _⟩ => ⟨S1x64x256x1024, .f32⟩
  | .hbm, ⟨22, _⟩ => ⟨S1x64x256x1024, .f32⟩
  | .hbm, ⟨23, _⟩ => ⟨S_, .f32⟩
  | .hbm, ⟨24, _⟩ => ⟨S1x64x256, .f32⟩
  | .hbm, ⟨25, _⟩ => ⟨S1x64x256x1, .f32⟩
  | .hbm, ⟨26, _⟩ => ⟨S1x64x256x1, .f32⟩
  | .hbm, ⟨27, _⟩ => ⟨S1x64x256x1, .f32⟩
  | .hbm, ⟨28, _⟩ => ⟨S1x64x256x1, .f32⟩
  | .hbm, ⟨29, _⟩ => ⟨S1x64x256x1024, .f32⟩
  | .hbm, ⟨30, _⟩ => ⟨S1x64x256x1024, .f32⟩
  | .hbm, ⟨31, _⟩ => ⟨S1x64x256x1024, .f32⟩
  | .hbm, ⟨32, _⟩ => ⟨S1x64x256x1, .f32⟩
  | .hbm, ⟨33, _⟩ => ⟨S_, .f32⟩
  | .hbm, ⟨34, _⟩ => ⟨S1x64x256, .f32⟩
  | .hbm, ⟨35, _⟩ => ⟨S1x64x256x1, .f32⟩
  | .hbm, ⟨36, _⟩ => ⟨S1x64x256x1, .f32⟩
  | .hbm, ⟨37, _⟩ => ⟨S1x256x64x1, .f32⟩
  | .hbm, ⟨38, _⟩ => ⟨S1x256x64x128, .f32⟩
  | .hbm, ⟨39, _⟩ => ⟨S1x256x64x128, .f32⟩
  | .hbm, ⟨40, _⟩ => ⟨S1x64x128x256, .f32⟩
  | .hbm, ⟨41, _⟩ => ⟨S1x256x64x128, .f32⟩
  | .hbm, ⟨42, _⟩ => ⟨S1x256x64x128, .f32⟩
  | .hbm, ⟨43, _⟩ => ⟨S1x1024x64x128, .f32⟩
  | .hbm, ⟨44, _⟩ => ⟨S1x1024x64x128, .f32⟩
  | .hbm, ⟨45, _⟩ => ⟨S1x64x256x1024, .f32⟩
  | .hbm, ⟨46, _⟩ => ⟨S_, .f32⟩
  | .hbm, ⟨47, _⟩ => ⟨S1x64x256x1024, .f32⟩
  | .hbm, ⟨48, _⟩ => ⟨S1x64x256x1024, .f32⟩
  | .hbm, ⟨49, _⟩ => ⟨S_, .f32⟩
  | .hbm, ⟨50, _⟩ => ⟨S1x64x256, .f32⟩
  | .hbm, ⟨51, _⟩ => ⟨S1x64x256x1, .f32⟩
  | .hbm, ⟨52, _⟩ => ⟨S1x64x256x1, .f32⟩
  | .hbm, ⟨53, _⟩ => ⟨S1x64x256x1, .f32⟩
  | .hbm, ⟨54, _⟩ => ⟨S1x64x256x1, .f32⟩
  | .hbm, ⟨55, _⟩ => ⟨S1x64x256x1024, .f32⟩
  | .hbm, ⟨56, _⟩ => ⟨S1x64x256x1024, .f32⟩
  | .hbm, ⟨57, _⟩ => ⟨S1x64x256x1024, .f32⟩
  | .hbm, ⟨58, _⟩ => ⟨S1x64x256x1, .f32⟩
  | .hbm, ⟨59, _⟩ => ⟨S_, .f32⟩
  | .hbm, ⟨60, _⟩ => ⟨S1x64x256, .f32⟩
  | .hbm, ⟨61, _⟩ => ⟨S1x64x256x1, .f32⟩
  | .hbm, ⟨62, _⟩ => ⟨S1x64x256x1, .f32⟩
  | .hbm, ⟨63, _⟩ => ⟨S1x256x64x1, .f32⟩
  | .hbm, ⟨64, _⟩ => ⟨S1x256x64x128, .f32⟩
  | .hbm, ⟨65, _⟩ => ⟨S1x256x64x128, .f32⟩
  | .hbm, ⟨66, _⟩ => ⟨S1x64x128x256, .f32⟩
  | .hbm, ⟨67, _⟩ => ⟨S1x256x64x128, .f32⟩
  | .hbm, ⟨68, _⟩ => ⟨S1x256x64x128, .f32⟩
  | .hbm, ⟨69, _⟩ => ⟨S1x1024x64x128, .f32⟩
  | .hbm, ⟨70, _⟩ => ⟨S1x1024x64x128, .f32⟩
  | .hbm, ⟨71, _⟩ => ⟨S1x64x256x1024, .f32⟩
  | .hbm, ⟨72, _⟩ => ⟨S_, .f32⟩
  | .hbm, ⟨73, _⟩ => ⟨S1x64x256x1024, .f32⟩
  | .hbm, ⟨74, _⟩ => ⟨S1x64x256x1024, .f32⟩
  | .hbm, ⟨75, _⟩ => ⟨S_, .f32⟩
  | .hbm, ⟨76, _⟩ => ⟨S1x64x256, .f32⟩
  | .hbm, ⟨77, _⟩ => ⟨S1x64x256x1, .f32⟩
  | .hbm, ⟨78, _⟩ => ⟨S1x64x256x1, .f32⟩
  | .hbm, ⟨79, _⟩ => ⟨S1x64x256x1, .f32⟩
  | .hbm, ⟨80, _⟩ => ⟨S1x64x256x1, .f32⟩
  | .hbm, ⟨81, _⟩ => ⟨S1x64x256x1024, .f32⟩
  | .hbm, ⟨82, _⟩ => ⟨S1x64x256x1024, .f32⟩
  | .hbm, ⟨83, _⟩ => ⟨S1x64x256x1024, .f32⟩
  | .hbm, ⟨84, _⟩ => ⟨S1x64x256x1, .f32⟩
  | .hbm, ⟨85, _⟩ => ⟨S_, .f32⟩
  | .hbm, ⟨86, _⟩ => ⟨S1x64x256, .f32⟩
  | .hbm, ⟨87, _⟩ => ⟨S1x64x256x1, .f32⟩
  | .hbm, ⟨88, _⟩ => ⟨S1x64x256x1, .f32⟩
  | .hbm, ⟨89, _⟩ => ⟨S1x256x64x1, .f32⟩
  | .hbm, ⟨90, _⟩ => ⟨S1x256x64x128, .f32⟩
  | .hbm, ⟨91, _⟩ => ⟨S1x256x64x128, .f32⟩
  | .hbm, ⟨92, _⟩ => ⟨S1x64x128x256, .f32⟩
  | .hbm, ⟨93, _⟩ => ⟨S1x256x64x128, .f32⟩
  | .hbm, ⟨94, _⟩ => ⟨S1x256x64x128, .f32⟩
  | .hbm, ⟨95, _⟩ => ⟨S1x1024x64x128, .f32⟩
  | .hbm, ⟨96, _⟩ => ⟨S1x1024x64x128, .f32⟩
  | .hbm, ⟨97, _⟩ => ⟨S1x64x256x1024, .f32⟩
  | .hbm, ⟨98, _⟩ => ⟨S_, .f32⟩
  | .hbm, ⟨99, _⟩ => ⟨S1x64x256x1024, .f32⟩
  | .hbm, ⟨100, _⟩ => ⟨S1x64x256x1024, .f32⟩
  | .hbm, ⟨101, _⟩ => ⟨S_, .f32⟩
  | .hbm, ⟨102, _⟩ => ⟨S1x64x256, .f32⟩
  | .hbm, ⟨103, _⟩ => ⟨S1x64x256x1, .f32⟩
  | .hbm, ⟨104, _⟩ => ⟨S1x64x256x1, .f32⟩
  | .hbm, ⟨105, _⟩ => ⟨S1x64x256x1, .f32⟩
  | .hbm, ⟨106, _⟩ => ⟨S1x64x256x1, .f32⟩
  | .hbm, ⟨107, _⟩ => ⟨S1x64x256x1024, .f32⟩
  | .hbm, ⟨108, _⟩ => ⟨S1x64x256x1024, .f32⟩
  | .hbm, ⟨109, _⟩ => ⟨S1x64x256x1024, .f32⟩
  | .hbm, ⟨110, _⟩ => ⟨S1x64x256x1, .f32⟩
  | .hbm, ⟨111, _⟩ => ⟨S_, .f32⟩
  | .hbm, ⟨112, _⟩ => ⟨S1x64x256, .f32⟩
  | .hbm, ⟨113, _⟩ => ⟨S1x64x256x1, .f32⟩
  | .hbm, ⟨114, _⟩ => ⟨S1x64x256x1, .f32⟩
  | .hbm, ⟨115, _⟩ => ⟨S1x256x64x1, .f32⟩
  | .hbm, ⟨116, _⟩ => ⟨S1x256x64x128, .f32⟩
  | .hbm, ⟨117, _⟩ => ⟨S1x256x64x128, .f32⟩
  | .hbm, ⟨118, _⟩ => ⟨S1x64x128x256, .f32⟩
  | .hbm, ⟨119, _⟩ => ⟨S1x256x64x128, .f32⟩
  | .hbm, ⟨120, _⟩ => ⟨S1x256x64x128, .f32⟩
  | .hbm, ⟨121, _⟩ => ⟨S1x256x64x1, .f32⟩
  | .hbm, ⟨122, _⟩ => ⟨S1x256x64x128, .f32⟩
  | .hbm, ⟨123, _⟩ => ⟨S1x256x64x128, .f32⟩
  | .hbm, ⟨124, _⟩ => ⟨S1x256x8192, .f32⟩
  | .hbm, ⟨125, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_10 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_11 : Ref sig .tc := ⟨.hbm, 98, rfl⟩
abbrev main_v81 : Ref sig .tc := ⟨.hbm, 99, rfl⟩
abbrev main_v82 : Ref sig .tc := ⟨.hbm, 100, rfl⟩
abbrev main_cst_12 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_13 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩

abbrev nD : Nat := 1
abbrev τ : Topo := Topo.v7x

variable {F : FTy → Type} [FloatOps F]
-- ==== Proof.Cells.lean ====
/-
The protocol of the tensor-parallel attention kernel: the ring of eight devices, the buffers' pieces, the semaphore cells, the
contents that each landing hands over, the schedule of payments and what each device owes at launch.

A step is numbered by `u : Fin 7`: it joins device c with the device `up c u`, which is u + 1 places after it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's component, the protocol's and the local transfers' counters -/

abbrev UB : Type := URounds (GSem nD τ sig) (Fin 7)
abbrev UC : Type := UB × Counters
abbrev UU : Type := UR sig nD τ × UC

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB UC).trans embR
abbrev EC : UEmb Counters (MT nD τ sig Unit (Elt F) ℕ UU ℕ) := countersEmb

/-! ## The devices around the ring -/

/-- The device u + 1 places after c, -/
def up (c : Dev nD) (u : Fin 7) : Dev nD := ⟨(c.val + u.val + 1) % 8, Nat.mod_lt _ (by decide)⟩
/-- and the one u + 1 places before it. -/
def dn (c : Dev nD) (u : Fin 7) : Dev nD := ⟨(c.val + 7 - u.val) % 8, Nat.mod_lt _ (by decide)⟩
/-- The step that leads back: 8 - (u + 1) places. -/
def rev (u : Fin 7) : Fin 7 := ⟨6 - u.val, by omega⟩
/-- The step from c to another device j. -/
def stepTo (c j : Dev nD) : Fin 7 := ⟨(j.val + 7 - c.val) % 8 % 7, Nat.mod_lt _ (by decide)⟩

theorem dn_up (c : Dev nD) (u : Fin 7) : dn (up c u) u = c := by revert c u; decide
theorem up_dn (c : Dev nD) (u : Fin 7) : up (dn c u) u = c := by revert c u; decide
theorem up_rev (c : Dev nD) (u : Fin 7) : up c (rev u) = dn c u := by revert c u; decide
theorem rev_rev (u : Fin 7) : rev (rev u) = u := by revert u; decide
theorem up_ne (c : Dev nD) (u : Fin 7) : up c u ≠ c := by revert c u; decide
theorem stepTo_up (c : Dev nD) (u : Fin 7) : stepTo c (up c u) = u := by revert c u; decide
theorem up_stepTo (c j : Dev nD) (h : j ≠ c) : up c (stepTo c j) = j := by revert c j; decide

def ring (u : Fin 7) : Dev nD ≃ Dev nD := ⟨fun c => up c u, fun c => dn c u, fun c => dn_up c u, fun c => up_dn c u⟩
def revE : Fin 7 ≃ Fin 7 := ⟨rev, rev, rev_rev, rev_rev⟩

/-! ## The buffers and their pieces -/

abbrev xM : Memref sig .tc .vmem S1x256x1024 .f32 := Memref.whole cc0_stg0_0
abbrev oM : Memref sig .tc .vmem S1x256x1024 .f32 := Memref.whole cc0_stg1_0
abbrev wqH : Memref sig .tc .hbm S1024x1024 .f32 := Memref.whole main_arg1
abbrev woH : Memref sig .tc .hbm S1024x1024 .f32 := Memref.whole main_arg4
abbrev kH : Memref sig .tc .hbm S1x4096x16x128 .f32 := Memref.whole main_arg2
abbrev vH : Memref sig .tc .hbm S1x4096x16x128 .f32 := Memref.whole main_arg3
abbrev kM : Memref sig .tc .vmem S2x4096x128 .f32 := Memref.whole cc0_scratch0
abbrev vM : Memref sig .tc .vmem S2x4096x128 .f32 := Memref.whole cc0_scratch1
abbrev wqM : Memref sig .tc .vmem S4x1024x256 .f32 := Memref.whole cc0_scratch2
abbrev woM : Memref sig .tc .vmem S1024x1024 .f32 := Memref.whole cc0_scratch3
abbrev pM : Memref sig .tc .vmem S256x1024 .bf16 := Memref.whole cc0_scratch4
abbrev rsM : Memref sig .tc .vmem S8x32x1024 .bf16 := Memref.whole cc0_scratch5
abbrev asM : Memref sig .tc .vmem S32x1024 .bf16 := Memref.whole cc0_scratch6
abbrev agM : Memref sig .tc .vmem S8x32x1024 .bf16 := Memref.whole cc0_scratch7

theorem inb_wq (g : Fin 4) : ∀ a, (![g.val, 0, 0] : Fin 3 → Nat) a + S1x1024x256.size a ≤ S4x1024x256.size a := by revert g; decide
theorem inb_kv (g : Fin 2) : ∀ a, (![g.val, 0, 0] : Fin 3 → Nat) a + S1x4096x128.size a ≤ S2x4096x128.size a := by revert g; decide
theorem inb_slot (k : Fin 8) : ∀ a, (![k.val, 0, 0] : Fin 3 → Nat) a + S1x32x1024.size a ≤ S8x32x1024.size a := by revert k; decide
theorem inb_chunk (j : Dev nD) : ∀ a, (![32 * j.val, 0] : Fin 2 → Nat) a + S32x1024.size a ≤ S256x1024.size a := by revert j; decide
theorem inb_col (g : Fin 4) : ∀ a, (![0, 256 * g.val] : Fin 2 → Nat) a + S1024x256.size a ≤ S1024x1024.size a := by revert g; decide

abbrev wqR (g : Fin 4) : Rect S4x1024x256 := Rect.unit (s := S4x1024x256) ![g.val, 0, 0] S1x1024x256.size (inb_wq g)
abbrev kvR (g : Fin 2) : Rect S2x4096x128 := Rect.unit (s := S2x4096x128) ![g.val, 0, 0] S1x4096x128.size (inb_kv g)
abbrev slotR (k : Fin 8) : Rect S8x32x1024 := Rect.unit (s := S8x32x1024) ![k.val, 0, 0] S1x32x1024.size (inb_slot k)
abbrev chunkR (j : Dev nD) : Rect S256x1024 := Rect.unit (s := S256x1024) ![32 * j.val, 0] S32x1024.size (inb_chunk j)
abbrev colR (g : Fin 4) : Rect S1024x1024 := Rect.unit (s := S1024x1024) ![0, 256 * g.val] S1024x256.size (inb_col g)
abbrev headR (c : Dev nD) (g : Fin 2) : Rect S1x4096x16x128 :=
  Rect.unit (s := S1x4096x16x128) (k0_off1 c (BitVec.ofNat 32 g.val)) S1x4096x1x128.size (k0_off1_inb c g)

abbrev wqSlot (g : Fin 4) : Memref sig .tc .vmem S1024x256 .f32 := (wqM.slice (wqR g) (fun _ => rfl)).squeeze S1024x256 squeezes_S1x1024x256_S1024x256
abbrev wqCol (g : Fin 4) : Memref sig .tc .hbm S1024x256 .f32 := wqH.slice (colR g) (fun _ => rfl)
abbrev kSlot (g : Fin 2) : Memref sig .tc .vmem S4096x128 .f32 := (kM.slice (kvR g) (fun _ => rfl)).squeeze S4096x128 squeezes_S1x4096x128_S4096x128
abbrev vSlot (g : Fin 2) : Memref sig .tc .vmem S4096x128 .f32 := (vM.slice (kvR g) (fun _ => rfl)).squeeze S4096x128 squeezes_S1x4096x128_S4096x128
abbrev kHead (c : Dev nD) (g : Fin 2) : Memref sig .tc .hbm S4096x128 .f32 := (kH.slice (headR c g) (fun _ => rfl)).squeeze S4096x128 squeezes_S1x4096x1x128_S4096x128
abbrev vHead (c : Dev nD) (g : Fin 2) : Memref sig .tc .hbm S4096x128 .f32 := (vH.slice (headR c g) (fun _ => rfl)).squeeze S4096x128 squeezes_S1x4096x1x128_S4096x128
abbrev rsSlot (k : Fin 8) : Memref sig .tc .vmem S32x1024 .bf16 := (rsM.slice (slotR k) (fun _ => rfl)).squeeze S32x1024 squeezes_S1x32x1024_S32x1024
abbrev agSlot (k : Fin 8) : Memref sig .tc .vmem S32x1024 .bf16 := (agM.slice (slotR k) (fun _ => rfl)).squeeze S32x1024 squeezes_S1x32x1024_S32x1024
abbrev pChunk (j : Dev nD) : Memref sig .tc .vmem S32x1024 .bf16 := pM.slice (chunkR j) (fun _ => rfl)

/-! ## The cells -/

/-- The barrier semaphore of the launch: the runtime's, one a TensorCore. -/
abbrev barS : Sem sig := (SemArray.scalar (sig.barrier 0 rfl) : Sems sig S_).sem
/-- The transfers' semaphores by family (0: the scatter's sends, 1: its receives, 2: the gather's sends, 3: its receives) and step. -/
def dsem (f : Fin 4) (u : Fin 7) : DmaSem sig := ⟨12 + 8 * f.val + u.val, by have := f.isLt; have := u.isLt; show _ < 43; omega⟩

/-- The protocol's cells on one device: the barrier's and a transfer semaphore for each family and step. -/
abbrev CI : Type := Option (Fin 4 × Fin 7)
def csem : CI → SemLoc sig
  | none => .reg barS
  | some (f, u) => .dma (dsem f u)

theorem csem_injective : Function.Injective csem := by
  rintro (_ | ⟨f, u⟩) (_ | ⟨f', u'⟩) h
  · rfl
  · cases h
  · cases h
  · have h1 : dsem f u = dsem f' u' := by injection h
    have h2 : 12 + 8 * f.val + u.val = 12 + 8 * f'.val + u'.val := congrArg Fin.val h1
    have hu := u.isLt; have hu' := u'.isLt
    have e1 : f = f' := Fin.ext (by omega)
    have e2 : u = u' := Fin.ext (by omega)
    subst e1; subst e2; rfl

/-- Which of the protocol's cells a semaphore is, if any. -/
def cls (s : SemLoc sig) : Option CI := Function.partialInv csem s
theorem cls_csem (i : CI) : cls (csem i) = some i := Function.partialInv_left csem_injective i
theorem csem_of_cls {s : SemLoc sig} {i : CI} (h : cls s = some i) : csem i = s :=
  (Function.partialInv_of_injective csem_injective i s).mp h

abbrev kcell (ci : Dev nD × CI) : GSem nD τ sig := ((ci.1 : Thread nD τ), csem ci.2)
abbrev barCell (c : Dev nD) : GSem nD τ sig := ((c : Thread nD τ), .reg barS)
abbrev xCell (f : Fin 4) (c : Dev nD) (u : Fin 7) : GSem nD τ sig := ((c : Thread nD τ), .dma (dsem f u))

/-- What one 32-row block credits a transfer semaphore with. -/
abbrev N : ℕ := asM.view.dmaCredit
theorem N_pos : 0 < N := View.dmaCredit_pos _ (by decide)

end Cert.KernelIdeal.Own
-- ==== Proof.Contents.lean ====
/-
What each buffer of the kernel holds, as functions of the launch memory alone: the blocks that the local copies bring in, the
device's partial product `pC`, the blocks that its neighbours' partial products land in, the reduced rows and the result.
A piece that a copy fills is described by the write that the copy makes; what the piece held before is of no account, so the
launch contents stand in for it.
-/
module

public import proofs.«01_k».proof.Proof.Cells

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The inputs -/

/-- The staged block of x. -/
def xC (c : Dev nD) : (cc0_stg0_0 : Ref sig .tc).ty.Contents (Elt F) := (win0_0.blk (0 : Fin 1)).view.read (Elt F) (m ((c : Thread nD τ).loc main_arg0))
/-- The copies of the weights' columns, of the two heads of keys and values, of the output weights. -/
def wqC (c : Dev nD) (g : Fin 4) : Buf (Elt F) ((c : Thread nD τ).loc cc0_scratch2) :=
  (wqSlot g).view.write (Elt F) (m ((c : Thread nD τ).loc cc0_scratch2)) ((wqCol g).view.read (Elt F) (m ((c : Thread nD τ).loc main_arg1))) Finset.univ
def kC (c : Dev nD) (g : Fin 2) : Buf (Elt F) ((c : Thread nD τ).loc cc0_scratch0) :=
  (kSlot g).view.write (Elt F) (m ((c : Thread nD τ).loc cc0_scratch0)) ((kHead c g).view.read (Elt F) (m ((c : Thread nD τ).loc main_arg2))) Finset.univ
def vC (c : Dev nD) (g : Fin 2) : Buf (Elt F) ((c : Thread nD τ).loc cc0_scratch1) :=
  (vSlot g).view.write (Elt F) (m ((c : Thread nD τ).loc cc0_scratch1)) ((vHead c g).view.read (Elt F) (m ((c : Thread nD τ).loc main_arg3))) Finset.univ
def woC (c : Dev nD) : Buf (Elt F) ((c : Thread nD τ).loc cc0_scratch3) :=
  woM.view.write (Elt F) (m ((c : Thread nD τ).loc cc0_scratch3)) (woH.view.read (Elt F) (m ((c : Thread nD τ).loc main_arg4))) Finset.univ

/-! ## What the kernel loads of them -/

abbrev xR : Rect S1x256x1024 := Rect.unit (s := S1x256x1024) ![0, 0, 0] S1x256x1024.size inb_S1x256x1024_S1x256x1024_0_0_0
abbrev woR : Rect S1024x1024 := Rect.unit (s := S1024x1024) ![0, 0] S1024x1024.size inb_S1024x1024_S1024x1024_0_0

def xv (c : Dev nD) : Vec F S1x256x1024 .f32 := xM.view.readAt (Elt F) xR.toLoadRect (xC m c)
def wqv (c : Dev nD) (g : Fin 4) : Vec F S1x1024x256 .f32 := wqM.view.readAt (Elt F) (wqR g).toLoadRect (wqC m c g)
def kv (c : Dev nD) (g : Fin 2) : Vec F S1x4096x128 .f32 := kM.view.readAt (Elt F) (kvR g).toLoadRect (kC m c g)
def vv (c : Dev nD) (g : Fin 2) : Vec F S1x4096x128 .f32 := vM.view.readAt (Elt F) (kvR g).toLoadRect (vC m c g)
def wov (c : Dev nD) : Vec F S1024x1024 .f32 := woM.view.readAt (Elt F) woR.toLoadRect (woC m c)

/-! ## The partial product -/

def xB (c : Dev nD) : FVec F S256x1024 .bf16 := k0_pay1 (xv m c)
def q0 (c : Dev nD) : FVec F S256x256 .bf16 := k0_pay2 (xv m c) (wqv m c 0)
def q1 (c : Dev nD) : FVec F S256x256 .bf16 := k0_pay3 (xB m c) (wqv m c 1)
def q2 (c : Dev nD) : FVec F S256x256 .bf16 := k0_pay4 (xB m c) (wqv m c 2)
def w3 (c : Dev nD) : FVec F S1024x256 .bf16 := k0_pay5 (wqv m c 3)
def q3 (c : Dev nD) : FVec F S256x256 .bf16 := k0_pay6 (xB m c) (w3 m c)
def k0B (c : Dev nD) : FVec F S4096x128 .bf16 := k0_pay7 (kv m c 0)
def k1B (c : Dev nD) : FVec F S4096x128 .bf16 := k0_pay8 (kv m c 1)
def v0B (c : Dev nD) : FVec F S4096x128 .bf16 := k0_pay9 (vv m c 0)
def v1B (c : Dev nD) : FVec F S4096x128 .bf16 := k0_pay10 (vv m c 1)
def woB (c : Dev nD) : FVec F S1024x1024 .bf16 := k0_pay11 (wov m c)
def zS : FVec F S128x4096 .f32 := constant S128x4096 .f32 0x00000000#32

/-- The upper 128 rows of the device's partial product, -/
def pTop (c : Dev nD) : FVec F S128x1024 .bf16 :=
  k0_pay21 (k1B m c) (v1B m c) (woB m c) (k0_pay12 (q0 m c) (kv m c 0) (vv m c 0)) (k0_pay13 (q0 m c) (kv m c 0) (vv m c 0))
    (k0_pay15 (k0B m c) (v0B m c) (k0_pay14 (q1 m c)) zS) (k0_pay16 (q1 m c) (k0B m c) (v0B m c)) (k0_pay17 (q2 m c) (k1B m c) (v1B m c))
    (k0_pay18 (q2 m c) (k1B m c) (v1B m c)) (k0_pay19 (q3 m c) (k1B m c) (v1B m c)) (k0_pay20 (q3 m c)) zS
/-- and the lower 128. -/
def pBot (c : Dev nD) : FVec F S128x1024 .bf16 :=
  k0_pay27 (q2 m c) (q3 m c) (k1B m c) (v1B m c) (woB m c) (k0_pay22 (q0 m c) (k0B m c) (v0B m c)) (k0_pay23 (q0 m c) (k0B m c) (v0B m c))
    (k0_pay24 (q1 m c) (k0B m c) (v0B m c)) (k0_pay25 (q1 m c) (k0B m c) (v0B m c)) (k0_pay26 (q2 m c) (k1B m c))

abbrev topR : Rect S256x1024 := Rect.unit (s := S256x1024) ![0, 0] S128x1024.size inb_S256x1024_S128x1024_0_0
abbrev botR : Rect S256x1024 := Rect.unit (s := S256x1024) ![128, 0] S128x1024.size inb_S256x1024_S128x1024_128_0

/-- The partial product's buffer, both stores made. -/
def pC (c : Dev nD) : Buf (Elt F) ((c : Thread nD τ).loc cc0_scratch4) :=
  (pM.access botR).write (Elt F) ((pM.access topR).write (Elt F) (m ((c : Thread nD τ).loc cc0_scratch4)) (pTop m c) Finset.univ) (pBot m c) Finset.univ

/-! ## The scatter -/

/-- What lands in slot u + 1 of device c: the rows of c out of the partial product of the device u + 1 places before it. -/
def rsC (c : Dev nD) (u : Fin 7) : Buf (Elt F) ((c : Thread nD τ).loc cc0_scratch5) :=
  (rsSlot u.succ).view.write (Elt F) (m ((c : Thread nD τ).loc cc0_scratch5)) ((pChunk c).view.read (Elt F) (pC m (dn c u))) Finset.univ
def rsv (c : Dev nD) (u : Fin 7) : Vec F S1x32x1024 .bf16 := rsM.view.readAt (Elt F) (slotR u.succ).toLoadRect (rsC m c u)
/-- The device's own rows of its own partial product. -/
abbrev ownR (c : Dev nD) : Rect S256x1024 := Rect.unit (s := S256x1024) (k0_off18 c) S32x1024.size (k0_off18_inb c)
def pv (c : Dev nD) : Vec F S32x1024 .bf16 := pM.view.readAt (Elt F) (ownR c).toLoadRect (pC m c)
def sum1 (c : Dev nD) : FVec F S32x1024 .f32 := k0_pay28 (pv m c) (rsv m c 0)

/-- The reduced rows, as the device stores them in its result and as it sends them. -/
def redF (c : Dev nD) : FVec F S1x32x1024 .f32 := k0_pay30 (sum1 m c) (rsv m c 1) (rsv m c 2) (rsv m c 3) (rsv m c 4) (rsv m c 5) (rsv m c 6)
def redB (c : Dev nD) : FVec F S32x1024 .bf16 := k0_pay31 (sum1 m c) (rsv m c 1) (rsv m c 2) (rsv m c 3) (rsv m c 4) (rsv m c 5) (rsv m c 6)

/-! ## The gather -/

abbrev asR : Rect S32x1024 := Rect.unit (s := S32x1024) ![0, 0] S32x1024.size inb_S32x1024_S32x1024_0_0
def asC (c : Dev nD) : Buf (Elt F) ((c : Thread nD τ).loc cc0_scratch6) :=
  (asM.access asR).write (Elt F) (m ((c : Thread nD τ).loc cc0_scratch6)) (redB m c) Finset.univ
def agC (c : Dev nD) (u : Fin 7) : Buf (Elt F) ((c : Thread nD τ).loc cc0_scratch7) :=
  (agSlot u.succ).view.write (Elt F) (m ((c : Thread nD τ).loc cc0_scratch7)) (asM.view.read (Elt F) (asC m (dn c u))) Finset.univ
def agv (c : Dev nD) (u : Fin 7) : Vec F S1x32x1024 .bf16 := agM.view.readAt (Elt F) (slotR u.succ).toLoadRect (agC m c u)

/-! ## The result -/

abbrev ownO (c : Dev nD) : Rect S1x256x1024 := Rect.unit (s := S1x256x1024) (k0_off19 c) S1x32x1024.size (k0_off19_inb c)
abbrev othO (c : Dev nD) (u : Fin 7) : Rect S1x256x1024 :=
  Rect.unit (s := S1x256x1024) (k0_off20 c (BitVec.ofNat 32 (1 + u.val))) S1x32x1024.size (k0_off20_inb c u)

/-- What the device stores at the rows of the device u + 1 places before it. -/
def othF (c : Dev nD) (u : Fin 7) : FVec F S1x32x1024 .f32 := k0_pay32 (agv m c u)

abbrev OBuf (F : FTy → Type) : Type := (cc0_stg1_0 : Ref sig .tc).ty.Contents (Elt F)
def out0 (c : Dev nD) (f : OBuf F) : OBuf F := (oM.access (ownO c)).write (Elt F) f (redF m c) Finset.univ
def outS (c : Dev nD) (u : Fin 7) (f : OBuf F) : OBuf F := (oM.access (othO c u)).write (Elt F) f (othF m c u) Finset.univ
/-- The result's staging buffer after its eight stores, over any prior contents. -/
def outOver (c : Dev nD) (f : OBuf F) : OBuf F :=
  outS m c 6 (outS m c 5 (outS m c 4 (outS m c 3 (outS m c 2 (outS m c 1 (outS m c 0 (out0 m c f)))))))
def outC (c : Dev nD) : OBuf F := outOver m c (m ((c : Thread nD τ).loc cc0_stg1_0))

end Cert.KernelIdeal.Own
-- ==== Proof.Sched.lean ====
/-
The schedule of payments on the protocol's cells, each cell's one round: who pays what, and what the payment hands over. What
each device owes when the kernel starts, and the levels that order the waits.
-/
module

public import proofs.«01_k».proof.Proof.Contents

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The pieces held -/

/-- Slot k of the scatter's landing buffer of device c, of the gather's, a 32-row block of the partial product. -/
def rsPts (c : Dev nD) (k : Fin 8) (f : Buf (Elt F) ((c : Thread nD τ).loc cc0_scratch5)) : sProp 𝕄 :=
  (rsSlot k).view.loc (c : Thread nD τ) ↦[(rsSlot k).view.set]{fullShare} f
def agPts (c : Dev nD) (k : Fin 8) (f : Buf (Elt F) ((c : Thread nD τ).loc cc0_scratch7)) : sProp 𝕄 :=
  (agSlot k).view.loc (c : Thread nD τ) ↦[(agSlot k).view.set]{fullShare} f
def pPts (c j : Dev nD) (f : Buf (Elt F) ((c : Thread nD τ).loc cc0_scratch4)) : sProp 𝕄 :=
  (pChunk j).view.loc (c : Thread nD τ) ↦[(pChunk j).view.set]{fullShare} f
/-- The u-th read share of the reduced rows. -/
def asPts (c : Dev nD) (u : Fin 7) (f : Buf (Elt F) ((c : Thread nD τ).loc cc0_scratch6)) : sProp 𝕄 :=
  asM.view.loc (c : Thread nD τ) ↦[asM.view.set]{Transfers.shareTok fullShare 7 u} f

omit [FloatOps F] in
instance rsPts_storable (c : Dev nD) (k) (f) : BI.Storable (upEmb : UEmb _ 𝕄) (rsPts (F := F) c k f) := by unfold rsPts; infer_instance
omit [FloatOps F] in
instance agPts_storable (c : Dev nD) (k) (f) : BI.Storable (upEmb : UEmb _ 𝕄) (agPts (F := F) c k f) := by unfold agPts; infer_instance
omit [FloatOps F] in
instance pPts_storable (c j : Dev nD) (f) : BI.Storable (upEmb : UEmb _ 𝕄) (pPts (F := F) c j f) := by unfold pPts; infer_instance
omit [FloatOps F] in
instance asPts_storable (c : Dev nD) (u) (f) : BI.Storable (upEmb : UEmb _ 𝕄) (asPts (F := F) c u f) := by unfold asPts; infer_instance

/-- The two landing slots on device c of what the device reached back by step u sends it, at some contents. -/
def land (c : Dev nD) (u : Fin 7) : sProp 𝕄 := iprop((∃ f, rsPts (F := F) c u.succ f) ∗ ∃ f, agPts (F := F) c u.succ f)
omit [FloatOps F] in
instance land_storable (c : Dev nD) (u) : BI.Storable (upEmb : UEmb _ 𝕄) (land (F := F) c u) := by unfold land; infer_instance

/-! ## The payloads -/

/-- What the transfer cells hand over: a sent block of the partial product back, a landed block, a share of the reduced rows
    back, a landed block. -/
def xPay (f : Fin 4) (c : Dev nD) (u : Fin 7) : sProp 𝕄 :=
  match f with
  | 0 => pPts c (up c u) (pC m c)
  | 1 => rsPts c u.succ (rsC m c u)
  | 2 => asPts c u (asC m c)
  | 3 => agPts c u.succ (agC m c u)
instance xPay_storable (f : Fin 4) (c : Dev nD) (u) : BI.Storable (upEmb : UEmb _ 𝕄) (xPay m f c u) := by
  unfold xPay; split <;> infer_instance

/-- What a signal on the barrier cell of device c hands over, the signal being that of the device u + 1 places before it: the
    slots on that device that c's own transfers to it land in. -/
def barPay (c : Dev nD) (u : Fin 7) : sProp 𝕄 := land (F := F) (up c (rev u)) (rev u)
omit [FloatOps F] in
instance barPay_storable (c : Dev nD) (u) : BI.Storable (upEmb : UEmb _ 𝕄) (barPay (F := F) c u) := by unfold barPay; infer_instance

/-! ## The schedule -/

def Rd : Rounds.Schedule (GSem nD τ sig) (Fin 7) 𝕄 where
  duties g r := if r = 0 ∧ g.1.2 = .tc then (match cls g.2 with | none => ∅ | some none => Finset.univ | some (some _) => {0}) else ∅
  unitless _ := False
  amount g _ _ := match cls g.2 with | some none => 1 | _ => N
  payload g _ d := match cls g.2 with
    | none => iprop(emp)
    | some none => barPay g.1.1 d
    | some (some (f, u)) => xPay m f g.1.1 u
  amount_pos g _ _ _ := by
    split
    · exact Nat.one_pos
    · exact N_pos

instance Rd_payload_storable (g : GSem nD τ sig) (r : ℕ) (d : Fin 7) : BI.Storable (upEmb : UEmb _ 𝕄) ((Rd (F := F) m).payload g r d) := by
  show BI.Storable upEmb (match cls g.2 with | none => iprop(emp) | some none => barPay g.1.1 d | some (some (f, u)) => xPay m f g.1.1 u)
  split <;> infer_instance

section Tables
variable (c : Dev nD) (u : Fin 7) (f : Fin 4)

theorem cls_bar : cls (.reg barS) = some none := cls_csem none
theorem cls_x : cls (.dma (dsem f u)) = some (some (f, u)) := cls_csem (some (f, u))

theorem duties_bar : (Rd (F := F) m).duties (barCell c) 0 = Finset.univ := by
  dsimp only [Rd]; rw [if_pos ⟨rfl, rfl⟩, cls_bar]
theorem duties_x : (Rd (F := F) m).duties (xCell f c u) 0 = {0} := by
  dsimp only [Rd]; rw [if_pos ⟨rfl, rfl⟩, cls_x]
theorem duties_later (g : GSem nD τ sig) : ∀ r, 1 ≤ r → (Rd (F := F) m).duties g r = ∅ := fun r hr => by
  dsimp only [Rd]; exact if_neg fun h => by omega
theorem amount_bar (d : Fin 7) : (Rd (F := F) m).amount (barCell c) 0 d = 1 := by dsimp only [Rd]; rw [cls_bar]
theorem amount_x (d : Fin 7) : (Rd (F := F) m).amount (xCell f c u) 0 d = N := by dsimp only [Rd]; rw [cls_x]
theorem expect_bar : (Rd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_x : (Rd (F := F) m).expect (xCell f c u) 0 = N := by
  unfold Schedule.expect Schedule.amountOf; rw [duties_x, Finset.sum_singleton, amount_x]
theorem payload_bar (d : Fin 7) : (Rd (F := F) m).payload (barCell c) 0 d = barPay c d := by dsimp only [Rd]; rw [cls_bar]
theorem payload_x (d : Fin 7) : (Rd (F := F) m).payload (xCell f c u) 0 d = xPay m f c u := by dsimp only [Rd]; rw [cls_x]

/-- All that the barrier cell's round hands over: for every step the slots at its far end. -/
theorem rest_bar : bigSep ((Rd (F := F) m).duties (barCell c) 0 \ ∅) (fun d => (Rd (F := F) m).payload (barCell c) 0 d)
    = bigSep Finset.univ fun u : Fin 7 => land (F := F) (up c u) u := by
  rw [Finset.sdiff_empty, duties_bar, bigSep_congr fun d _ => payload_bar m c d]
  exact (bigSep_univ_equiv revE fun u : Fin 7 => land (F := F) (up c u) u).symm
theorem rest_x : bigSep ((Rd (F := F) m).duties (xCell f c u) 0 \ ∅) (fun d => (Rd (F := F) m).payload (xCell f c u) 0 d) = xPay m f c u := by
  rw [Finset.sdiff_empty, duties_x, bigSep_singleton, payload_x]

end Tables

/-! ## What each device owes; the levels -/

/-- The gather's dues for the steps listed, -/
def OA (c : Dev nD) : List (Fin 7) → CellTallies nD τ sig Unit
  | [] => 0
  | u :: l => OA c l + tallyAt (xCell 3 (up c u) u) () N
abbrev OAll (c : Dev nD) : CellTallies nD τ sig Unit := OA c [0, 1, 2, 3, 4, 5, 6]
/-- the scatter's due to device j, -/
def TS (c j : Dev nD) : CellTallies nD τ sig Unit := if j = c then 0 else tallyAt (xCell 1 j (stepTo c j)) () N
/-- with the scatter's dues to the devices listed, -/
def OS (c : Dev nD) : List (Dev nD) → CellTallies nD τ sig Unit
  | [] => OAll c
  | j :: l => OS c l + TS c j
abbrev OSAll (c : Dev nD) : CellTallies nD τ sig Unit := OS c [0, 1, 2, 3, 4, 5, 6, 7]
/-- and with the barrier's for the steps listed. -/
def OB (c : Dev nD) : List (Fin 7) → CellTallies nD τ sig Unit
  | [] => OSAll c
  | u :: l => OB c l + tallyAt (barCell (up c u)) () 1
/-- All that device c owes at launch. -/
abbrev O₀ (c : Dev nD) : CellTallies nD τ sig Unit := OB c [0, 1, 2, 3, 4, 5, 6]

def L (g : GSem nD τ sig) : Finset Unit := if g.1.2 = .tc then {()} else ∅
/-- The barrier's cells at 1, the scatter's receives at 2, the gather's at 3, all other cells at 0. -/
def lv (g : GSem nD τ sig) (_ : Unit) : ℕ :=
  match cls g.2 with
  | some none => 1
  | some (some (1, _)) => 2
  | some (some (3, _)) => 3
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (i : Unit) : lv (barCell c) i = 1 := by unfold lv; rw [show (barCell c).2 = .reg barS from rfl, cls_bar]
theorem lv_x (f : Fin 4) (c : Dev nD) (u : Fin 7) (i : Unit) : lv (xCell f c u) i = (if f = 1 then 2 else if f = 3 then 3 else 0) := by
  unfold lv; rw [show (xCell f c u).2 = .dma (dsem f u) from rfl, cls_x]; fin_cases f <;> rfl

/-- Every due lies at level n or above, on a TensorCore's cell. -/
def Above (n : ℕ) (O : CellTallies nD τ sig Unit) : Prop := ∀ g i, 0 < O g i → g.1.2 = .tc ∧ n ≤ lv g i

theorem above_zero (n : ℕ) : Above n 0 := fun g i h => absurd h (Nat.lt_irrefl 0)
theorem above_add {n : ℕ} {O O' : CellTallies nD τ sig Unit} (h : Above n O) (h' : Above n O') : Above n (O + O') := fun g i hp => by
  rw [Pi.add_apply, Finsupp.add_apply] at hp
  rcases Nat.eq_zero_or_pos (O g i) with h0 | h0
  · exact h' g i (by omega)
  · exact h g i h0
theorem above_mono {n k : ℕ} {O : CellTallies nD τ sig Unit} (hk : k ≤ n) (h : Above n O) : Above k O := fun g i hp => ⟨(h g i hp).1, hk.trans (h g i hp).2⟩
theorem above_tallyAt {n k : ℕ} {c : Dev nD} {sm : SemLoc sig} (h : n ≤ lv ((c : Thread nD τ), sm) ()) : Above n (tallyAt ((c : Thread nD τ), sm) () k) := fun g i hp => by
  obtain ⟨rfl, rfl⟩ := Pipeline.tallyAt_pos hp; exact ⟨rfl, h⟩

theorem above_OA (c : Dev nD) : ∀ l, Above 3 (OA c l)
  | [] => above_zero 3
  | u :: l => above_add (above_OA c l) (above_tallyAt (le_of_eq (lv_x 3 (up c u) u ()).symm))
theorem above_OS (c : Dev nD) : ∀ l, Above 2 (OS c l)
  | [] => above_mono (by decide) (above_OA c _)
  | j :: l => above_add (above_OS c l) (by
      unfold TS; split
      · exact above_zero 2
      · exact above_tallyAt (le_of_eq (lv_x 1 j _ ()).symm))
theorem above_OB (c : Dev nD) : ∀ l, Above 1 (OB c l)
  | [] => above_mono (by decide) (above_OS c _)
  | u :: l => above_add (above_OB c l) (above_tallyAt (le_of_eq (lv_bar (up c u) ()).symm))

omit [FloatOps F] in
/-- A device may wait on a cell of its own that lies below all it owes. -/
theorem mayWait_of {c : Dev nD} {sm : SemLoc sig} {O : CellTallies nD τ sig Unit} {n : ℕ} (hs : lv ((c : Thread nD τ), sm) () ≤ n) (hO : Above (n + 1) O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g i hg => by unfold L; rw [if_pos (hO g i hg).1]; exact Finset.mem_singleton_self _)
    (fun p hp => by rw [Finset.mem_singleton.mp hp]; exact hs)
    (fun g i hg => (hO g i hg).2)

theorem lv_none (c : Dev nD) (q : DmaSem sig) (h : q.val < 12 ∨ ∃ u : Fin 7, q = dsem 0 u ∨ q = dsem 2 u) : lv ((c : Thread nD τ), .dma q) () = 0 := by
  rcases h with h | ⟨u, rfl | rfl⟩
  · unfold lv
    have hn : cls (SemLoc.dma q : SemLoc sig) = none := by
      rcases hc : cls (SemLoc.dma q : SemLoc sig) with _ | i
      · rfl
      have h1 := csem_of_cls hc
      rcases i with _ | ⟨f, u⟩
      · cases h1
      have h2 : dsem f u = q := by injection h1
      have h3 : 12 + 8 * f.val + u.val = q.val := congrArg Fin.val h2
      omega
    show (match cls (SemLoc.dma q : SemLoc sig) with | some none => 1 | some (some (1, _)) => 2 | some (some (3, _)) => 3 | _ => 0) = 0
    rw [hn]
  · exact lv_x 0 c u ()
  · exact lv_x 2 c u ()

end Cert.KernelIdeal.Own
-- ==== Proof.Steps.lean ====
/-
One effect of the kernel at a time: what a local copy, a signal, a transfer and each wait take and give, stated on the protocol's
cells and on what a device still owes.
-/
module

public import proofs.«01_k».proof.Proof.Sched

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none
abbrev Prg (F : FTy → Type) (α : Type) : Type 1 := Prog (TpuEff nD τ sig (Elt F) Λ₀ .tc) α
/-- The weakest precondition of a program on the TensorCore of device c. -/
abbrev WP {α : Type} (c : Dev nD) (p : Prg F α) (Q : α → sProp 𝕄) : sProp 𝕄 :=
  wp frame (wpE (defs₀ (F := F)) 𝒱₀ (c : Thread nD τ) none) Set.univ p Q

/-- What a device owes, whatever waits are on record. -/
def ow (c : Dev nD) (O : CellTallies nD τ sig Unit) : sProp 𝕄 := iprop(∃ W, owes (c : Thread nD τ) O W)

/-- Every cell's invariant, and that its round is reached. -/
def Recs (K : Dev nD × CI → ℕ) : sProp 𝕄 :=
  bigSep Finset.univ fun ci => iprop(cellInv ER (Rd m) (K ci) (kcell ci) ∗ reached ER (kcell ci) 0)
instance Recs_persistent (K) : BI.Persistent (Recs (F := F) m K) := by unfold Recs; infer_instance

variable (K : Dev nD × CI → ℕ)

theorem recs_at (ci : Dev nD × CI) : Recs (F := F) m K ⊢ iprop(cellInv ER (Rd m) (K ci) (kcell ci) ∗ reached ER (kcell ci) 0) := by
  unfold Recs; exact bigSep_elim (Finset.mem_univ ci)
theorem inv_at (ci : Dev nD × CI) : Recs (F := F) m K ⊢ cellInv ER (Rd m) (K ci) (kcell ci) := by
  iintro H; ihave H := (recs_at m K ci) $$ H; icases H with ⟨H, -⟩; iexact H
theorem reached_at (ci : Dev nD × CI) : Recs (F := F) m K ⊢ reached ER (kcell ci) 0 := by
  iintro H; ihave H := (recs_at m K ci) $$ H; icases H with ⟨-, H⟩; iexact H

/-! ## Local copies -/

section Local
variable {c : Dev nD} {sp sp' : Space} {s : Shape} {e : EltTy}

/-- A local copy put in flight; the contents `g` stand in for what the destination held. -/
theorem copy_start {src : Memref sig .tc sp s e} {dst : Memref sig .tc sp' s e} {sem : DmaSem sig} {hsrc : src.view.WordExact} {hdst : dst.view.WordExact}
    {hsem : DmaTarget.Typed (nD := nD) (τ := τ) (p := .tc) sp (.dma sem) (.here dst)} {α : Type} {Q : α → sProp 𝕄} {k : PUnit → Prg F α} {q : PosShare TreeShare} (fs : Buf (Elt F) (src.view.loc (c : Thread nD τ)))
    (g : Buf (Elt F) (dst.view.loc (c : Thread nD τ))) (hn : 0 < dst.view.dmaCredit) :
    iprop((src.view.loc (c : Thread nD τ) ↦[src.view.set]{q} fs) ∗ (∃ f, dst.view.loc (c : Thread nD τ) ↦[dst.view.set]{fullShare} f) ∗ semVal ((c : Thread nD τ), .dma sem) 0)
      ⊢ iprop((Transfers.Flight EC (c : Thread nD τ) (.dma sem) () dst.view.dmaCredit
            iprop((dst.view.loc (c : Thread nD τ) ↦[dst.view.set]{fullShare} (dst.view.write (Elt F) g (src.view.read (Elt F) fs) Finset.univ))
              ∗ (src.view.loc (c : Thread nD τ) ↦[src.view.set]{q} fs)) -∗ WP c (k ⟨⟩) Q)
          -∗ WP c (Prog.op (.enqueueDma src (.here dst) (.dma sem) hsrc hdst hsem) k) Q) := by
  iintro ⟨Hs, ⟨%f, Hd⟩, Hv⟩ Hk
  iapply (Transfers.wp_dmaLocal EC 𝒱₀ (c : Thread nD τ) none () dst.view.dmaCredit rfl hn subset_rfl) $$ [Hs Hd Hv]
  · isplitl [Hs]; · iexact Hs
    isplitl [Hd]; · iexact Hd
    iexact Hv
  iintro HF
  iapply Hk
  rw [View.pointsTo_write_univ_congr (c := (c : Thread nD τ)) dst.view fullShare g f]
  iexact HF

/-- And waited for, below all that the device owes. -/
theorem copy_wait {src : Memref sig .tc sp s e} {dst : Memref sig .tc sp' s e} {sem : DmaSem sig} {hsrc : src.view.WordExact} {hdst : dst.view.WordExact}
    {α : Type} {Q : α → sProp 𝕄} {k : PUnit → Prg F α} {D : sProp 𝕄} {O : CellTallies nD τ sig Unit} (hq : sem.val < 12) (hO : Above 1 O) :
    iprop(Transfers.Flight EC (c : Thread nD τ) (.dma sem) () dst.view.dmaCredit D ∗ ow c O ∗ levAts L lv)
      ⊢ iprop(((D ∗ semVal ((c : Thread nD τ), .dma sem) 0 ∗ ow c O) -∗ WP c (k ⟨⟩) Q)
          -∗ WP c (Prog.op (.waitDma2 sem src dst hsrc hdst) k) Q) := by
  unfold ow
  iintro ⟨HF, ⟨%W, HO⟩, Hl⟩ Hk
  iapply (Transfers.wp_waitLocalO EC 𝒱₀ (c : Thread nD τ) none () rfl) $$ [HF HO Hl]
  · isplitl [HF]; · iexact HF
    isplitl [HO]; · iexact HO
    iapply (mayWait_of (n := 0) (le_of_eq (lv_none c sem (.inl hq))) hO) $$ Hl
  iintro ⟨HD, Hv, HO⟩
  iapply Hk
  isplitl [HD]; · iexact HD
  isplitl [Hv]; · iexact Hv
  iexists _; iexact HO

end Local

/-! ## The barrier -/

section Protocol

/-- Device c's signal to the device u + 1 places after it: it hands over the two landing slots it has for that device. -/
theorem sig_step (c : Dev nD) (u : Fin 7) (l : List (Fin 7)) {d : Dev nD} (hd : d = up c u) {α : Type} {Q : α → sProp 𝕄} {k : PUnit → Prg F α} :
    iprop(Recs m K ∗ ow c (OB c (u :: l)) ∗ dutyTok ER (barCell (up c u)) 0 u ∗ land (F := F) c (rev u))
      ⊢ iprop((ow c (OB c l) -∗ WP c (k ⟨⟩) Q) -∗ WP c (Prog.op (.semSignal (Dev.tc d : Thread nD τ) barS (1#32).toNat) k) Q) := by
  subst hd
  unfold ow
  iintro ⟨#HR, ⟨%W, HO⟩, Ht, Hl⟩ Hk
  iapply (Rounds.wp_signal 𝒱₀ ER (Rd m) (c : Thread nD τ) none (dst := (up c u : Thread nD τ)) (κ := K (up c u, none)) (d := u)
    (by rw [duties_bar]; exact Finset.mem_univ _) ((amount_bar m (up c u) u).trans (by decide)) () (OB c l) rfl) $$ [HO Ht Hl]
  · isplitr; · iapply (inv_at m K (up c u, none)) $$ HR
    isplitl [HO]; · iexact HO
    isplitl [Ht]; · iexact Ht
    isplitl [Hl]
    · rw [payload_bar]; unfold barPay
      rw [show up (up c u) (rev u) = c from (up_rev _ _).trans (dn_up c u)]
      iexact Hl
    iapply (reached_at m K (up c u, none)) $$ HR
  iintro HO
  iapply Hk
  iexists W; iexact HO

/-- The wait for all seven: every landing slot that c sends to, and the cell closed. -/
theorem bar_wait (c : Dev nD) {α : Type} {Q : α → sProp 𝕄} {k : PUnit → Prg F α} :
    iprop(Recs m K ∗ levAts L lv ∗ ow c (OSAll c) ∗ cred (tallyAt (barCell c) () 7) ∗ atPos ER (barCell c) 0 ∅ 0)
      ⊢ iprop((((bigSep Finset.univ fun u : Fin 7 => land (F := F) (up c u) u) ∗ semVal (barCell c) 0 ∗ ow c (OSAll c)) -∗ WP c (k ⟨⟩) Q)
          -∗ WP c (Prog.op (.semWait barS (7#32).toNat) k) Q) := by
  unfold ow
  iintro ⟨#HR, #Hlev, ⟨%W, HO⟩, Hc, Hat⟩ Hk
  iapply (Rounds.wp_wait_rest_token 𝒱₀ ER (Rd m) (c : Thread nD τ) none (κ := K (c, none)) (wpE_semWait_eq 𝒱₀ (c : Thread nD τ) none Set.univ)
    (Set.mem_univ _) () (O := OSAll c) (W := W) (R := 0) (m := 0) (T := ∅) (by rw [expect_bar]; decide)) $$ [Hc HO Hat]
  · isplitr; · iapply (inv_at m K (c, none)) $$ HR
    isplitl [Hc]; · iexact Hc
    isplitl [HO]; · iexact HO
    isplitr; · iapply (mayWait_of (n := 1) (le_of_eq (lv_bar c ())) (above_OS c _)) $$ Hlev
    iexact Hat
  iintro ⟨HO, Hat, -, Hp⟩
  imod (Rounds.cell_close ER (Rd m) (Set.mem_univ (K (c, none))) (fun h => h) (R := 0 + 1) (duties_later m (barCell c))) $$ [Hat] with Hz
  · isplitr; · iapply (inv_at m K (c, none)) $$ HR
    iexact Hat
  iapply Hk
  isplitl [Hp]; · iapply (Entails.of_eq (rest_bar m c)) $$ Hp
  isplitl [Hz]; · iexact Hz
  iexists _; iexact HO

/-! ## The transfers' waits -/

/-- A wait on a transfer semaphore of the protocol, below all that the device owes: what its cell hands over, and the cell closed. -/
theorem xwait (f : Fin 4) (c : Dev nD) (u : Fin 7) {n : ℕ} {O : CellTallies nD τ sig Unit} (hn : (if f = 1 then 2 else if f = 3 then 3 else 0) ≤ n) (hO : Above (n + 1) O)
    {sp sp' : Space} {s s' : Shape} {e e' : EltTy} {src : Memref sig .tc sp s e} {dst : Memref sig .tc sp' s' e'} {hsrc : src.view.WordExact} {hdst : dst.view.WordExact}
    {sem : DmaSem sig} (hs : sem = dsem f u) (hN : dst.view.dmaCredit = N) {α : Type} {Q : α → sProp 𝕄} {k : PUnit → Prg F α} :
    iprop(Recs m K ∗ levAts L lv ∗ ow c O ∗ cred (tallyAt (xCell f c u) () N) ∗ atPos ER (xCell f c u) 0 ∅ 0)
      ⊢ iprop(((xPay m f c u ∗ semVal (xCell f c u) 0 ∗ ow c O) -∗ WP c (k ⟨⟩) Q)
          -∗ WP c (Prog.op (.waitDma2 sem src dst hsrc hdst) k) Q) := by
  subst hs
  unfold ow
  iintro ⟨#HR, #Hlev, ⟨%W, HO⟩, Hc, Hat⟩ Hk
  iapply (Rounds.wp_wait_rest_token 𝒱₀ ER (Rd m) (c : Thread nD τ) none (κ := K (c, some (f, u))) (wpE_waitDma2_eq 𝒱₀ (c : Thread nD τ) none Set.univ)
    (Set.mem_univ _) () (O := O) (W := W) (R := 0) (m := 0) (T := ∅) (by rw [Nat.zero_add, hN]; exact (expect_x m c u f).symm)) $$ [Hc HO Hat]
  · isplitr; · iapply (inv_at m K (c, some (f, u))) $$ HR
    isplitl [Hc]; · rw [hN]; iexact Hc
    isplitl [HO]; · iexact HO
    isplitr; · iapply (mayWait_of (n := n) (by rw [lv_x]; exact hn) hO) $$ Hlev
    iexact Hat
  iintro ⟨HO, Hat, -, Hp⟩
  imod (Rounds.cell_close ER (Rd m) (Set.mem_univ (K (c, some (f, u)))) (fun h => h) (R := 0 + 1) (duties_later m (xCell f c u))) $$ [Hat] with Hz
  · isplitr; · iapply (inv_at m K (c, some (f, u))) $$ HR
    iexact Hat
  iapply Hk
  isplitl [Hp]; · iapply (Entails.of_eq (rest_x m c u f)) $$ Hp
  isplitl [Hz]; · iexact Hz
  iexists _; iexact HO

theorem rs_credit (k : Fin 8) : (rsSlot k).view.dmaCredit = N := rfl
theorem ag_credit (k : Fin 8) : (agSlot k).view.dmaCredit = N := rfl
theorem p_credit (j : Dev nD) : (pChunk j).view.dmaCredit = N := rfl

/-! ## The scatter's sends -/

/-- What the send to device j takes besides the rows: the slot it lands in and the two duties it pays. -/
def kit (c j : Dev nD) : sProp 𝕄 :=
  iprop((∃ f, rsPts (F := F) j (stepTo c j).succ f) ∗ dutyTok ER (xCell 0 c (stepTo c j)) 0 (0 : Fin 7) ∗ dutyTok ER (xCell 1 j (stepTo c j)) 0 (0 : Fin 7))
def kitR (c j : Dev nD) : sProp 𝕄 := if j = c then iprop(emp) else kit (F := F) c j
/-- What it gives: credit at the send's own cell; of the device's own rows, which are not sent, the rows themselves. -/
def sent (c j : Dev nD) : sProp 𝕄 := if j = c then pPts c j (pC m c) else cred (tallyAt (xCell 0 c (stepTo c j)) () N)

theorem dn_stepTo (c j : Dev nD) (h : j ≠ c) : dn j (stepTo c j) = c := by revert c j; decide

set_option maxHeartbeats 2000000 in
theorem rs_send (c j : Dev nD) (hj : j ≠ c) (l : List (Dev nD)) {d : Dev nD} (hd : d = j) {off : Fin 3 → ℕ} {inb} (ho : off = ![(stepTo c j).succ.val, 0, 0])
    {s₁ s₂ : DmaSem sig} (h₁ : s₁ = dsem 0 (stepTo c j)) (h₂ : s₂ = dsem 1 (stepTo c j))
    {hsc} {hsrc} {hdst} {hsem} {α : Type} {Q : α → sProp 𝕄} {k : PUnit → Prg F α} :
    iprop(Recs m K ∗ pPts c j (pC m c) ∗ kit (F := F) c j ∗ ow c (OS c (j :: l)))
      ⊢ iprop(((cred (tallyAt (xCell 0 c (stepTo c j)) () N) ∗ ow c (OS c l)) -∗ WP c (k ⟨⟩) Q)
          -∗ WP c (Prog.op (.enqueueDma (pChunk j)
            (.remote (Dev.tc d : Thread nD τ) ((rsM.slice (Rect.unit (s := S8x32x1024) off S1x32x1024.size inb) (fun _ => rfl)).squeeze S32x1024 squeezes_S1x32x1024_S32x1024)
              (.dma s₁) hsc) (.dma s₂) hsrc hdst hsem) k) Q) := by
  subst hd ho h₁ h₂
  unfold kit ow pPts
  iintro ⟨#HR, Hp, ⟨⟨%fd, Hd⟩, Ht0, Ht1⟩, ⟨%W, HO⟩⟩ Hk
  unfold rsPts
  iapply (Rounds.wp_send_pointsTo 𝒱₀ ER (Rd m) (c : Thread nD τ) none (c' := (d : Thread nD τ)) (src := pChunk d) (dst := rsSlot (stepTo c d).succ) (sS := .dma (dsem 0 (stepTo c d))) (sem := .dma (dsem 1 (stepTo c d))) (κ₁ := K (c, some (0, stepTo c d))) (κ₂ := K (d, some (1, stepTo c d)))
    (r₁ := 0) (r₂ := 0) (d₁ := (0 : Fin 7)) (d₂ := (0 : Fin 7)) (fd := fd)
    (by rw [duties_x m c (stepTo c d) 0]; exact Finset.mem_singleton_self _) (by rw [duties_x m d (stepTo c d) 1]; exact Finset.mem_singleton_self _)
    () () N (rs_credit _) (amount_x m c (stepTo c d) 0 0) (amount_x m d (stepTo c d) 1 0) (OS c l) (by
      show OS c l + TS c d = _
      unfold TS; rw [if_neg hj]) (W := W)
    (by rw [payload_x m c (stepTo c d) 0]; show _ ⊢ pPts c (up c (stepTo c d)) (pC m c); rw [up_stepTo c d hj]; exact Entails.refl _)
    (by
      rw [payload_x m d (stepTo c d) 1]; show _ ⊢ rsPts d (stepTo c d).succ (rsC m d (stepTo c d))
      unfold rsPts rsC; rw [dn_stepTo c d hj]
      exact Entails.of_eq (View.pointsTo_write_univ_congr (c := (d : Thread nD τ)) (rsSlot (stepTo c d).succ).view fullShare _ _ _))) $$ [Hp Hd Ht0 Ht1 HO]
  · isplitr; · iapply (inv_at m K (c, some (0, stepTo c d))) $$ HR
    isplitr; · iapply (inv_at m K (d, some (1, stepTo c d))) $$ HR
    isplitl [Hp]; · iexact Hp
    isplitl [Hd]; · iexact Hd
    isplitl [HO]; · iexact HO
    isplitl [Ht0]; · iexact Ht0
    isplitr; · iapply (reached_at m K (c, some (0, stepTo c d))) $$ HR
    isplitl [Ht1]; · iexact Ht1
    iapply (reached_at m K (d, some (1, stepTo c d))) $$ HR
  iintro ⟨Hc, HO⟩
  iapply Hk
  isplitl [Hc]; · iexact Hc
  iexists W; iexact HO

/-- The send as the program has it, made only where j is another device; `k` is what comes after it. -/
theorem rs_step (c j : Dev nD) (l : List (Dev nD)) {P : Prop} {_ : Decidable P} (hP : P ↔ j ≠ c) {α : Type} {Q : α → sProp 𝕄} {k : Prg F α} {p : P → Prg F α}
    (hp : ∀ h : P, iprop(Recs m K ∗ pPts c j (pC m c) ∗ kit (F := F) c j ∗ ow c (OS c (j :: l)))
      ⊢ iprop(((cred (tallyAt (xCell 0 c (stepTo c j)) () N) ∗ ow c (OS c l)) -∗ WP c k Q) -∗ WP c (p h) Q)) :
    iprop(Recs m K ∗ pPts c j (pC m c) ∗ kitR (F := F) c j ∗ ow c (OS c (j :: l)))
      ⊢ iprop(((sent m c j ∗ ow c (OS c l)) -∗ WP c k Q) -∗ WP c (dite P p fun _ => k) Q) := by
  unfold kitR sent
  by_cases h : P
  · rw [if_neg (hP.1 h), if_neg (hP.1 h), dif_pos h]; exact hp h
  · have hj : j = c := by by_contra hj; exact h (hP.2 hj)
    rw [if_pos hj, if_pos hj, dif_neg h]
    have hO : OS c (j :: l) = OS c l := by show OS c l + TS c j = _; unfold TS; rw [if_pos hj, add_zero]
    rw [hO]
    iintro ⟨-, Hp, -, HO⟩ Hk
    iapply Hk
    isplitl [Hp]; · iexact Hp
    iexact HO

theorem rs_cond (c j : Dev nD) (l : List (Dev nD)) {P : Prop} {_ : Decidable P} (hP : P ↔ j ≠ c) {d : P → Dev nD} (hd : ∀ h, d h = j)
    {o : Fin 2 → ℕ} {inb'} (ho' : o = ![32 * j.val, 0]) {off : P → Fin 3 → ℕ} {inb : ∀ h, _} (ho : ∀ h, off h = ![(stepTo c j).succ.val, 0, 0])
    {s₁ s₂ : P → DmaSem sig} (h₁ : ∀ h, s₁ h = dsem 0 (stepTo c j)) (h₂ : ∀ h, s₂ h = dsem 1 (stepTo c j))
    {hsc : ∀ h, _} {hsrc : ∀ h, _} {hdst : ∀ h, _} {hsem : ∀ h, _} {α : Type} {Q : α → sProp 𝕄} {k : Prg F α} :
    iprop(Recs m K ∗ pPts c j (pC m c) ∗ kitR (F := F) c j ∗ ow c (OS c (j :: l)))
      ⊢ iprop(((sent m c j ∗ ow c (OS c l)) -∗ WP c k Q)
          -∗ WP c (dite P (fun h => Prog.op (.enqueueDma (pM.slice (Rect.unit (s := S256x1024) o S32x1024.size inb') (fun _ => rfl))
            (.remote (Dev.tc (d h) : Thread nD τ) ((rsM.slice (Rect.unit (s := S8x32x1024) (off h) S1x32x1024.size (inb h)) (fun _ => rfl)).squeeze S32x1024 squeezes_S1x32x1024_S32x1024)
              (.dma (s₁ h)) (hsc h)) (.dma (s₂ h)) (hsrc h) (hdst h) (hsem h)) fun _ => k) fun _ => k) Q) := by
  subst ho'
  refine rs_step m K c j l hP fun h => ?_
  exact rs_send m K c j (hP.1 h) l (hd h) (ho h) (h₁ h) (h₂ h) (k := fun _ => k) (Q := Q)

/-! ## The gather's sends -/

set_option maxHeartbeats 2000000 in
theorem ag_send (c : Dev nD) (u : Fin 7) (l : List (Fin 7)) {d : Dev nD} (hd : d = up c u) {s₁ s₂ : DmaSem sig} (h₁ : s₁ = dsem 2 u) (h₂ : s₂ = dsem 3 u)
    {hsc} {hsrc} {hdst} {hsem} {α : Type} {Q : α → sProp 𝕄} {k : PUnit → Prg F α} :
    iprop(Recs m K ∗ asPts c u (asC m c) ∗ (∃ f, agPts (F := F) (up c u) u.succ f) ∗ dutyTok ER (xCell 2 c u) 0 (0 : Fin 7) ∗ dutyTok ER (xCell 3 (up c u) u) 0 (0 : Fin 7)
        ∗ ow c (OA c (u :: l)))
      ⊢ iprop(((cred (tallyAt (xCell 2 c u) () N) ∗ ow c (OA c l)) -∗ WP c (k ⟨⟩) Q)
          -∗ WP c (Prog.op (.enqueueDma asM (.remote (Dev.tc d : Thread nD τ) (agSlot u.succ) (.dma s₁) hsc) (.dma s₂) hsrc hdst hsem) k) Q) := by
  subst hd h₁ h₂
  unfold ow asPts agPts
  iintro ⟨#HR, Hp, ⟨%fd, Hd⟩, Ht0, Ht1, ⟨%W, HO⟩⟩ Hk
  iapply (Rounds.wp_send_pointsTo 𝒱₀ ER (Rd m) (c : Thread nD τ) none (c' := (up c u : Thread nD τ)) (src := asM) (dst := agSlot u.succ) (sS := .dma (dsem 2 u)) (sem := .dma (dsem 3 u)) (κ₁ := K (c, some (2, u))) (κ₂ := K (up c u, some (3, u)))
    (r₁ := 0) (r₂ := 0) (d₁ := (0 : Fin 7)) (d₂ := (0 : Fin 7)) (fd := fd)
    (by rw [duties_x m c u 2]; exact Finset.mem_singleton_self _) (by rw [duties_x m (up c u) u 3]; exact Finset.mem_singleton_self _)
    () () N (ag_credit _) (amount_x m c u 2 0) (amount_x m (up c u) u 3 0) (OA c l) rfl (W := W)
    (by rw [payload_x m c u 2]; exact Entails.refl _)
    (by
      rw [payload_x m (up c u) u 3]; show _ ⊢ agPts (up c u) u.succ (agC m (up c u) u)
      unfold agPts agC; rw [dn_up c u]
      exact Entails.of_eq (View.pointsTo_write_univ_congr (c := (up c u : Thread nD τ)) (agSlot u.succ).view fullShare _ _ _))) $$ [Hp Hd Ht0 Ht1 HO]
  · isplitr; · iapply (inv_at m K (c, some (2, u))) $$ HR
    isplitr; · iapply (inv_at m K (up c u, some (3, u))) $$ HR
    isplitl [Hp]; · iexact Hp
    isplitl [Hd]; · iexact Hd
    isplitl [HO]; · iexact HO
    isplitl [Ht0]; · iexact Ht0
    isplitr; · iapply (reached_at m K (c, some (2, u))) $$ HR
    isplitl [Ht1]; · iexact Ht1
    iapply (reached_at m K (up c u, some (3, u))) $$ HR
  iintro ⟨Hc, HO⟩
  iapply Hk
  isplitl [Hc]; · iexact Hc
  iexists W; iexact HO

end Protocol

end Cert.KernelIdeal.Own
-- ==== Proof.Facts.lean ====
/-
Facts of the kernel's addressing, by finite checks: the devices and offsets that the program computes from the device's place are
those of the protocol, and the buffers' pieces are what its loads and stores touch.
-/
module

public import proofs.«01_k».proof.Proof.Steps

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Devices -/

theorem dev1_eq (c : Dev nD) : (⟨k0_dev1 c, k0_dev1_lt c⟩ : Dev nD) = up c 0 := by apply Fin.ext; revert c; decide
theorem dev2_eq (c : Dev nD) : (⟨k0_dev2 c, k0_dev2_lt c⟩ : Dev nD) = up c 1 := by apply Fin.ext; revert c; decide
theorem dev3_eq (c : Dev nD) : (⟨k0_dev3 c, k0_dev3_lt c⟩ : Dev nD) = up c 2 := by apply Fin.ext; revert c; decide
theorem dev4_eq (c : Dev nD) : (⟨k0_dev4 c, k0_dev4_lt c⟩ : Dev nD) = up c 3 := by apply Fin.ext; revert c; decide
theorem dev5_eq (c : Dev nD) : (⟨k0_dev5 c, k0_dev5_lt c⟩ : Dev nD) = up c 4 := by apply Fin.ext; revert c; decide
theorem dev6_eq (c : Dev nD) : (⟨k0_dev6 c, k0_dev6_lt c⟩ : Dev nD) = up c 5 := by apply Fin.ext; revert c; decide
theorem dev7_eq (c : Dev nD) : (⟨k0_dev7 c, k0_dev7_lt c⟩ : Dev nD) = up c 6 := by apply Fin.ext; revert c; decide
theorem dev8_eq : k0_dev8 = 0 := by decide
theorem dev9_eq : k0_dev9 = 1 := by decide
theorem dev10_eq : k0_dev10 = 2 := by decide
theorem dev11_eq : k0_dev11 = 3 := by decide
theorem dev12_eq : k0_dev12 = 4 := by decide
theorem dev13_eq : k0_dev13 = 5 := by decide
theorem dev14_eq : k0_dev14 = 6 := by decide
theorem dev15_eq : k0_dev15 = 7 := by decide
theorem dev16_eq (c : Dev nD) : (⟨k0_dev16 c, k0_dev16_lt c⟩ : Dev nD) = up c 0 := by apply Fin.ext; revert c; decide
theorem dev17_eq (c : Dev nD) : (⟨k0_dev17 c, k0_dev17_lt c⟩ : Dev nD) = up c 1 := by apply Fin.ext; revert c; decide
theorem dev18_eq (c : Dev nD) : (⟨k0_dev18 c, k0_dev18_lt c⟩ : Dev nD) = up c 2 := by apply Fin.ext; revert c; decide
theorem dev19_eq (c : Dev nD) : (⟨k0_dev19 c, k0_dev19_lt c⟩ : Dev nD) = up c 3 := by apply Fin.ext; revert c; decide
theorem dev20_eq (c : Dev nD) : (⟨k0_dev20 c, k0_dev20_lt c⟩ : Dev nD) = up c 4 := by apply Fin.ext; revert c; decide
theorem dev21_eq (c : Dev nD) : (⟨k0_dev21 c, k0_dev21_lt c⟩ : Dev nD) = up c 5 := by apply Fin.ext; revert c; decide
theorem dev22_eq (c : Dev nD) : (⟨k0_dev22 c, k0_dev22_lt c⟩ : Dev nD) = up c 6 := by apply Fin.ext; revert c; decide

/-! ## Which blocks are sent, and where to -/

theorem cond1_iff (c : Dev nD) : k0_cond1 c = 1#1 ↔ (0 : Dev nD) ≠ c := by revert c; decide
theorem off2_eq (c : Dev nD) (h : k0_cond1 c = 1#1) : k0_off2 c = ![(stepTo c 0).succ.val] := by funext a; revert c a; decide
theorem off3_eq (c : Dev nD) (h : k0_cond1 c = 1#1) : k0_off3 c = ![(stepTo c 0).succ.val, 0, 0] := by funext a; revert c a; decide
theorem cond2_iff (c : Dev nD) : k0_cond2 c = 1#1 ↔ (1 : Dev nD) ≠ c := by revert c; decide
theorem off4_eq (c : Dev nD) (h : k0_cond2 c = 1#1) : k0_off4 c = ![(stepTo c 1).succ.val] := by funext a; revert c a; decide
theorem off5_eq (c : Dev nD) (h : k0_cond2 c = 1#1) : k0_off5 c = ![(stepTo c 1).succ.val, 0, 0] := by funext a; revert c a; decide
theorem cond3_iff (c : Dev nD) : k0_cond3 c = 1#1 ↔ (2 : Dev nD) ≠ c := by revert c; decide
theorem off6_eq (c : Dev nD) (h : k0_cond3 c = 1#1) : k0_off6 c = ![(stepTo c 2).succ.val] := by funext a; revert c a; decide
theorem off7_eq (c : Dev nD) (h : k0_cond3 c = 1#1) : k0_off7 c = ![(stepTo c 2).succ.val, 0, 0] := by funext a; revert c a; decide
theorem cond4_iff (c : Dev nD) : k0_cond4 c = 1#1 ↔ (3 : Dev nD) ≠ c := by revert c; decide
theorem off8_eq (c : Dev nD) (h : k0_cond4 c = 1#1) : k0_off8 c = ![(stepTo c 3).succ.val] := by funext a; revert c a; decide
theorem off9_eq (c : Dev nD) (h : k0_cond4 c = 1#1) : k0_off9 c = ![(stepTo c 3).succ.val, 0, 0] := by funext a; revert c a; decide
theorem cond5_iff (c : Dev nD) : k0_cond5 c = 1#1 ↔ (4 : Dev nD) ≠ c := by revert c; decide
theorem off10_eq (c : Dev nD) (h : k0_cond5 c = 1#1) : k0_off10 c = ![(stepTo c 4).succ.val] := by funext a; revert c a; decide
theorem off11_eq (c : Dev nD) (h : k0_cond5 c = 1#1) : k0_off11 c = ![(stepTo c 4).succ.val, 0, 0] := by funext a; revert c a; decide
theorem cond6_iff (c : Dev nD) : k0_cond6 c = 1#1 ↔ (5 : Dev nD) ≠ c := by revert c; decide
theorem off12_eq (c : Dev nD) (h : k0_cond6 c = 1#1) : k0_off12 c = ![(stepTo c 5).succ.val] := by funext a; revert c a; decide
theorem off13_eq (c : Dev nD) (h : k0_cond6 c = 1#1) : k0_off13 c = ![(stepTo c 5).succ.val, 0, 0] := by funext a; revert c a; decide
theorem cond7_iff (c : Dev nD) : k0_cond7 c = 1#1 ↔ (6 : Dev nD) ≠ c := by revert c; decide
theorem off14_eq (c : Dev nD) (h : k0_cond7 c = 1#1) : k0_off14 c = ![(stepTo c 6).succ.val] := by funext a; revert c a; decide
theorem off15_eq (c : Dev nD) (h : k0_cond7 c = 1#1) : k0_off15 c = ![(stepTo c 6).succ.val, 0, 0] := by funext a; revert c a; decide
theorem cond8_iff (c : Dev nD) : k0_cond8 c = 1#1 ↔ (7 : Dev nD) ≠ c := by revert c; decide
theorem off16_eq (c : Dev nD) (h : k0_cond8 c = 1#1) : k0_off16 c = ![(stepTo c 7).succ.val] := by funext a; revert c a; decide
theorem off17_eq (c : Dev nD) (h : k0_cond8 c = 1#1) : k0_off17 c = ![(stepTo c 7).succ.val, 0, 0] := by funext a; revert c a; decide

theorem off18_eq (c : Dev nD) : k0_off18 c = ![32 * c.val, 0] := by funext a; revert c a; decide
theorem off19_eq (c : Dev nD) : k0_off19 c = ![0, 32 * c.val, 0] := by funext a; revert c a; decide
theorem off20_eq (c : Dev nD) (u : Fin 7) : k0_off20 c (BitVec.ofNat 32 (1 + u.val)) = ![0, 32 * (dn c u).val, 0] := by funext a; revert c u a; decide

/-- The transfer semaphore at a step's place of a family's array. -/
theorem sem_at (f : Fin 4) (u : Fin 7) (hb) {off : Fin 1 → ℕ} {inb} (ho : off = ![u.succ.val]) :
    (((SemArray.consecutive (11 + 8 * f.val) S8 hb : DmaSems sig S8).slice (Rect.unit (s := S8) off S1.size inb)).squeeze S_ squeezes_S1_S_).sem = dsem f u := by
  subst ho
  apply Fin.ext
  show 11 + 8 * f.val + (S8.rowMajor _).val = 12 + 8 * f.val + u.val
  rw [show ∀ i : S8.Idx, (S8.rowMajor i).val = (i 0).val from by decide]
  exact (show ∀ y : Fin 1, 11 + 8 * f.val + (u.val + 1 + 1 * y.val) = 12 + 8 * f.val + u.val from fun y => by omega) _

/-! ## Pieces -/

theorem wq_load (g : Fin 4) : wqM.view.setOn (wqR g).toLoadRect.set ⊆ (wqSlot g).view.set := by
  exact subset_of_eq ((View.set_reshape _ _).trans (View.set_slice _ _)).symm
theorem k_load (g : Fin 2) : kM.view.setOn (kvR g).toLoadRect.set ⊆ (kSlot g).view.set := by
  exact subset_of_eq ((View.set_reshape _ _).trans (View.set_slice _ _)).symm
theorem v_load (g : Fin 2) : vM.view.setOn (kvR g).toLoadRect.set ⊆ (vSlot g).view.set := by
  exact subset_of_eq ((View.set_reshape _ _).trans (View.set_slice _ _)).symm
theorem rs_load (k : Fin 8) : rsM.view.setOn (slotR k).toLoadRect.set ⊆ (rsSlot k).view.set := by
  exact subset_of_eq ((View.set_reshape _ _).trans (View.set_slice _ _)).symm
theorem ag_load (k : Fin 8) : agM.view.setOn (slotR k).toLoadRect.set ⊆ (agSlot k).view.set := by
  exact subset_of_eq ((View.set_reshape _ _).trans (View.set_slice _ _)).symm
theorem p_load (c : Dev nD) : pM.view.setOn (ownR c).toLoadRect.set ⊆ (pChunk c).view.set := by
  have : ownR c = chunkR c := Rect.unit_congr (off18_eq c) _ _
  rw [this]; exact subset_of_eq (View.set_slice _ _).symm

end Cert.KernelIdeal.Own
-- ==== Proof.PartsA.lean ====
/-
The kernel's parts one to eight: the copies into the device's memory, the barrier, and the loads.
-/
module

public import proofs.«01_k».proof.Proof.Facts

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-! ## The copies' pieces -/

abbrev semQ (g : Fin 4) : DmaSem sig := ⟨6 + g.val, by have := g.isLt; show _ < 43; omega⟩
abbrev semK (g : Fin 2) : DmaSem sig := ⟨2 + g.val, by have := g.isLt; show _ < 43; omega⟩
abbrev semV (g : Fin 2) : DmaSem sig := ⟨4 + g.val, by have := g.isLt; show _ < 43; omega⟩
abbrev semO : DmaSem sig := ⟨10, by show _ < 43; omega⟩

/-- A share of the columns copied, -/
abbrev qSrc (c : Dev nD) (g : Fin 4) : sProp 𝕄 :=
  (wqCol g).view.loc (c : Thread nD τ) ↦[(wqCol g).view.set]{Transfers.shareTok fullShare 4 g} m ((c : Thread nD τ).loc main_arg1)
abbrev kSrc (c : Dev nD) (g : Fin 2) : sProp 𝕄 :=
  (kHead c g).view.loc (c : Thread nD τ) ↦[(kHead c g).view.set]{Transfers.shareTok fullShare 2 g} m ((c : Thread nD τ).loc main_arg2)
abbrev vSrc (c : Dev nD) (g : Fin 2) : sProp 𝕄 :=
  (vHead c g).view.loc (c : Thread nD τ) ↦[(vHead c g).view.set]{Transfers.shareTok fullShare 2 g} m ((c : Thread nD τ).loc main_arg3)
abbrev oSrc (c : Dev nD) : sProp 𝕄 := woH.view.loc (c : Thread nD τ) ↦[woH.view.set]{fullShare} m ((c : Thread nD τ).loc main_arg4)

/-- and the slot copied to. -/
abbrev qPts (c : Dev nD) (g : Fin 4) (f : Buf (Elt F) ((c : Thread nD τ).loc cc0_scratch2)) : sProp 𝕄 := (wqSlot g).view.loc (c : Thread nD τ) ↦[(wqSlot g).view.set]{fullShare} f
abbrev kPts (c : Dev nD) (g : Fin 2) (f : Buf (Elt F) ((c : Thread nD τ).loc cc0_scratch0)) : sProp 𝕄 := (kSlot g).view.loc (c : Thread nD τ) ↦[(kSlot g).view.set]{fullShare} f
abbrev vPts (c : Dev nD) (g : Fin 2) (f : Buf (Elt F) ((c : Thread nD τ).loc cc0_scratch1)) : sProp 𝕄 := (vSlot g).view.loc (c : Thread nD τ) ↦[(vSlot g).view.set]{fullShare} f
abbrev oPts (c : Dev nD) (f : Buf (Elt F) ((c : Thread nD τ).loc cc0_scratch3)) : sProp 𝕄 := woM.view.loc (c : Thread nD τ) ↦[woM.view.set]{fullShare} f

/-- A copy before it starts, in flight, and done. -/
abbrev qIn (c : Dev nD) (g : Fin 4) : sProp 𝕄 := iprop(qSrc m c g ∗ (∃ f, qPts c g f) ∗ semVal ((c : Thread nD τ), .dma (semQ g)) 0)
abbrev qFl (c : Dev nD) (g : Fin 4) : sProp 𝕄 :=
  Transfers.Flight EC (c : Thread nD τ) (.dma (semQ g)) () (wqSlot g).view.dmaCredit iprop(qPts c g (wqC m c g) ∗ qSrc m c g)
abbrev qOut (c : Dev nD) (g : Fin 4) : sProp 𝕄 := iprop(qSrc m c g ∗ qPts c g (wqC m c g) ∗ semVal ((c : Thread nD τ), .dma (semQ g)) 0)
theorem q_credit (g : Fin 4) : 0 < (wqSlot g).view.dmaCredit := View.dmaCredit_pos _ (by decide)

/-- A copy before it starts, in flight, and done. -/
abbrev kIn (c : Dev nD) (g : Fin 2) : sProp 𝕄 := iprop(kSrc m c g ∗ (∃ f, kPts c g f) ∗ semVal ((c : Thread nD τ), .dma (semK g)) 0)
abbrev kFl (c : Dev nD) (g : Fin 2) : sProp 𝕄 :=
  Transfers.Flight EC (c : Thread nD τ) (.dma (semK g)) () (kSlot g).view.dmaCredit iprop(kPts c g (kC m c g) ∗ kSrc m c g)
abbrev kOut (c : Dev nD) (g : Fin 2) : sProp 𝕄 := iprop(kSrc m c g ∗ kPts c g (kC m c g) ∗ semVal ((c : Thread nD τ), .dma (semK g)) 0)
theorem k_credit (g : Fin 2) : 0 < (kSlot g).view.dmaCredit := View.dmaCredit_pos _ (by decide)

/-- A copy before it starts, in flight, and done. -/
abbrev vIn (c : Dev nD) (g : Fin 2) : sProp 𝕄 := iprop(vSrc m c g ∗ (∃ f, vPts c g f) ∗ semVal ((c : Thread nD τ), .dma (semV g)) 0)
abbrev vFl (c : Dev nD) (g : Fin 2) : sProp 𝕄 :=
  Transfers.Flight EC (c : Thread nD τ) (.dma (semV g)) () (vSlot g).view.dmaCredit iprop(vPts c g (vC m c g) ∗ vSrc m c g)
abbrev vOut (c : Dev nD) (g : Fin 2) : sProp 𝕄 := iprop(vSrc m c g ∗ vPts c g (vC m c g) ∗ semVal ((c : Thread nD τ), .dma (semV g)) 0)
theorem v_credit (g : Fin 2) : 0 < (vSlot g).view.dmaCredit := View.dmaCredit_pos _ (by decide)

/-- A copy before it starts, in flight, and done. -/
abbrev oIn (c : Dev nD) : sProp 𝕄 := iprop(oSrc m c ∗ (∃ f, oPts c f) ∗ semVal ((c : Thread nD τ), .dma (semO)) 0)
abbrev oFl (c : Dev nD) : sProp 𝕄 :=
  Transfers.Flight EC (c : Thread nD τ) (.dma (semO)) () (woM).view.dmaCredit iprop(oPts c (woC m c) ∗ oSrc m c)
abbrev oOut (c : Dev nD) : sProp 𝕄 := iprop(oSrc m c ∗ oPts c (woC m c) ∗ semVal ((c : Thread nD τ), .dma (semO)) 0)
theorem o_credit : 0 < (woM).view.dmaCredit := View.dmaCredit_pos _ (by decide)

/-! ## The parts -/

section Parts
variable (c : Dev nD)

theorem part1_wp {Q : (Σ' (_ : Dev nD), BitVec 32) → sProp 𝕄} :
    iprop((qIn m c 0 ∗ qIn m c 1 ∗ qIn m c 2) ∗ (∀ w, (qFl m c 0 ∗ qFl m c 1 ∗ qFl m c 2) -∗ Q ⟨c, w⟩))
      ⊢ WP c (k0_part1_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14) Q := by
  unfold k0_part1_skel
  simp only [semSignalWord, semWaitWord, Prog.lift, Prog.bind_op, Prog.bind_ret, Prog.pure_eq_ret, wp_deviceId]
  iintro ⟨⟨Hq0, Hq1, Hq2⟩, Hk⟩
  iapply (copy_start (src := wqCol 0) (dst := wqSlot 0) (m _) (m _) (q_credit 0)) $$ Hq0; iintro Hq0
  iapply (copy_start (src := wqCol 1) (dst := wqSlot 1) (m _) (m _) (q_credit 1)) $$ Hq1; iintro Hq1
  iapply (copy_start (src := wqCol 2) (dst := wqSlot 2) (m _) (m _) (q_credit 2)) $$ Hq2; iintro Hq2
  try unfold WP
  rw [wp_ret]; imodintro
  iapply Hk $$ %_
  isplitl [Hq0]; · iexact Hq0
  isplitl [Hq1]; · iexact Hq1
  iexact Hq2

theorem part2_wp {Q : PUnit → sProp 𝕄} :
    iprop((qIn m c 3 ∗ kIn m c 0 ∗ vIn m c 0 ∗ kIn m c 1) ∗ ((qFl m c 3 ∗ kFl m c 0 ∗ vFl m c 0 ∗ kFl m c 1) -∗ Q ⟨⟩))
      ⊢ WP c (k0_part2_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 c) Q := by
  unfold k0_part2_skel
  simp only [semSignalWord, semWaitWord, Prog.lift, Prog.bind_op, Prog.bind_ret, Prog.pure_eq_ret, wp_deviceId]
  iintro ⟨⟨Hq3, Hk0, Hv0, Hk1⟩, Hk⟩
  iapply (copy_start (src := wqCol 3) (dst := wqSlot 3) (m _) (m _) (q_credit 3)) $$ Hq3; iintro Hq3
  iapply (copy_start (src := kHead c 0) (dst := kSlot 0) (m _) (m _) (k_credit 0)) $$ Hk0; iintro Hk0
  iapply (copy_start (src := vHead c 0) (dst := vSlot 0) (m _) (m _) (v_credit 0)) $$ Hv0; iintro Hv0
  iapply (copy_start (src := kHead c 1) (dst := kSlot 1) (m _) (m _) (k_credit 1)) $$ Hk1; iintro Hk1
  try unfold WP
  rw [wp_ret]; imodintro
  iapply Hk
  isplitl [Hq3]; · iexact Hq3
  isplitl [Hk0]; · iexact Hk0
  isplitl [Hv0]; · iexact Hv0
  iexact Hk1

/-- The duty that the signal of step u pays, and what it hands over. -/
abbrev sigKit (u : Fin 7) : sProp 𝕄 := iprop(dutyTok ER (barCell (up c u)) 0 u ∗ land (F := F) c (rev u))

theorem part3_wp (w : BitVec 32) {Q : Sems sig S_ → sProp 𝕄} :
    iprop(Recs m K ∗ (vIn m c 1 ∗ oIn m c) ∗ (sigKit (F := F) c 0 ∗ sigKit (F := F) c 1 ∗ sigKit (F := F) c 2 ∗ sigKit (F := F) c 3) ∗ ow c (OB c [0, 1, 2, 3, 4, 5, 6])
        ∗ ((vFl m c 1 ∗ oFl m c ∗ ow c (OB c [4, 5, 6])) -∗ Q (SemArray.scalar (sig.barrier 0 rfl))))
      ⊢ WP c (k0_part3_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 c w) Q := by
  unfold k0_part3_skel
  simp only [semSignalWord, semWaitWord, Prog.lift, Prog.bind_op, Prog.bind_ret, Prog.pure_eq_ret, wp_deviceId]
  iintro ⟨#HR, ⟨Hv1, Ho⟩, ⟨Hs0, Hs1, Hs2, Hs3⟩, HO, Hk⟩
  iapply (copy_start (src := vHead c 1) (dst := vSlot 1) (m _) (m _) (v_credit 1)) $$ Hv1; iintro Hv1
  iapply (copy_start (src := woH) (dst := woM) (m _) (m _) (o_credit)) $$ Ho; iintro Ho
  iapply (sig_step m K c 0 [1, 2, 3, 4, 5, 6] (dev1_eq c)) $$ [HO Hs0]
  · isplitr; · iexact HR
    isplitl [HO]; · iexact HO
    iexact Hs0
  iintro HO
  iapply (sig_step m K c 1 [2, 3, 4, 5, 6] (dev2_eq c)) $$ [HO Hs1]
  · isplitr; · iexact HR
    isplitl [HO]; · iexact HO
    iexact Hs1
  iintro HO
  iapply (sig_step m K c 2 [3, 4, 5, 6] (dev3_eq c)) $$ [HO Hs2]
  · isplitr; · iexact HR
    isplitl [HO]; · iexact HO
    iexact Hs2
  iintro HO
  iapply (sig_step m K c 3 [4, 5, 6] (dev4_eq c)) $$ [HO Hs3]
  · isplitr; · iexact HR
    isplitl [HO]; · iexact HO
    iexact Hs3
  iintro HO
  try unfold WP
  rw [wp_ret]; imodintro
  iapply Hk
  isplitl [Hv1]; · iexact Hv1
  isplitl [Ho]; · iexact Ho
  iexact HO

/-- The staged block of x, whole. -/
abbrev xPts : sProp 𝕄 := xM.view.loc (c : Thread nD τ) ↦{fullShare} xC m c
abbrev landed7 : sProp 𝕄 := bigSep Finset.univ fun u : Fin 7 => land (F := F) (up c u) u

set_option maxHeartbeats 1000000 in
theorem part4_wp (w : BitVec 32) {Q : (Σ' (_ : FVec F S256x1024 .bf16), FVec F S256x256 .bf16) → sProp 𝕄} :
    iprop(Recs m K ∗ levAts L lv ∗ (sigKit (F := F) c 4 ∗ sigKit (F := F) c 5 ∗ sigKit (F := F) c 6) ∗ ow c (OB c [4, 5, 6])
        ∗ (cred (tallyAt (barCell c) () 7) ∗ atPos ER (barCell c) 0 ∅ 0) ∗ xPts m c ∗ qFl m c 0
        ∗ ((landed7 (F := F) c ∗ semVal (barCell c) 0 ∗ ow c (OSAll c) ∗ xPts m c ∗ qOut m c 0) -∗ Q ⟨xB m c, q0 m c⟩))
      ⊢ WP c (k0_part4_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 c w (SemArray.scalar (sig.barrier 0 rfl))) Q := by
  unfold k0_part4_skel q0 xB xv wqv
  simp only [semSignalWord, semWaitWord, Prog.lift, Prog.bind_op, Prog.bind_ret, Prog.pure_eq_ret, wp_deviceId]
  iintro ⟨#HR, #Hlev, ⟨Hs4, Hs5, Hs6⟩, HO, ⟨Hc, Hat⟩, Hx, Hq0, Hk⟩
  iapply (sig_step m K c 4 [5, 6] (dev5_eq c)) $$ [HO Hs4]
  · isplitr; · iexact HR
    isplitl [HO]; · iexact HO
    iexact Hs4
  iintro HO
  iapply (sig_step m K c 5 [6] (dev6_eq c)) $$ [HO Hs5]
  · isplitr; · iexact HR
    isplitl [HO]; · iexact HO
    iexact Hs5
  iintro HO
  iapply (sig_step m K c 6 [] (dev7_eq c)) $$ [HO Hs6]
  · isplitr; · iexact HR
    isplitl [HO]; · iexact HO
    iexact Hs6
  iintro HO
  iapply (bar_wait m K c) $$ [HO Hc Hat]
  · isplitr; · iexact HR
    isplitr; · iexact Hlev
    isplitl [HO]; · iexact HO
    isplitl [Hc]; · iexact Hc
    iexact Hat
  iintro ⟨Hland, Hz, HO⟩
  iapply (wp_load 𝒱₀ (c : Thread nD τ) none Set.univ (m := xM) (Finset.subset_univ _)) $$ Hx; iintro Hx
  iapply (copy_wait (src := wqCol 0) (dst := wqSlot 0) (sem := (semQ 0)) (by decide) (above_mono (by decide) (above_OS c _))) $$ [Hq0 HO]
  · isplitl [Hq0]; · iexact Hq0
    isplitl [HO]; · iexact HO
    iexact Hlev
  iintro ⟨⟨Hq0, Hq0s⟩, Hq0v, HO⟩
  iapply (wp_load 𝒱₀ (c : Thread nD τ) none Set.univ (m := wqM) (wq_load 0)) $$ Hq0; iintro Hq0
  try unfold WP
  rw [wp_ret]; imodintro
  iapply Hk
  isplitl [Hland]; · iexact Hland
  isplitl [Hz]; · iexact Hz
  isplitl [HO]; · iexact HO
  isplitl [Hx]; · iexact Hx
  isplitl [Hq0s]; · iexact Hq0s
  isplitl [Hq0]; · iexact Hq0
  iexact Hq0v

theorem part5_wp {Q : (Σ' (_ : FVec F S256x256 .bf16) (_ : FVec F S256x256 .bf16), FVec F S1024x256 .bf16) → sProp 𝕄} :
    iprop(levAts L lv ∗ ow c (OSAll c) ∗ (qFl m c 1 ∗ qFl m c 2 ∗ qFl m c 3)
        ∗ ((ow c (OSAll c) ∗ qOut m c 1 ∗ qOut m c 2 ∗ qOut m c 3) -∗ Q ⟨q1 m c, q2 m c, w3 m c⟩))
      ⊢ WP c (k0_part5_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 (xB m c)) Q := by
  unfold k0_part5_skel q1 q2 w3 wqv
  simp only [semSignalWord, semWaitWord, Prog.lift, Prog.bind_op, Prog.bind_ret, Prog.pure_eq_ret, wp_deviceId]
  iintro ⟨#Hlev, HO, ⟨Hq1, Hq2, Hq3⟩, Hk⟩
  iapply (copy_wait (src := wqCol 1) (dst := wqSlot 1) (sem := (semQ 1)) (by decide) (above_mono (by decide) (above_OS c _))) $$ [Hq1 HO]
  · isplitl [Hq1]; · iexact Hq1
    isplitl [HO]; · iexact HO
    iexact Hlev
  iintro ⟨⟨Hq1, Hq1s⟩, Hq1v, HO⟩
  iapply (wp_load 𝒱₀ (c : Thread nD τ) none Set.univ (m := wqM) (wq_load 1)) $$ Hq1; iintro Hq1
  iapply (copy_wait (src := wqCol 2) (dst := wqSlot 2) (sem := (semQ 2)) (by decide) (above_mono (by decide) (above_OS c _))) $$ [Hq2 HO]
  · isplitl [Hq2]; · iexact Hq2
    isplitl [HO]; · iexact HO
    iexact Hlev
  iintro ⟨⟨Hq2, Hq2s⟩, Hq2v, HO⟩
  iapply (wp_load 𝒱₀ (c : Thread nD τ) none Set.univ (m := wqM) (wq_load 2)) $$ Hq2; iintro Hq2
  iapply (copy_wait (src := wqCol 3) (dst := wqSlot 3) (sem := (semQ 3)) (by decide) (above_mono (by decide) (above_OS c _))) $$ [Hq3 HO]
  · isplitl [Hq3]; · iexact Hq3
    isplitl [HO]; · iexact HO
    iexact Hlev
  iintro ⟨⟨Hq3, Hq3s⟩, Hq3v, HO⟩
  iapply (wp_load 𝒱₀ (c : Thread nD τ) none Set.univ (m := wqM) (wq_load 3)) $$ Hq3; iintro Hq3
  try unfold WP
  rw [wp_ret]; imodintro
  iapply Hk
  isplitl [HO]; · iexact HO
  isplitl [Hq1 Hq1s Hq1v]
  · isplitl [Hq1s]; · iexact Hq1s
    isplitl [Hq1]; · iexact Hq1
    iexact Hq1v
  isplitl [Hq2 Hq2s Hq2v]
  · isplitl [Hq2s]; · iexact Hq2s
    isplitl [Hq2]; · iexact Hq2
    iexact Hq2v
  isplitl [Hq3s]; · iexact Hq3s
  isplitl [Hq3]; · iexact Hq3
  iexact Hq3v

theorem part6_wp {Q : FVec F S256x256 .bf16 → sProp 𝕄} :
    iprop(levAts L lv ∗ ow c (OSAll c) ∗ (kFl m c 0 ∗ vFl m c 0 ∗ kFl m c 1)
        ∗ ((ow c (OSAll c) ∗ kOut m c 0 ∗ vOut m c 0 ∗ kOut m c 1) -∗ Q (q3 m c)))
      ⊢ WP c (k0_part6_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 c (xB m c) (w3 m c)) Q := by
  unfold k0_part6_skel q3
  simp only [semSignalWord, semWaitWord, Prog.lift, Prog.bind_op, Prog.bind_ret, Prog.pure_eq_ret, wp_deviceId]
  iintro ⟨#Hlev, HO, ⟨Hk0, Hv0, Hk1⟩, Hk⟩
  iapply (copy_wait (src := kHead c 0) (dst := kSlot 0) (sem := (semK 0)) (by decide) (above_mono (by decide) (above_OS c _))) $$ [Hk0 HO]
  · isplitl [Hk0]; · iexact Hk0
    isplitl [HO]; · iexact HO
    iexact Hlev
  iintro ⟨⟨Hk0, Hk0s⟩, Hk0v, HO⟩
  iapply (copy_wait (src := vHead c 0) (dst := vSlot 0) (sem := (semV 0)) (by decide) (above_mono (by decide) (above_OS c _))) $$ [Hv0 HO]
  · isplitl [Hv0]; · iexact Hv0
    isplitl [HO]; · iexact HO
    iexact Hlev
  iintro ⟨⟨Hv0, Hv0s⟩, Hv0v, HO⟩
  iapply (copy_wait (src := kHead c 1) (dst := kSlot 1) (sem := (semK 1)) (by decide) (above_mono (by decide) (above_OS c _))) $$ [Hk1 HO]
  · isplitl [Hk1]; · iexact Hk1
    isplitl [HO]; · iexact HO
    iexact Hlev
  iintro ⟨⟨Hk1, Hk1s⟩, Hk1v, HO⟩
  try unfold WP
  rw [wp_ret]; imodintro
  iapply Hk
  isplitl [HO]; · iexact HO
  isplitl [Hk0 Hk0s Hk0v]
  · isplitl [Hk0s]; · iexact Hk0s
    isplitl [Hk0]; · iexact Hk0
    iexact Hk0v
  isplitl [Hv0 Hv0s Hv0v]
  · isplitl [Hv0s]; · iexact Hv0s
    isplitl [Hv0]; · iexact Hv0
    iexact Hv0v
  isplitl [Hk1s]; · iexact Hk1s
  isplitl [Hk1]; · iexact Hk1
  iexact Hk1v

theorem part7_wp {Q : (Σ' (_ : FVec F S4096x128 .bf16) (_ : FVec F S4096x128 .bf16) (_ : FVec F S4096x128 .bf16) (_ : FVec F S4096x128 .bf16)
      (_ : FVec F S1024x1024 .bf16) (_ : FVec F S128x128 .f32) (_ : FVec F S128x128 .f32) (_ : FVec F S128x128 .bf16), FVec F S128x4096 .f32) → sProp 𝕄} :
    iprop(levAts L lv ∗ ow c (OSAll c) ∗ (vFl m c 1 ∗ oFl m c ∗ kOut m c 0 ∗ kOut m c 1 ∗ vOut m c 0)
        ∗ ((ow c (OSAll c) ∗ kOut m c 0 ∗ kOut m c 1 ∗ vOut m c 0 ∗ vOut m c 1 ∗ oOut m c)
          -∗ Q ⟨k0B m c, k1B m c, v0B m c, v1B m c, woB m c, k0_pay12 (q0 m c) (kv m c 0) (vv m c 0), k0_pay13 (q0 m c) (kv m c 0) (vv m c 0), k0_pay14 (q1 m c), zS⟩))
      ⊢ WP c (k0_part7_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 c (q0 m c) (q1 m c)) Q := by
  unfold k0_part7_skel k0B k1B v0B v1B woB kv vv wov zS
  simp only [semSignalWord, semWaitWord, Prog.lift, Prog.bind_op, Prog.bind_ret, Prog.pure_eq_ret, wp_deviceId]
  iintro ⟨#Hlev, HO, ⟨Hv1, Ho, ⟨Hk0s, Hk0, Hk0v⟩, ⟨Hk1s, Hk1, Hk1v⟩, ⟨Hv0s, Hv0, Hv0v⟩⟩, Hk⟩
  iapply (copy_wait (src := vHead c 1) (dst := vSlot 1) (sem := (semV 1)) (by decide) (above_mono (by decide) (above_OS c _))) $$ [Hv1 HO]
  · isplitl [Hv1]; · iexact Hv1
    isplitl [HO]; · iexact HO
    iexact Hlev
  iintro ⟨⟨Hv1, Hv1s⟩, Hv1v, HO⟩
  iapply (wp_load 𝒱₀ (c : Thread nD τ) none Set.univ (m := kM) (k_load 0)) $$ Hk0; iintro Hk0
  iapply (wp_load 𝒱₀ (c : Thread nD τ) none Set.univ (m := kM) (k_load 1)) $$ Hk1; iintro Hk1
  iapply (wp_load 𝒱₀ (c : Thread nD τ) none Set.univ (m := vM) (v_load 0)) $$ Hv0; iintro Hv0
  iapply (wp_load 𝒱₀ (c : Thread nD τ) none Set.univ (m := vM) (v_load 1)) $$ Hv1; iintro Hv1
  iapply (copy_wait (src := woH) (dst := woM) (sem := semO) (by decide) (above_mono (by decide) (above_OS c _))) $$ [Ho HO]
  · isplitl [Ho]; · iexact Ho
    isplitl [HO]; · iexact HO
    iexact Hlev
  iintro ⟨⟨Ho, Hos⟩, Hov, HO⟩
  iapply (wp_load 𝒱₀ (c : Thread nD τ) none Set.univ (m := woM) (by rw [View.set_whole]; exact Finset.subset_univ _)) $$ Ho; iintro Ho
  try unfold WP
  rw [wp_ret]; imodintro
  iapply Hk
  isplitl [HO]; · iexact HO
  isplitl [Hk0 Hk0s Hk0v]
  · isplitl [Hk0s]; · iexact Hk0s
    isplitl [Hk0]; · iexact Hk0
    iexact Hk0v
  isplitl [Hk1 Hk1s Hk1v]
  · isplitl [Hk1s]; · iexact Hk1s
    isplitl [Hk1]; · iexact Hk1
    iexact Hk1v
  isplitl [Hv0 Hv0s Hv0v]
  · isplitl [Hv0s]; · iexact Hv0s
    isplitl [Hv0]; · iexact Hv0
    iexact Hv0v
  isplitl [Hv1 Hv1s Hv1v]
  · isplitl [Hv1s]; · iexact Hv1s
    isplitl [Hv1]; · iexact Hv1
    iexact Hv1v
  isplitl [Hos]; · iexact Hos
  isplitl [Ho]; · iexact Ho
  iexact Hov

end Parts

end Cert.KernelIdeal.Own
-- ==== Proof.Pieces.lean ====
/-
The buffers cut into the pieces the protocol hands around, and joined again: the partial product by blocks of 32 rows, the landing
buffers by slots, the reduced rows by read shares; and the result's eight row blocks, which cover the result.
-/
module

public import proofs.«01_k».proof.Proof.PartsA
public import proofs.«01_k».proof.Proof.Facts

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Which elements each piece has -/

abbrev chunkS (j : Dev nD) : Finset S256x1024.Idx := (pChunk j).view.set
theorem mem_chunk (j : Dev nD) (i : S256x1024.Idx) : i ∈ (pChunk j).view.set ↔ 32 * j.val ≤ (i 0).val ∧ (i 0).val < 32 * j.val + 32 := by
  rw [show (pChunk j).view.set = (chunkR j).set from View.set_slice_whole _ _, Rect.mem_set_unit]
  constructor
  · intro h; exact h 0
  · intro h a
    fin_cases a
    · exact h
    · exact ⟨Nat.zero_le _, (i 1).isLt⟩
theorem mem_top (i : S256x1024.Idx) : i ∈ (pM.access topR).setOn Finset.univ ↔ (i 0).val < 128 := by
  rw [show (pM.access topR).setOn Finset.univ = topR.set from View.set_slice_whole _ _, Rect.mem_set_unit]
  constructor
  · intro h; have := (h 0).2; exact this
  · intro h a
    fin_cases a
    · exact ⟨Nat.zero_le _, h⟩
    · exact ⟨Nat.zero_le _, (i 1).isLt⟩
theorem mem_bot (i : S256x1024.Idx) : i ∈ (pM.access botR).setOn Finset.univ ↔ 128 ≤ (i 0).val := by
  rw [show (pM.access botR).setOn Finset.univ = botR.set from View.set_slice_whole _ _, Rect.mem_set_unit]
  constructor
  · intro h; exact (h 0).1
  · intro h a
    fin_cases a
    · exact ⟨h, (i 0).isLt⟩
    · exact ⟨Nat.zero_le _, (i 1).isLt⟩

/-- The device whose block a row is in. -/
def rowDev (i : S256x1024.Idx) : Dev nD := ⟨(i 0).val / 32, by have : (i 0).val < 256 := (i 0).isLt; show _ < 8; omega⟩
theorem mem_rowDev (i : S256x1024.Idx) : i ∈ chunkS (rowDev i) :=
  (mem_chunk (rowDev i) i).2 ⟨by show 32 * ((i 0).val / 32) ≤ _; omega, by show _ < 32 * ((i 0).val / 32) + 32; omega⟩

theorem chunk_disjoint (j j' : Dev nD) (h : j ≠ j') : Disjoint (pChunk j).view.set (pChunk j').view.set := by
  refine Finset.disjoint_left.2 fun i h₁ h₂ => h (Fin.ext ?_)
  rw [mem_chunk] at h₁ h₂; omega
theorem chunk_cover : Finset.univ.biUnion chunkS = Finset.univ := by
  ext i
  simp only [Finset.mem_biUnion, Finset.mem_univ, true_and, iff_true]
  have hi : (i 0).val < 256 := (i 0).isLt
  exact ⟨rowDev i, mem_rowDev i⟩

/-- The lower blocks together. -/
def botS : Finset S256x1024.Idx := ({4, 5, 6, 7} : Finset (Dev nD)).biUnion chunkS
theorem bot_sub : (pM.access botR).setOn Finset.univ ⊆ botS := fun i hi => by
  rw [mem_bot] at hi
  exact Finset.mem_biUnion.2 ⟨rowDev i, (show ∀ d : Fin 8, 4 ≤ d.val → d ∈ ({4, 5, 6, 7} : Finset (Fin 8)) from by decide) (rowDev i) (by show 4 ≤ (i 0).val / 32; omega), mem_rowDev i⟩

theorem bot_load : pM.view.setOn botR.toLoadRect.set ⊆ botS :=
  (subset_of_eq (View.set_slice pM.view botR).symm).trans bot_sub

/-! ## The partial product -/

section P
variable (c : Dev nD)

abbrev botPts (f : Buf (Elt F) ((c : Thread nD τ).loc cc0_scratch4)) : sProp 𝕄 := pM.view.loc (c : Thread nD τ) ↦[botS]{fullShare} f

theorem top_chunk (j : Dev nD) (hj : j.val < 4) (f : Buf (Elt F) ((c : Thread nD τ).loc cc0_scratch4)) :
    pPts c j ((pM.access topR).write (Elt F) f (pTop m c) Finset.univ) = pPts c j (pC m c) := by
  unfold pPts pC
  refine pointsTo_congr fun i hi => ?_
  have h := (mem_chunk j i).1 hi
  have ht := (mem_top i).2 (by omega)
  rw [View.write_of_not_mem (v := pM.access botR) _ _ _ (fun hb => by have := (mem_bot i).1 hb; omega), View.write_eq_piecewise (v := pM.access topR) f (m ((c : Thread nD τ).loc cc0_scratch4)),
    Finset.piecewise_eq_of_mem _ _ _ ht]
theorem bot_chunk (j : Dev nD) (hj : 4 ≤ j.val) (f : Buf (Elt F) ((c : Thread nD τ).loc cc0_scratch4)) :
    pPts c j ((pM.access botR).write (Elt F) f (pBot m c) Finset.univ) = pPts c j (pC m c) := by
  unfold pPts pC
  refine pointsTo_congr fun i hi => ?_
  have h := (mem_chunk j i).1 hi
  have ht := (mem_bot i).2 (by omega)
  rw [View.write_eq_piecewise (v := pM.access botR) f ((pM.access topR).write (Elt F) (m ((c : Thread nD τ).loc cc0_scratch4)) (pTop m c) Finset.univ),
    Finset.piecewise_eq_of_mem _ _ _ ht]

omit [FloatOps F] in
theorem p_chunks (f : Buf (Elt F) ((c : Thread nD τ).loc cc0_scratch4)) :
    (pM.view.loc (c : Thread nD τ) ↦[Finset.univ]{fullShare} f : sProp 𝕄) = bigSep Finset.univ fun j : Dev nD => pPts c j f :=
  Ring.pointsTo_blocks (ℓ := (c : Thread nD τ).loc cc0_scratch4) chunkS chunk_disjoint chunk_cover f
omit [FloatOps F] in
theorem p_bots (f : Buf (Elt F) ((c : Thread nD τ).loc cc0_scratch4)) :
    (botPts c f : sProp 𝕄) = bigSep ({4, 5, 6, 7} : Finset (Dev nD)) fun j => pPts c j f :=
  pointsTo_biUnion (ℓ := (c : Thread nD τ).loc cc0_scratch4) _ chunkS fun j _ j' _ h => chunk_disjoint j j' h

omit [FloatOps F] in
theorem bots_list (Φ : Dev nD → sProp 𝕄) : bigSep ({4, 5, 6, 7} : Finset (Dev nD)) Φ = iprop(Φ 4 ∗ Φ 5 ∗ Φ 6 ∗ Φ 7) := by
  rw [show ({4, 5, 6, 7} : Finset (Dev nD)) = {(4 : Dev nD), 5, 6, 7} from rfl, bigSep_insert (by decide), bigSep_insert (by decide), bigSep_insert (by decide), bigSep_singleton]
  rfl
omit [FloatOps F] in
theorem chunks_list (Φ : Dev nD → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [(0 : Dev nD), 1, 2, 3, 4, 5, 6, 7] (by decide) (by decide)]
  simp only [bigSepL_cons_cons, bigSepL_singleton]; rfl
omit [FloatOps F] in
theorem steps_list (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [(0 : Fin 7), 1, 2, 3, 4, 5, 6] (by decide) (by decide)]
  simp only [bigSepL_cons_cons, bigSepL_singleton]; rfl

/-- After the upper store: the four upper blocks at their contents, the lower rows at whatever they hold. -/
theorem p_top (f : Buf (Elt F) ((c : Thread nD τ).loc cc0_scratch4)) :
    (pM.view.loc (c : Thread nD τ) ↦[Finset.univ]{fullShare} ((pM.access topR).write (Elt F) f (pTop m c) Finset.univ) : sProp 𝕄)
      ⊢ iprop((pPts c 0 (pC m c) ∗ pPts c 1 (pC m c) ∗ pPts c 2 (pC m c) ∗ pPts c 3 (pC m c)) ∗ ∃ g, botPts c g) := by
  rw [p_chunks, chunks_list, top_chunk m c 0 (by decide), top_chunk m c 1 (by decide), top_chunk m c 2 (by decide), top_chunk m c 3 (by decide)]
  iintro ⟨H0, H1, H2, H3, H⟩
  isplitl [H0 H1 H2 H3]
  · isplitl [H0]; · iexact H0
    isplitl [H1]; · iexact H1
    isplitl [H2]; · iexact H2
    iexact H3
  iexists _
  rw [p_bots, bots_list]
  iexact H

/-- After the lower store: the four lower blocks. -/
theorem p_bot (f : Buf (Elt F) ((c : Thread nD τ).loc cc0_scratch4)) :
    (botPts c ((pM.access botR).write (Elt F) f (pBot m c) Finset.univ) : sProp 𝕄)
      ⊢ iprop(pPts c 4 (pC m c) ∗ pPts c 5 (pC m c) ∗ pPts c 6 (pC m c) ∗ pPts c 7 (pC m c)) := by
  rw [p_bots, bots_list, bot_chunk m c 4 (by decide), bot_chunk m c 5 (by decide), bot_chunk m c 6 (by decide), bot_chunk m c 7 (by decide)]

end P

/-! ## The slots -/

abbrev rsS (k : Fin 8) : Finset S8x32x1024.Idx := (rsSlot k).view.set
theorem mem_rs (k : Fin 8) (i : S8x32x1024.Idx) : i ∈ (rsSlot k).view.set ↔ (i 0).val = k.val := by
  rw [show @Eq (Finset S8x32x1024.Idx) (rsSlot k).view.set (slotR k).set from (View.set_reshape _ _).trans (View.set_slice_whole _ _), Rect.mem_set_unit]
  constructor
  · intro h; have h₁ : k.val ≤ (i 0).val := (h 0).1; have h₂ : (i 0).val < k.val + 1 := (h 0).2; omega
  · intro h a
    fin_cases a
    · exact ⟨h.ge, by show (i 0).val < k.val + 1; omega⟩
    · exact ⟨Nat.zero_le _, by show (i 1).val < 0 + _; rw [Nat.zero_add]; exact (i 1).isLt⟩
    · exact ⟨Nat.zero_le _, by show (i 2).val < 0 + _; rw [Nat.zero_add]; exact (i 2).isLt⟩
theorem rs_disjoint (k k' : Fin 8) (h : k ≠ k') : Disjoint (rsSlot k).view.set (rsSlot k').view.set := by
  refine Finset.disjoint_left.2 fun i h₁ h₂ => h (Fin.ext ?_)
  rw [mem_rs] at h₁ h₂; omega
theorem rs_cover : Finset.univ.biUnion rsS = Finset.univ := by
  ext i
  simp only [Finset.mem_biUnion, Finset.mem_univ, true_and, iff_true]
  exact ⟨⟨(i 0).val, (i 0).isLt⟩, (mem_rs _ i).2 rfl⟩
omit [FloatOps F] in
theorem rs_split (c : Dev nD) (f : Buf (Elt F) ((c : Thread nD τ).loc cc0_scratch5)) :
    (rsM.view.loc (c : Thread nD τ) ↦[Finset.univ]{fullShare} f : sProp 𝕄) = bigSep Finset.univ fun k : Fin 8 => rsPts c k f :=
  Ring.pointsTo_blocks (ℓ := (c : Thread nD τ).loc cc0_scratch5) rsS rs_disjoint rs_cover f
omit [FloatOps F] in
theorem rs_join (c : Dev nD) (f : Buf (Elt F) ((c : Thread nD τ).loc cc0_scratch5)) :
    bigSep Finset.univ (fun k : Fin 8 => iprop(∃ f, rsPts (F := F) c k f))
      ⊢ (iprop(∃ f, rsM.view.loc (c : Thread nD τ) ↦[Finset.univ]{fullShare} f) : sProp 𝕄) :=
  Ring.pointsTo_blocks_join_exists (ℓ := (c : Thread nD τ).loc cc0_scratch5) rsS rs_disjoint rs_cover f

abbrev agS (k : Fin 8) : Finset S8x32x1024.Idx := (agSlot k).view.set
theorem mem_ag (k : Fin 8) (i : S8x32x1024.Idx) : i ∈ (agSlot k).view.set ↔ (i 0).val = k.val := by
  rw [show @Eq (Finset S8x32x1024.Idx) (agSlot k).view.set (slotR k).set from (View.set_reshape _ _).trans (View.set_slice_whole _ _), Rect.mem_set_unit]
  constructor
  · intro h; have h₁ : k.val ≤ (i 0).val := (h 0).1; have h₂ : (i 0).val < k.val + 1 := (h 0).2; omega
  · intro h a
    fin_cases a
    · exact ⟨h.ge, by show (i 0).val < k.val + 1; omega⟩
    · exact ⟨Nat.zero_le _, by show (i 1).val < 0 + _; rw [Nat.zero_add]; exact (i 1).isLt⟩
    · exact ⟨Nat.zero_le _, by show (i 2).val < 0 + _; rw [Nat.zero_add]; exact (i 2).isLt⟩
theorem ag_disjoint (k k' : Fin 8) (h : k ≠ k') : Disjoint (agSlot k).view.set (agSlot k').view.set := by
  refine Finset.disjoint_left.2 fun i h₁ h₂ => h (Fin.ext ?_)
  rw [mem_ag] at h₁ h₂; omega
theorem ag_cover : Finset.univ.biUnion agS = Finset.univ := by
  ext i
  simp only [Finset.mem_biUnion, Finset.mem_univ, true_and, iff_true]
  exact ⟨⟨(i 0).val, (i 0).isLt⟩, (mem_ag _ i).2 rfl⟩
omit [FloatOps F] in
theorem ag_split (c : Dev nD) (f : Buf (Elt F) ((c : Thread nD τ).loc cc0_scratch7)) :
    (agM.view.loc (c : Thread nD τ) ↦[Finset.univ]{fullShare} f : sProp 𝕄) = bigSep Finset.univ fun k : Fin 8 => agPts c k f :=
  Ring.pointsTo_blocks (ℓ := (c : Thread nD τ).loc cc0_scratch7) agS ag_disjoint ag_cover f
omit [FloatOps F] in
theorem ag_join (c : Dev nD) (f : Buf (Elt F) ((c : Thread nD τ).loc cc0_scratch7)) :
    bigSep Finset.univ (fun k : Fin 8 => iprop(∃ f, agPts (F := F) c k f))
      ⊢ (iprop(∃ f, agM.view.loc (c : Thread nD τ) ↦[Finset.univ]{fullShare} f) : sProp 𝕄) :=
  Ring.pointsTo_blocks_join_exists (ℓ := (c : Thread nD τ).loc cc0_scratch7) agS ag_disjoint ag_cover f

abbrev wqS (k : Fin 4) : Finset S4x1024x256.Idx := (wqSlot k).view.set
theorem mem_wq (k : Fin 4) (i : S4x1024x256.Idx) : i ∈ (wqSlot k).view.set ↔ (i 0).val = k.val := by
  rw [show @Eq (Finset S4x1024x256.Idx) (wqSlot k).view.set (wqR k).set from (View.set_reshape _ _).trans (View.set_slice_whole _ _), Rect.mem_set_unit]
  constructor
  · intro h; have h₁ : k.val ≤ (i 0).val := (h 0).1; have h₂ : (i 0).val < k.val + 1 := (h 0).2; omega
  · intro h a
    fin_cases a
    · exact ⟨h.ge, by show (i 0).val < k.val + 1; omega⟩
    · exact ⟨Nat.zero_le _, by show (i 1).val < 0 + _; rw [Nat.zero_add]; exact (i 1).isLt⟩
    · exact ⟨Nat.zero_le _, by show (i 2).val < 0 + _; rw [Nat.zero_add]; exact (i 2).isLt⟩
theorem wq_disjoint (k k' : Fin 4) (h : k ≠ k') : Disjoint (wqSlot k).view.set (wqSlot k').view.set := by
  refine Finset.disjoint_left.2 fun i h₁ h₂ => h (Fin.ext ?_)
  rw [mem_wq] at h₁ h₂; omega
theorem wq_cover : Finset.univ.biUnion wqS = Finset.univ := by
  ext i
  simp only [Finset.mem_biUnion, Finset.mem_univ, true_and, iff_true]
  exact ⟨⟨(i 0).val, (i 0).isLt⟩, (mem_wq _ i).2 rfl⟩
omit [FloatOps F] in
theorem wq_split (c : Dev nD) (f : Buf (Elt F) ((c : Thread nD τ).loc cc0_scratch2)) :
    (wqM.view.loc (c : Thread nD τ) ↦[Finset.univ]{fullShare} f : sProp 𝕄) = bigSep Finset.univ fun k : Fin 4 => qPts c k f :=
  Ring.pointsTo_blocks (ℓ := (c : Thread nD τ).loc cc0_scratch2) wqS wq_disjoint wq_cover f
omit [FloatOps F] in
theorem wq_join (c : Dev nD) (f : Buf (Elt F) ((c : Thread nD τ).loc cc0_scratch2)) :
    bigSep Finset.univ (fun k : Fin 4 => iprop(∃ f, qPts (F := F) c k f))
      ⊢ (iprop(∃ f, wqM.view.loc (c : Thread nD τ) ↦[Finset.univ]{fullShare} f) : sProp 𝕄) :=
  Ring.pointsTo_blocks_join_exists (ℓ := (c : Thread nD τ).loc cc0_scratch2) wqS wq_disjoint wq_cover f

abbrev kkS (k : Fin 2) : Finset S2x4096x128.Idx := (kSlot k).view.set
theorem mem_kk (k : Fin 2) (i : S2x4096x128.Idx) : i ∈ (kSlot k).view.set ↔ (i 0).val = k.val := by
  rw [show @Eq (Finset S2x4096x128.Idx) (kSlot k).view.set (kvR k).set from (View.set_reshape _ _).trans (View.set_slice_whole _ _), Rect.mem_set_unit]
  constructor
  · intro h; have h₁ : k.val ≤ (i 0).val := (h 0).1; have h₂ : (i 0).val < k.val + 1 := (h 0).2; omega
  · intro h a
    fin_cases a
    · exact ⟨h.ge, by show (i 0).val < k.val + 1; omega⟩
    · exact ⟨Nat.zero_le _, by show (i 1).val < 0 + _; rw [Nat.zero_add]; exact (i 1).isLt⟩
    · exact ⟨Nat.zero_le _, by show (i 2).val < 0 + _; rw [Nat.zero_add]; exact (i 2).isLt⟩
theorem kk_disjoint (k k' : Fin 2) (h : k ≠ k') : Disjoint (kSlot k).view.set (kSlot k').view.set := by
  refine Finset.disjoint_left.2 fun i h₁ h₂ => h (Fin.ext ?_)
  rw [mem_kk] at h₁ h₂; omega
theorem kk_cover : Finset.univ.biUnion kkS = Finset.univ := by
  ext i
  simp only [Finset.mem_biUnion, Finset.mem_univ, true_and, iff_true]
  exact ⟨⟨(i 0).val, (i 0).isLt⟩, (mem_kk _ i).2 rfl⟩
omit [FloatOps F] in
theorem kk_split (c : Dev nD) (f : Buf (Elt F) ((c : Thread nD τ).loc cc0_scratch0)) :
    (kM.view.loc (c : Thread nD τ) ↦[Finset.univ]{fullShare} f : sProp 𝕄) = bigSep Finset.univ fun k : Fin 2 => kPts c k f :=
  Ring.pointsTo_blocks (ℓ := (c : Thread nD τ).loc cc0_scratch0) kkS kk_disjoint kk_cover f
omit [FloatOps F] in
theorem kk_join (c : Dev nD) (f : Buf (Elt F) ((c : Thread nD τ).loc cc0_scratch0)) :
    bigSep Finset.univ (fun k : Fin 2 => iprop(∃ f, kPts (F := F) c k f))
      ⊢ (iprop(∃ f, kM.view.loc (c : Thread nD τ) ↦[Finset.univ]{fullShare} f) : sProp 𝕄) :=
  Ring.pointsTo_blocks_join_exists (ℓ := (c : Thread nD τ).loc cc0_scratch0) kkS kk_disjoint kk_cover f

abbrev vvsS (k : Fin 2) : Finset S2x4096x128.Idx := (vSlot k).view.set
theorem mem_vvs (k : Fin 2) (i : S2x4096x128.Idx) : i ∈ (vSlot k).view.set ↔ (i 0).val = k.val := by
  rw [show @Eq (Finset S2x4096x128.Idx) (vSlot k).view.set (kvR k).set from (View.set_reshape _ _).trans (View.set_slice_whole _ _), Rect.mem_set_unit]
  constructor
  · intro h; have h₁ : k.val ≤ (i 0).val := (h 0).1; have h₂ : (i 0).val < k.val + 1 := (h 0).2; omega
  · intro h a
    fin_cases a
    · exact ⟨h.ge, by show (i 0).val < k.val + 1; omega⟩
    · exact ⟨Nat.zero_le _, by show (i 1).val < 0 + _; rw [Nat.zero_add]; exact (i 1).isLt⟩
    · exact ⟨Nat.zero_le _, by show (i 2).val < 0 + _; rw [Nat.zero_add]; exact (i 2).isLt⟩
theorem vvs_disjoint (k k' : Fin 2) (h : k ≠ k') : Disjoint (vSlot k).view.set (vSlot k').view.set := by
  refine Finset.disjoint_left.2 fun i h₁ h₂ => h (Fin.ext ?_)
  rw [mem_vvs] at h₁ h₂; omega
theorem vvs_cover : Finset.univ.biUnion vvsS = Finset.univ := by
  ext i
  simp only [Finset.mem_biUnion, Finset.mem_univ, true_and, iff_true]
  exact ⟨⟨(i 0).val, (i 0).isLt⟩, (mem_vvs _ i).2 rfl⟩
omit [FloatOps F] in
theorem vvs_split (c : Dev nD) (f : Buf (Elt F) ((c : Thread nD τ).loc cc0_scratch1)) :
    (vM.view.loc (c : Thread nD τ) ↦[Finset.univ]{fullShare} f : sProp 𝕄) = bigSep Finset.univ fun k : Fin 2 => vPts c k f :=
  Ring.pointsTo_blocks (ℓ := (c : Thread nD τ).loc cc0_scratch1) vvsS vvs_disjoint vvs_cover f
omit [FloatOps F] in
theorem vvs_join (c : Dev nD) (f : Buf (Elt F) ((c : Thread nD τ).loc cc0_scratch1)) :
    bigSep Finset.univ (fun k : Fin 2 => iprop(∃ f, vPts (F := F) c k f))
      ⊢ (iprop(∃ f, vM.view.loc (c : Thread nD τ) ↦[Finset.univ]{fullShare} f) : sProp 𝕄) :=
  Ring.pointsTo_blocks_join_exists (ℓ := (c : Thread nD τ).loc cc0_scratch1) vvsS vvs_disjoint vvs_cover f

/-! ## The arguments, lent by shares to the copies -/

omit [FloatOps F] in
theorem lend {ℓ : Loc nD τ sig} (n : ℕ) (S : Fin n → Finset (Idx ℓ)) (f : Buf (Elt F) ℓ) :
    (ℓ ↦{fullShare} f : sProp 𝕄)
      ⊢ iprop(bigSep Finset.univ (fun i : Fin n => ℓ ↦[S i]{Transfers.shareTok fullShare n i} f)
        ∗ (bigSep Finset.univ (fun i : Fin n => ℓ ↦[S i]{Transfers.shareTok fullShare n i} f) -∗ ℓ ↦{fullShare} f)) := by
  have h : bigSep Finset.univ (fun i : Fin n => (ℓ ↦[Finset.univ]{Transfers.shareTok fullShare n i} f : sProp 𝕄))
      = iprop(bigSep Finset.univ (fun i : Fin n => ℓ ↦[S i]{Transfers.shareTok fullShare n i} f)
        ∗ bigSep Finset.univ (fun i : Fin n => ℓ ↦[Finset.univ \ S i]{Transfers.shareTok fullShare n i} f)) := by
    refine Eq.trans ?_ (bigSep_sep _ _ _)
    exact bigSep_congr fun i _ => Entails.antisymm (pointsTo_split_subset (Finset.subset_univ (S i))).1 (pointsTo_split_subset (Finset.subset_univ (S i))).2
  iintro H
  ihave ⟨Hd, Ht⟩ := (Transfers.pointsTo_toks_split fullShare n) $$ H
  ihave ⟨Ht, Hr⟩ := (Entails.of_eq h) $$ Ht
  isplitl [Ht]; · iexact Ht
  iintro Ht
  iapply (Transfers.pointsTo_toks_join fullShare n)
  isplitl [Hd]; · iexact Hd
  iapply (Entails.of_eq h.symm)
  isplitl [Ht]; · iexact Ht
  iexact Hr

/-! ## The result -/

theorem mem_own (c : Dev nD) (i : S1x256x1024.Idx) : i ∈ (oM.access (ownO c)).setOn Finset.univ ↔ (i 1).val / 32 = c.val := by
  rw [show ownO c = Rect.unit (s := S1x256x1024) ![0, 32 * c.val, 0] S1x32x1024.size (by rw [← off19_eq]; exact k0_off19_inb c) from Rect.unit_congr (off19_eq c) _ _,
    show ∀ r : Rect S1x256x1024, (oM.access r).setOn Finset.univ = r.set from fun r => View.set_slice_whole _ _, Rect.mem_set_unit]
  constructor
  · intro h; have h₁ : 32 * c.val ≤ (i 1).val := (h 1).1; have h₂ : (i 1).val < 32 * c.val + 32 := (h 1).2; omega
  · intro h a
    fin_cases a
    · exact ⟨Nat.zero_le _, (i 0).isLt⟩
    · exact ⟨by show 32 * c.val ≤ (i 1).val; omega, by show (i 1).val < 32 * c.val + 32; omega⟩
    · exact ⟨Nat.zero_le _, by show (i 2).val < 0 + _; rw [Nat.zero_add]; exact (i 2).isLt⟩
theorem mem_oth (c : Dev nD) (u : Fin 7) (i : S1x256x1024.Idx) : i ∈ (oM.access (othO c u)).setOn Finset.univ ↔ (i 1).val / 32 = (dn c u).val := by
  rw [show othO c u = Rect.unit (s := S1x256x1024) ![0, 32 * (dn c u).val, 0] S1x32x1024.size (by rw [← off20_eq]; exact k0_off20_inb c u) from Rect.unit_congr (off20_eq c u) _ _,
    show ∀ r : Rect S1x256x1024, (oM.access r).setOn Finset.univ = r.set from fun r => View.set_slice_whole _ _, Rect.mem_set_unit]
  constructor
  · intro h; have h₁ : 32 * (dn c u).val ≤ (i 1).val := (h 1).1; have h₂ : (i 1).val < 32 * (dn c u).val + 32 := (h 1).2; omega
  · intro h a
    fin_cases a
    · exact ⟨Nat.zero_le _, (i 0).isLt⟩
    · exact ⟨by show 32 * (dn c u).val ≤ (i 1).val; omega, by show (i 1).val < 32 * (dn c u).val + 32; omega⟩
    · exact ⟨Nat.zero_le _, by show (i 2).val < 0 + _; rw [Nat.zero_add]; exact (i 2).isLt⟩

/-- One store: where it reaches, what was there before is of no account; elsewhere it stays. -/
theorem outS_at (c : Dev nD) (u : Fin 7) (f g : OBuf F) (i : S1x256x1024.Idx) (h : (i 1).val / 32 ≠ (dn c u).val → f i = g i) :
    outS m c u f i = outS m c u g i := by
  unfold outS
  by_cases hi : i ∈ (oM.access (othO c u)).setOn Finset.univ
  · rw [View.write_eq_piecewise (v := oM.access (othO c u)) f g, Finset.piecewise_eq_of_mem _ _ _ hi]
  · rw [View.write_of_not_mem (v := oM.access (othO c u)) _ _ _ hi, View.write_of_not_mem (v := oM.access (othO c u)) _ _ _ hi]
    exact h fun e => hi ((mem_oth c u i).2 e)
theorem out0_at (c : Dev nD) (f g : OBuf F) (i : S1x256x1024.Idx) (h : (i 1).val / 32 = c.val) : out0 m c f i = out0 m c g i := by
  unfold out0
  rw [View.write_eq_piecewise (v := oM.access (ownO c)) f g, Finset.piecewise_eq_of_mem _ _ _ ((mem_own c i).2 h)]

theorem some_step (c d : Dev nD) (h0 : d ≠ dn c 0) (h1 : d ≠ dn c 1) (h2 : d ≠ dn c 2) (h3 : d ≠ dn c 3) (h4 : d ≠ dn c 4) (h5 : d ≠ dn c 5) (h6 : d ≠ dn c 6) :
    d = c := by
  by_contra h
  obtain ⟨u, hu⟩ := (show ∀ c d : Dev nD, d ≠ c → ∃ u, d = dn c u from by decide) c d h
  fin_cases u
  · exact h0 hu
  · exact h1 hu
  · exact h2 hu
  · exact h3 hu
  · exact h4 hu
  · exact h5 hu
  · exact h6 hu

/-- The eight stores cover the result. -/
theorem outOver_eq (c : Dev nD) (f : OBuf F) : outOver m c f = outC m c := by
  unfold outC outOver
  funext i
  have hi : (i 1).val < 256 := (i 1).isLt
  refine outS_at m c 6 _ _ i fun h6 => outS_at m c 5 _ _ i fun h5 => outS_at m c 4 _ _ i fun h4 => outS_at m c 3 _ _ i fun h3 =>
    outS_at m c 2 _ _ i fun h2 => outS_at m c 1 _ _ i fun h1 => outS_at m c 0 _ _ i fun h0 => out0_at m c _ _ i ?_
  have hd := some_step c ⟨(i 1).val / 32, by show _ < 8; omega⟩ (fun e => h0 (congrArg Fin.val e)) (fun e => h1 (congrArg Fin.val e)) (fun e => h2 (congrArg Fin.val e))
    (fun e => h3 (congrArg Fin.val e)) (fun e => h4 (congrArg Fin.val e)) (fun e => h5 (congrArg Fin.val e)) (fun e => h6 (congrArg Fin.val e))
  exact congrArg Fin.val hd

end Cert.KernelIdeal.Own
-- ==== Proof.PartsB.lean ====
/-
The parts that compute the partial product and send its blocks.
-/
module

public import proofs.«01_k».proof.Proof.Pieces

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

attribute [local irreducible] k0_cond1 k0_cond2 k0_cond3 k0_cond4 k0_cond5 k0_cond6 k0_cond7 k0_cond8

section Parts
variable (c : Dev nD)

theorem part8_wp {Q : (Σ' (_ : FVec F S128x128 .f32) (_ : FVec F S128x128 .f32) (_ : FVec F S128x128 .f32) (_ : FVec F S128x128 .f32) (_ : FVec F S128x128 .f32)
      (_ : FVec F S128x128 .bf16), FVec F S128x4096 .f32) → sProp 𝕄} :
    (Q ⟨k0_pay15 (k0B m c) (v0B m c) (k0_pay14 (q1 m c)) zS, k0_pay16 (q1 m c) (k0B m c) (v0B m c), k0_pay17 (q2 m c) (k1B m c) (v1B m c),
        k0_pay18 (q2 m c) (k1B m c) (v1B m c), k0_pay19 (q3 m c) (k1B m c) (v1B m c), k0_pay20 (q3 m c), zS⟩ : sProp 𝕄)
      ⊢ WP c (k0_part8_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 (q1 m c) (q2 m c) (q3 m c) (k0B m c) (k1B m c) (v0B m c) (v1B m c) (k0_pay14 (q1 m c)) zS) Q := by
  unfold k0_part8_skel zS
  simp only [Prog.pure_eq_ret]
  iintro H
  try unfold WP
  rw [wp_ret]; imodintro
  iexact H

theorem part9_wp {Q : (Σ' (_ : BitVec 32), BitVec 32) → sProp 𝕄} (v2 : BitVec 32) :
    iprop(Recs m K ∗ (∃ f, pM.view.loc (c : Thread nD τ) ↦[Finset.univ]{fullShare} f) ∗ (kitR (F := F) c 0 ∗ kitR (F := F) c 1 ∗ kitR (F := F) c 2) ∗ ow c (OSAll c)
        ∗ (∀ w, ((sent m c 0 ∗ sent m c 1 ∗ sent m c 2) ∗ pPts c 3 (pC m c) ∗ (∃ g, botPts c g) ∗ ow c (OS c [3, 4, 5, 6, 7])) -∗ Q w))
      ⊢ WP c (k0_part9_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 c v2 (k1B m c) (v1B m c) (woB m c) (k0_pay12 (q0 m c) (kv m c 0) (vv m c 0)) (k0_pay13 (q0 m c) (kv m c 0) (vv m c 0))
        (k0_pay15 (k0B m c) (v0B m c) (k0_pay14 (q1 m c)) zS) (k0_pay16 (q1 m c) (k0B m c) (v0B m c)) (k0_pay17 (q2 m c) (k1B m c) (v1B m c))
        (k0_pay18 (q2 m c) (k1B m c) (v1B m c)) (k0_pay19 (q3 m c) (k1B m c) (v1B m c)) (k0_pay20 (q3 m c)) zS) Q := by
  unfold k0_part9_skel
  simp only [semSignalWord, semWaitWord, Prog.lift, Prog.bind_op, Prog.bind_ret, Prog.pure_eq_ret, wp_deviceId]
  iintro ⟨#HR, ⟨%f, Hp⟩, ⟨H0, H1, H2⟩, HO, Hk⟩
  iapply (wp_load 𝒱₀ (c : Thread nD τ) none Set.univ (m := pM) (Finset.subset_univ _)) $$ Hp; iintro Hp
  iapply (wp_store 𝒱₀ (c : Thread nD τ) none Set.univ (m := pM) (r := topR) (Mk := Finset.univ) (Finset.subset_univ _)) $$ Hp; iintro Hp
  have hp := p_top m c f
  unfold pTop at hp
  ihave ⟨⟨Hp0, Hp1, Hp2, Hp3⟩, Hb⟩ := hp $$ Hp
  iapply (rs_cond m K c 0 [1, 2, 3, 4, 5, 6, 7] (cond1_iff c) (d := fun h => ⟨k0_dev8, k0_dev8_lt c h⟩) (fun _ => Fin.ext dev8_eq) (o := ![0, 0]) rfl (off3_eq c)
    (fun h => sem_at 0 (stepTo c 0) _ (off2_eq c h)) (fun h => sem_at 1 (stepTo c 0) _ (off2_eq c h))) $$ [Hp0 H0 HO]
  · isplitr; · iexact HR
    isplitl [Hp0]; · iexact Hp0
    isplitl [H0]; · iexact H0
    iexact HO
  iintro ⟨H0, HO⟩
  iapply (rs_cond m K c 1 [2, 3, 4, 5, 6, 7] (cond2_iff c) (d := fun h => ⟨k0_dev9, k0_dev9_lt c h⟩) (fun _ => Fin.ext dev9_eq) (o := ![32, 0]) rfl (off5_eq c)
    (fun h => sem_at 0 (stepTo c 1) _ (off4_eq c h)) (fun h => sem_at 1 (stepTo c 1) _ (off4_eq c h))) $$ [Hp1 H1 HO]
  · isplitr; · iexact HR
    isplitl [Hp1]; · iexact Hp1
    isplitl [H1]; · iexact H1
    iexact HO
  iintro ⟨H1, HO⟩
  iapply (rs_cond m K c 2 [3, 4, 5, 6, 7] (cond3_iff c) (d := fun h => ⟨k0_dev10, k0_dev10_lt c h⟩) (fun _ => Fin.ext dev10_eq) (o := ![64, 0]) rfl (off7_eq c)
    (fun h => sem_at 0 (stepTo c 2) _ (off6_eq c h)) (fun h => sem_at 1 (stepTo c 2) _ (off6_eq c h))) $$ [Hp2 H2 HO]
  · isplitr; · iexact HR
    isplitl [Hp2]; · iexact Hp2
    isplitl [H2]; · iexact H2
    iexact HO
  iintro ⟨H2, HO⟩
  try unfold WP
  rw [wp_ret]; imodintro
  iapply Hk $$ %_
  isplitl [H0 H1 H2]
  · isplitl [H0]; · iexact H0
    isplitl [H1]; · iexact H1
    iexact H2
  isplitl [Hp3]; · iexact Hp3
  isplitl [Hb]; · iexact Hb
  iexact HO

theorem part10_wp {Q : (Σ' (_ : FVec F S128x128 .f32) (_ : FVec F S128x128 .f32) (_ : FVec F S128x128 .f32) (_ : FVec F S128x128 .f32), FVec F S128x4096 .f32) → sProp 𝕄} (w₁ w₂ : BitVec 32) :
    iprop(Recs m K ∗ pPts c 3 (pC m c) ∗ kitR (F := F) c 3 ∗ ow c (OS c [3, 4, 5, 6, 7])
        ∗ ((sent m c 3 ∗ ow c (OS c [4, 5, 6, 7])) -∗ Q ⟨k0_pay22 (q0 m c) (k0B m c) (v0B m c), k0_pay23 (q0 m c) (k0B m c) (v0B m c),
          k0_pay24 (q1 m c) (k0B m c) (v0B m c), k0_pay25 (q1 m c) (k0B m c) (v0B m c), k0_pay26 (q2 m c) (k1B m c)⟩))
      ⊢ WP c (k0_part10_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 c (q0 m c) (q1 m c) (q2 m c) (k0B m c) (k1B m c) (v0B m c) w₁ w₂) Q := by
  unfold k0_part10_skel
  simp only [semSignalWord, semWaitWord, Prog.lift, Prog.bind_op, Prog.bind_ret, Prog.pure_eq_ret, wp_deviceId]
  iintro ⟨#HR, Hp3, H3, HO, Hk⟩
  iapply (rs_cond m K c 3 [4, 5, 6, 7] (cond4_iff c) (d := fun h => ⟨k0_dev11, k0_dev11_lt c h⟩) (fun _ => Fin.ext dev11_eq) (o := ![96, 0]) rfl (off9_eq c)
    (fun h => sem_at 0 (stepTo c 3) _ (off8_eq c h)) (fun h => sem_at 1 (stepTo c 3) _ (off8_eq c h))) $$ [Hp3 H3 HO]
  · isplitr; · iexact HR
    isplitl [Hp3]; · iexact Hp3
    isplitl [H3]; · iexact H3
    iexact HO
  iintro ⟨H3, HO⟩
  try unfold WP
  rw [wp_ret]; imodintro
  iapply Hk
  isplitl [H3]; · iexact H3
  iexact HO

theorem part11_wp {Q : BitVec 32 → sProp 𝕄} (v2 : BitVec 32) :
    iprop((∃ g, botPts c g)
        ∗ (∀ w, (pPts c 4 (pC m c) ∗ pPts c 5 (pC m c) ∗ pPts c 6 (pC m c) ∗ pPts c 7 (pC m c)) -∗ Q w))
      ⊢ WP c (k0_part11_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 v2 (q2 m c) (q3 m c) (k1B m c) (v1B m c) (woB m c) (k0_pay22 (q0 m c) (k0B m c) (v0B m c)) (k0_pay23 (q0 m c) (k0B m c) (v0B m c))
    (k0_pay24 (q1 m c) (k0B m c) (v0B m c)) (k0_pay25 (q1 m c) (k0B m c) (v0B m c)) (k0_pay26 (q2 m c) (k1B m c))) Q := by
  unfold k0_part11_skel
  simp only [semSignalWord, semWaitWord, Prog.lift, Prog.bind_op, Prog.bind_ret, Prog.pure_eq_ret, wp_deviceId]
  iintro ⟨⟨%g, Hb⟩, Hk⟩
  iapply (wp_load 𝒱₀ (c : Thread nD τ) none Set.univ (m := pM) bot_load) $$ Hb; iintro Hb
  iapply (wp_store 𝒱₀ (c : Thread nD τ) none Set.univ (m := pM) (r := botR) (Mk := Finset.univ) bot_sub) $$ Hb; iintro Hb
  try unfold WP
  rw [wp_ret]; imodintro
  iapply Hk $$ %_
  have hp := p_bot m c g
  unfold pBot at hp
  iapply hp $$ Hb

theorem part12_wp {Q : PUnit → sProp 𝕄} (w₁ w₂ : BitVec 32) :
    iprop(Recs m K ∗ (pPts c 4 (pC m c) ∗ pPts c 5 (pC m c) ∗ pPts c 6 (pC m c) ∗ pPts c 7 (pC m c))
        ∗ (kitR (F := F) c 4 ∗ kitR (F := F) c 5 ∗ kitR (F := F) c 6 ∗ kitR (F := F) c 7) ∗ ow c (OS c [4, 5, 6, 7])
        ∗ (((sent m c 4 ∗ sent m c 5 ∗ sent m c 6 ∗ sent m c 7) ∗ ow c (OAll c)) -∗ Q ⟨⟩))
      ⊢ WP c (k0_part12_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 c w₁ w₂) Q := by
  unfold k0_part12_skel
  simp only [semSignalWord, semWaitWord, Prog.lift, Prog.bind_op, Prog.bind_ret, Prog.pure_eq_ret, wp_deviceId]
  iintro ⟨#HR, ⟨Hp4, Hp5, Hp6, Hp7⟩, ⟨H4, H5, H6, H7⟩, HO, Hk⟩
  iapply (rs_cond m K c 4 [5, 6, 7] (cond5_iff c) (d := fun h => ⟨k0_dev12, k0_dev12_lt c h⟩) (fun _ => Fin.ext dev12_eq) (o := ![128, 0]) rfl (off11_eq c)
    (fun h => sem_at 0 (stepTo c 4) _ (off10_eq c h)) (fun h => sem_at 1 (stepTo c 4) _ (off10_eq c h))) $$ [Hp4 H4 HO]
  · isplitr; · iexact HR
    isplitl [Hp4]; · iexact Hp4
    isplitl [H4]; · iexact H4
    iexact HO
  iintro ⟨H4, HO⟩
  iapply (rs_cond m K c 5 [6, 7] (cond6_iff c) (d := fun h => ⟨k0_dev13, k0_dev13_lt c h⟩) (fun _ => Fin.ext dev13_eq) (o := ![160, 0]) rfl (off13_eq c)
    (fun h => sem_at 0 (stepTo c 5) _ (off12_eq c h)) (fun h => sem_at 1 (stepTo c 5) _ (off12_eq c h))) $$ [Hp5 H5 HO]
  · isplitr; · iexact HR
    isplitl [Hp5]; · iexact Hp5
    isplitl [H5]; · iexact H5
    iexact HO
  iintro ⟨H5, HO⟩
  iapply (rs_cond m K c 6 [7] (cond7_iff c) (d := fun h => ⟨k0_dev14, k0_dev14_lt c h⟩) (fun _ => Fin.ext dev14_eq) (o := ![192, 0]) rfl (off15_eq c)
    (fun h => sem_at 0 (stepTo c 6) _ (off14_eq c h)) (fun h => sem_at 1 (stepTo c 6) _ (off14_eq c h))) $$ [Hp6 H6 HO]
  · isplitr; · iexact HR
    isplitl [Hp6]; · iexact Hp6
    isplitl [H6]; · iexact H6
    iexact HO
  iintro ⟨H6, HO⟩
  iapply (rs_cond m K c 7 [] (cond8_iff c) (d := fun h => ⟨k0_dev15, k0_dev15_lt c h⟩) (fun _ => Fin.ext dev15_eq) (o := ![224, 0]) rfl (off17_eq c)
    (fun h => sem_at 0 (stepTo c 7) _ (off16_eq c h)) (fun h => sem_at 1 (stepTo c 7) _ (off16_eq c h))) $$ [Hp7 H7 HO]
  · isplitr; · iexact HR
    isplitl [Hp7]; · iexact Hp7
    isplitl [H7]; · iexact H7
    iexact HO
  iintro ⟨H7, HO⟩
  try unfold WP
  rw [wp_ret]; imodintro
  iapply Hk
  isplitl [H4 H5 H6 H7]
  · isplitl [H4]; · iexact H4
    isplitl [H5]; · iexact H5
    isplitl [H6]; · iexact H6
    iexact H7
  iexact HO

end Parts

end Cert.KernelIdeal.Own
-- ==== Proof.PartsC.lean ====
/-
The parts that gather what the scatter brought, send the reduced rows around and store what they bring.
-/
module

public import proofs.«01_k».proof.Proof.Pieces

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

section Parts
variable (c : Dev nD)

/-- What a wait on a transfer cell takes, and what it gives. -/
abbrev xW (f : Fin 4) (u : Fin 7) : sProp 𝕄 := iprop(cred (tallyAt (xCell f c u) () N) ∗ atPos ER (xCell f c u) 0 ∅ 0)
abbrev xG (f : Fin 4) (u : Fin 7) : sProp 𝕄 := iprop(xPay m f c u ∗ semVal (xCell f c u) 0)
/-- What a send of the gather takes. -/
abbrev agKit (u : Fin 7) : sProp 𝕄 :=
  iprop(asPts c u (asC m c) ∗ (∃ f, agPts (F := F) (up c u) u.succ f) ∗ dutyTok ER (xCell 2 c u) 0 (0 : Fin 7) ∗ dutyTok ER (xCell 3 (up c u) u) 0 (0 : Fin 7))
/-- The credit it leaves at its own cell. -/
abbrev agCr (u : Fin 7) : sProp 𝕄 := cred (tallyAt (xCell 2 c u) () N)

abbrev outPts (f : OBuf F) : sProp 𝕄 := oM.view.loc (c : Thread nD τ) ↦[Finset.univ]{fullShare} f
abbrev asWhole (f : Buf (Elt F) ((c : Thread nD τ).loc cc0_scratch6)) : sProp 𝕄 := asM.view.loc (c : Thread nD τ) ↦[Finset.univ]{fullShare} f

theorem xPay_rs (u : Fin 7) : xPay m 1 c u = ((rsSlot u.succ).view.loc (c : Thread nD τ) ↦[(rsSlot u.succ).view.set]{fullShare} rsC m c u) := rfl
theorem xPay_ag (u : Fin 7) : xPay m 3 c u = ((agSlot u.succ).view.loc (c : Thread nD τ) ↦[(agSlot u.succ).view.set]{fullShare} agC m c u) := rfl

theorem as_any (g : Buf (Elt F) ((c : Thread nD τ).loc cc0_scratch6)) :
    (asWhole c ((asM.access asR).write (Elt F) g (k0_pay31 (sum1 m c) ((rsM.view.readAt (Elt F) (slotR (Fin.succ 1)).toLoadRect (rsC m c 1))) (rsM.view.readAt (Elt F) (slotR (Fin.succ 2)).toLoadRect (rsC m c 2)) (rsM.view.readAt (Elt F) (slotR (Fin.succ 3)).toLoadRect (rsC m c 3)) (rsM.view.readAt (Elt F) (slotR (Fin.succ 4)).toLoadRect (rsC m c 4)) (rsM.view.readAt (Elt F) (slotR (Fin.succ 5)).toLoadRect (rsC m c 5)) (rsM.view.readAt (Elt F) (slotR (Fin.succ 6)).toLoadRect (rsC m c 6))) Finset.univ) : sProp 𝕄) = asWhole c (asC m c) := by
  unfold asC redB rsv
  refine pointsTo_congr fun i _ => ?_
  have hi : i ∈ (asM.access asR).setOn Finset.univ := by
    rw [show (asM.access asR).setOn Finset.univ = asR.set from View.set_slice_whole _ _]
    exact Rect.mem_set_unit.2 fun a => by fin_cases a <;> exact ⟨Nat.zero_le _, by show _ < 0 + _; rw [Nat.zero_add]; exact (i _).isLt⟩
  rw [View.write_eq_piecewise (v := asM.access asR) g (m ((c : Thread nD τ).loc cc0_scratch6)), Finset.piecewise_eq_of_mem _ _ _ hi]

theorem part13_wp {Q : PUnit → sProp 𝕄} (v2 : BitVec 32) :
    iprop(Recs m K ∗ levAts L lv ∗ ow c (OAll c) ∗ (xW (F := F) c 1 0 ∗ xW (F := F) c 1 1 ∗ xW (F := F) c 1 2 ∗ xW (F := F) c 1 3)
        ∗ ((ow c (OAll c) ∗ (xG m c 1 0 ∗ xG m c 1 1 ∗ xG m c 1 2 ∗ xG m c 1 3)) -∗ Q ⟨⟩))
      ⊢ WP c (k0_part13_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 v2) Q := by
  unfold k0_part13_skel
  simp only [semSignalWord, semWaitWord, Prog.lift, Prog.bind_op, Prog.bind_ret, Prog.pure_eq_ret, wp_deviceId]
  iintro ⟨#HR, #Hlev, HO, ⟨W0, W1, W2, W3⟩, Hk⟩
  iapply (xwait m K 1 c 0 (n := 2) (by decide) (above_OA c _) (dst := rsSlot (Fin.succ 0)) rfl (rs_credit _)) $$ [W0 HO]
  · isplitr; · iexact HR
    isplitr; · iexact Hlev
    isplitl [HO]; · iexact HO
    iexact W0
  iintro ⟨G0, Z0, HO⟩
  iapply (xwait m K 1 c 1 (n := 2) (by decide) (above_OA c _) (dst := rsSlot (Fin.succ 1)) rfl (rs_credit _)) $$ [W1 HO]
  · isplitr; · iexact HR
    isplitr; · iexact Hlev
    isplitl [HO]; · iexact HO
    iexact W1
  iintro ⟨G1, Z1, HO⟩
  iapply (xwait m K 1 c 2 (n := 2) (by decide) (above_OA c _) (dst := rsSlot (Fin.succ 2)) rfl (rs_credit _)) $$ [W2 HO]
  · isplitr; · iexact HR
    isplitr; · iexact Hlev
    isplitl [HO]; · iexact HO
    iexact W2
  iintro ⟨G2, Z2, HO⟩
  iapply (xwait m K 1 c 3 (n := 2) (by decide) (above_OA c _) (dst := rsSlot (Fin.succ 3)) rfl (rs_credit _)) $$ [W3 HO]
  · isplitr; · iexact HR
    isplitr; · iexact Hlev
    isplitl [HO]; · iexact HO
    iexact W3
  iintro ⟨G3, Z3, HO⟩
  try unfold WP
  rw [wp_ret]; imodintro
  iapply Hk
  isplitl [HO]; · iexact HO
  isplitl [G0 Z0]
  · isplitl [G0]; · iexact G0
    iexact Z0
  isplitl [G1 Z1]
  · isplitl [G1]; · iexact G1
    iexact Z1
  isplitl [G2 Z2]
  · isplitl [G2]; · iexact G2
    iexact Z2
  isplitl [G3]; · iexact G3
  iexact Z3

theorem part14_wp {Q : (Σ' (_ : FVec F S32x1024 .f32), Vec F S1x32x1024 .bf16) → sProp 𝕄} (v2 : BitVec 32) :
    iprop(Recs m K ∗ levAts L lv ∗ ow c (OAll c) ∗ (xW (F := F) c 1 4 ∗ xW (F := F) c 1 5 ∗ xW (F := F) c 1 6) ∗ pPts c c (pC m c) ∗ (xG m c 1 0 ∗ xG m c 1 1)
        ∗ ((ow c (OAll c) ∗ pPts c c (pC m c) ∗ (xG m c 1 0 ∗ xG m c 1 1 ∗ xG m c 1 4 ∗ xG m c 1 5 ∗ xG m c 1 6)) -∗ Q ⟨sum1 m c, rsv m c 1⟩))
      ⊢ WP c (k0_part14_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 c v2) Q := by
  unfold k0_part14_skel sum1 pv rsv pPts
  simp only [semSignalWord, semWaitWord, Prog.lift, Prog.bind_op, Prog.bind_ret, Prog.pure_eq_ret, wp_deviceId]
  iintro ⟨#HR, #Hlev, HO, ⟨W4, W5, W6⟩, Hp, ⟨⟨G0, Z0⟩, ⟨G1, Z1⟩⟩, Hk⟩
  iapply (xwait m K 1 c 4 (n := 2) (by decide) (above_OA c _) (dst := rsSlot (Fin.succ 4)) rfl (rs_credit _)) $$ [W4 HO]
  · isplitr; · iexact HR
    isplitr; · iexact Hlev
    isplitl [HO]; · iexact HO
    iexact W4
  iintro ⟨G4, Z4, HO⟩
  iapply (xwait m K 1 c 5 (n := 2) (by decide) (above_OA c _) (dst := rsSlot (Fin.succ 5)) rfl (rs_credit _)) $$ [W5 HO]
  · isplitr; · iexact HR
    isplitr; · iexact Hlev
    isplitl [HO]; · iexact HO
    iexact W5
  iintro ⟨G5, Z5, HO⟩
  iapply (xwait m K 1 c 6 (n := 2) (by decide) (above_OA c _) (dst := rsSlot (Fin.succ 6)) rfl (rs_credit _)) $$ [W6 HO]
  · isplitr; · iexact HR
    isplitr; · iexact Hlev
    isplitl [HO]; · iexact HO
    iexact W6
  iintro ⟨G6, Z6, HO⟩
  iapply (wp_load 𝒱₀ (c : Thread nD τ) none Set.univ (m := pM) (p_load c)) $$ Hp; iintro Hp
  ihave G0 := (Entails.of_eq (xPay_rs m c 0)) $$ G0
  iapply (wp_load 𝒱₀ (c : Thread nD τ) none Set.univ (m := rsM) (rs_load (Fin.succ 0))) $$ G0; iintro G0
  ihave G0 := (Entails.of_eq (xPay_rs m c 0).symm) $$ G0
  ihave G1 := (Entails.of_eq (xPay_rs m c 1)) $$ G1
  iapply (wp_load 𝒱₀ (c : Thread nD τ) none Set.univ (m := rsM) (rs_load (Fin.succ 1))) $$ G1; iintro G1
  ihave G1 := (Entails.of_eq (xPay_rs m c 1).symm) $$ G1
  try unfold WP
  rw [wp_ret]; imodintro
  iapply Hk
  isplitl [HO]; · iexact HO
  isplitl [Hp]; · iexact Hp
  isplitl [G0 Z0]
  · isplitl [G0]; · iexact G0
    iexact Z0
  isplitl [G1 Z1]
  · isplitl [G1]; · iexact G1
    iexact Z1
  isplitl [G4 Z4]
  · isplitl [G4]; · iexact G4
    iexact Z4
  isplitl [G5 Z5]
  · isplitl [G5]; · iexact G5
    iexact Z5
  isplitl [G6]; · iexact G6
  iexact Z6

theorem part15_wp {Q : BitVec 32 → sProp 𝕄} (v2 : BitVec 32) (f : OBuf F) :
    iprop((xG m c 1 2 ∗ xG m c 1 3 ∗ xG m c 1 4 ∗ xG m c 1 5 ∗ xG m c 1 6) ∗ outPts c f ∗ (∃ g, asWhole c g)
        ∗ (∀ w, ((xG m c 1 2 ∗ xG m c 1 3 ∗ xG m c 1 4 ∗ xG m c 1 5 ∗ xG m c 1 6) ∗ outPts c (out0 m c f) ∗ asWhole c (asC m c)) -∗ Q w))
      ⊢ WP c (k0_part15_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 c v2 (sum1 m c) (rsv m c 1)) Q := by
  unfold k0_part15_skel out0 redF rsv
  simp only [semSignalWord, semWaitWord, Prog.lift, Prog.bind_op, Prog.bind_ret, Prog.pure_eq_ret, wp_deviceId]
  iintro ⟨⟨⟨G2, Z2⟩, ⟨G3, Z3⟩, ⟨G4, Z4⟩, ⟨G5, Z5⟩, ⟨G6, Z6⟩⟩, Hout, ⟨%g, Has⟩, Hk⟩
  ihave G2 := (Entails.of_eq (xPay_rs m c 2)) $$ G2
  iapply (wp_load 𝒱₀ (c : Thread nD τ) none Set.univ (m := rsM) (rs_load (Fin.succ 2))) $$ G2; iintro G2
  ihave G2 := (Entails.of_eq (xPay_rs m c 2).symm) $$ G2
  ihave G3 := (Entails.of_eq (xPay_rs m c 3)) $$ G3
  iapply (wp_load 𝒱₀ (c : Thread nD τ) none Set.univ (m := rsM) (rs_load (Fin.succ 3))) $$ G3; iintro G3
  ihave G3 := (Entails.of_eq (xPay_rs m c 3).symm) $$ G3
  ihave G4 := (Entails.of_eq (xPay_rs m c 4)) $$ G4
  iapply (wp_load 𝒱₀ (c : Thread nD τ) none Set.univ (m := rsM) (rs_load (Fin.succ 4))) $$ G4; iintro G4
  ihave G4 := (Entails.of_eq (xPay_rs m c 4).symm) $$ G4
  ihave G5 := (Entails.of_eq (xPay_rs m c 5)) $$ G5
  iapply (wp_load 𝒱₀ (c : Thread nD τ) none Set.univ (m := rsM) (rs_load (Fin.succ 5))) $$ G5; iintro G5
  ihave G5 := (Entails.of_eq (xPay_rs m c 5).symm) $$ G5
  ihave G6 := (Entails.of_eq (xPay_rs m c 6)) $$ G6
  iapply (wp_load 𝒱₀ (c : Thread nD τ) none Set.univ (m := rsM) (rs_load (Fin.succ 6))) $$ G6; iintro G6
  ihave G6 := (Entails.of_eq (xPay_rs m c 6).symm) $$ G6
  iapply (wp_load 𝒱₀ (c : Thread nD τ) none Set.univ (m := oM) (Finset.subset_univ _)) $$ Hout; iintro Hout
  iapply (wp_store 𝒱₀ (c : Thread nD τ) none Set.univ (m := oM) (r := ownO c) (Mk := Finset.univ) (Finset.subset_univ _)) $$ Hout; iintro Hout
  iapply (wp_load 𝒱₀ (c : Thread nD τ) none Set.univ (m := asM) (Finset.subset_univ _)) $$ Has; iintro Has
  iapply (wp_store 𝒱₀ (c : Thread nD τ) none Set.univ (m := asM) (r := asR) (Mk := Finset.univ) (Finset.subset_univ _)) $$ Has; iintro Has
  try unfold WP
  rw [wp_ret]; imodintro
  iapply Hk $$ %_
  isplitl [G2 Z2 G3 Z3 G4 Z4 G5 Z5 G6 Z6]
  · isplitl [G2 Z2]
    · isplitl [G2]; · iexact G2
      iexact Z2
    isplitl [G3 Z3]
    · isplitl [G3]; · iexact G3
      iexact Z3
    isplitl [G4 Z4]
    · isplitl [G4]; · iexact G4
      iexact Z4
    isplitl [G5 Z5]
    · isplitl [G5]; · iexact G5
      iexact Z5
    isplitl [G6]; · iexact G6
    iexact Z6
  isplitl [Hout]; · iexact Hout
  iapply (Entails.of_eq (as_any m c g)) $$ Has

theorem ag_pre (u : Fin 7) (l : List (Fin 7)) : iprop(agKit m c u ∗ ow c (OA c (u :: l)))
    ⊢ iprop(asPts c u (asC m c) ∗ (∃ f, agPts (F := F) (up c u) u.succ f) ∗ dutyTok ER (xCell 2 c u) 0 (0 : Fin 7) ∗ dutyTok ER (xCell 3 (up c u) u) 0 (0 : Fin 7)
        ∗ ow c (OA c (u :: l))) := by
  iintro ⟨⟨H1, H2, H3, H4⟩, H5⟩
  isplitl [H1]; · iexact H1
  isplitl [H2]; · iexact H2
  isplitl [H3]; · iexact H3
  isplitl [H4]; · iexact H4
  iexact H5

theorem part16_wp {Q : (Σ' (_ : BitVec 32) (_ : BitVec 32), BitVec 32) → sProp 𝕄} (v2 w : BitVec 32) :
    iprop(Recs m K ∗ (agKit m c 0 ∗ agKit m c 1 ∗ agKit m c 2) ∗ ow c (OA c [0, 1, 2, 3, 4, 5, 6])
        ∗ (∀ w, (ow c (OA c [3, 4, 5, 6]) ∗ agCr (F := F) c 0 ∗ agCr (F := F) c 1 ∗ agCr (F := F) c 2) -∗ Q w))
      ⊢ WP c (k0_part16_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 c v2 w) Q := by
  unfold k0_part16_skel
  simp only [semSignalWord, semWaitWord, Prog.lift, Prog.bind_op, Prog.bind_ret, Prog.pure_eq_ret, wp_deviceId]
  iintro ⟨#HR, ⟨A0, A1, A2⟩, HO, Hk⟩
  iapply (ag_send m K c 0 [1, 2, 3, 4, 5, 6] (dev16_eq c) rfl rfl) $$ [A0 HO]
  · isplitr; · iexact HR
    iapply (ag_pre m c 0 [1, 2, 3, 4, 5, 6])
    isplitl [A0]; · iexact A0
    iexact HO
  iintro ⟨C0, HO⟩
  iapply (ag_send m K c 1 [2, 3, 4, 5, 6] (dev17_eq c) rfl rfl) $$ [A1 HO]
  · isplitr; · iexact HR
    iapply (ag_pre m c 1 [2, 3, 4, 5, 6])
    isplitl [A1]; · iexact A1
    iexact HO
  iintro ⟨C1, HO⟩
  iapply (ag_send m K c 2 [3, 4, 5, 6] (dev18_eq c) rfl rfl) $$ [A2 HO]
  · isplitr; · iexact HR
    iapply (ag_pre m c 2 [3, 4, 5, 6])
    isplitl [A2]; · iexact A2
    iexact HO
  iintro ⟨C2, HO⟩
  try unfold WP
  rw [wp_ret]; imodintro
  iapply Hk $$ %_
  isplitl [HO]; · iexact HO
  isplitl [C0]; · iexact C0
  isplitl [C1]; · iexact C1
  iexact C2

theorem part17_wp {Q : (Σ' (_ : BitVec 32) (_ : BitVec 32), BitVec 32) → sProp 𝕄} (v2 w : BitVec 32) :
    iprop(Recs m K ∗ (agKit m c 3 ∗ agKit m c 4 ∗ agKit m c 5) ∗ ow c (OA c [3, 4, 5, 6])
        ∗ (∀ w, (ow c (OA c [6]) ∗ agCr (F := F) c 3 ∗ agCr (F := F) c 4 ∗ agCr (F := F) c 5) -∗ Q w))
      ⊢ WP c (k0_part17_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 c v2 w) Q := by
  unfold k0_part17_skel
  simp only [semSignalWord, semWaitWord, Prog.lift, Prog.bind_op, Prog.bind_ret, Prog.pure_eq_ret, wp_deviceId]
  iintro ⟨#HR, ⟨A3, A4, A5⟩, HO, Hk⟩
  iapply (ag_send m K c 3 [4, 5, 6] (dev19_eq c) rfl rfl) $$ [A3 HO]
  · isplitr; · iexact HR
    iapply (ag_pre m c 3 [4, 5, 6])
    isplitl [A3]; · iexact A3
    iexact HO
  iintro ⟨C3, HO⟩
  iapply (ag_send m K c 4 [5, 6] (dev20_eq c) rfl rfl) $$ [A4 HO]
  · isplitr; · iexact HR
    iapply (ag_pre m c 4 [5, 6])
    isplitl [A4]; · iexact A4
    iexact HO
  iintro ⟨C4, HO⟩
  iapply (ag_send m K c 5 [6] (dev21_eq c) rfl rfl) $$ [A5 HO]
  · isplitr; · iexact HR
    iapply (ag_pre m c 5 [6])
    isplitl [A5]; · iexact A5
    iexact HO
  iintro ⟨C5, HO⟩
  try unfold WP
  rw [wp_ret]; imodintro
  iapply Hk $$ %_
  isplitl [HO]; · iexact HO
  isplitl [C3]; · iexact C3
  isplitl [C4]; · iexact C4
  iexact C5

theorem part18_wp {Q : PUnit → sProp 𝕄} (w : BitVec 32) :
    iprop(Recs m K ∗ levAts L lv ∗ (agKit m c 6) ∗ ow c (OA c [6]) ∗ (xW (F := F) c 0 0 ∗ xW (F := F) c 0 1 ∗ xW (F := F) c 0 2)
        ∗ ((ow c 0 ∗ agCr (F := F) c 6 ∗ (xG m c 0 0 ∗ xG m c 0 1 ∗ xG m c 0 2)) -∗ Q ⟨⟩))
      ⊢ WP c (k0_part18_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 c w) Q := by
  unfold k0_part18_skel
  simp only [semSignalWord, semWaitWord, Prog.lift, Prog.bind_op, Prog.bind_ret, Prog.pure_eq_ret, wp_deviceId]
  iintro ⟨#HR, #Hlev, A6, HO, ⟨W0, W1, W2⟩, Hk⟩
  iapply (ag_send m K c 6 [] (dev22_eq c) rfl rfl) $$ [A6 HO]
  · isplitr; · iexact HR
    iapply (ag_pre m c 6 [])
    isplitl [A6]; · iexact A6
    iexact HO
  iintro ⟨C6, HO⟩
  ihave HO := (show ow (F := F) c (OA c []) ⊢ ow c 0 from Entails.refl _) $$ HO
  iapply (xwait m K 0 c 0 (n := 0) (by decide) (above_zero _) (dst := pChunk 0) rfl (p_credit _)) $$ [W0 HO]
  · isplitr; · iexact HR
    isplitr; · iexact Hlev
    isplitl [HO]; · iexact HO
    iexact W0
  iintro ⟨G0, Z0, HO⟩
  iapply (xwait m K 0 c 1 (n := 0) (by decide) (above_zero _) (dst := pChunk 0) rfl (p_credit _)) $$ [W1 HO]
  · isplitr; · iexact HR
    isplitr; · iexact Hlev
    isplitl [HO]; · iexact HO
    iexact W1
  iintro ⟨G1, Z1, HO⟩
  iapply (xwait m K 0 c 2 (n := 0) (by decide) (above_zero _) (dst := pChunk 0) rfl (p_credit _)) $$ [W2 HO]
  · isplitr; · iexact HR
    isplitr; · iexact Hlev
    isplitl [HO]; · iexact HO
    iexact W2
  iintro ⟨G2, Z2, HO⟩
  try unfold WP
  rw [wp_ret]; imodintro
  iapply Hk
  isplitl [HO]; · iexact HO
  isplitl [C6]; · iexact C6
  isplitl [G0 Z0]
  · isplitl [G0]; · iexact G0
    iexact Z0
  isplitl [G1 Z1]
  · isplitl [G1]; · iexact G1
    iexact Z1
  isplitl [G2]; · iexact G2
  iexact Z2

theorem part19_wp {Q : PUnit → sProp 𝕄} (w : BitVec 32) :
    iprop(Recs m K ∗ levAts L lv ∗ ow c 0 ∗ (xW (F := F) c 0 3 ∗ xW (F := F) c 0 4 ∗ xW (F := F) c 0 5 ∗ xW (F := F) c 0 6)
        ∗ ((ow c 0 ∗ (xG m c 0 3 ∗ xG m c 0 4 ∗ xG m c 0 5 ∗ xG m c 0 6)) -∗ Q ⟨⟩))
      ⊢ WP c (k0_part19_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 w) Q := by
  unfold k0_part19_skel
  simp only [semSignalWord, semWaitWord, Prog.lift, Prog.bind_op, Prog.bind_ret, Prog.pure_eq_ret, wp_deviceId]
  iintro ⟨#HR, #Hlev, HO, ⟨W3, W4, W5, W6⟩, Hk⟩
  iapply (xwait m K 0 c 3 (n := 0) (by decide) (above_zero _) (dst := pChunk 0) rfl (p_credit _)) $$ [W3 HO]
  · isplitr; · iexact HR
    isplitr; · iexact Hlev
    isplitl [HO]; · iexact HO
    iexact W3
  iintro ⟨G3, Z3, HO⟩
  iapply (xwait m K 0 c 4 (n := 0) (by decide) (above_zero _) (dst := pChunk 0) rfl (p_credit _)) $$ [W4 HO]
  · isplitr; · iexact HR
    isplitr; · iexact Hlev
    isplitl [HO]; · iexact HO
    iexact W4
  iintro ⟨G4, Z4, HO⟩
  iapply (xwait m K 0 c 5 (n := 0) (by decide) (above_zero _) (dst := pChunk 0) rfl (p_credit _)) $$ [W5 HO]
  · isplitr; · iexact HR
    isplitr; · iexact Hlev
    isplitl [HO]; · iexact HO
    iexact W5
  iintro ⟨G5, Z5, HO⟩
  iapply (xwait m K 0 c 6 (n := 0) (by decide) (above_zero _) (dst := pChunk 0) rfl (p_credit _)) $$ [W6 HO]
  · isplitr; · iexact HR
    isplitr; · iexact Hlev
    isplitl [HO]; · iexact HO
    iexact W6
  iintro ⟨G6, Z6, HO⟩
  try unfold WP
  rw [wp_ret]; imodintro
  iapply Hk
  isplitl [HO]; · iexact HO
  isplitl [G3 Z3]
  · isplitl [G3]; · iexact G3
    iexact Z3
  isplitl [G4 Z4]
  · isplitl [G4]; · iexact G4
    iexact Z4
  isplitl [G5 Z5]
  · isplitl [G5]; · iexact G5
    iexact Z5
  isplitl [G6]; · iexact G6
  iexact Z6

theorem part20_wp {Q : FVec F S32x1024 .f32 → sProp 𝕄} (v2 w : BitVec 32) (f : OBuf F) :
    iprop(Recs m K ∗ levAts L lv ∗ ow c 0 ∗ (xW (F := F) c 3 0 ∗ xW (F := F) c 3 1) ∗ outPts c f
        ∗ ((ow c 0 ∗ (xG m c 3 0 ∗ xG m c 3 1) ∗ outPts c (outS m c 0 f)) -∗ Q (k0_pay33 (agv m c 1))))
      ⊢ WP c (k0_part20_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 c v2 w) Q := by
  unfold k0_part20_skel outS othF agv
  simp only [semSignalWord, semWaitWord, Prog.lift, Prog.bind_op, Prog.bind_ret, Prog.pure_eq_ret, wp_deviceId]
  iintro ⟨#HR, #Hlev, HO, ⟨W0, W1⟩, Hout, Hk⟩
  iapply (xwait m K 3 c 0 (n := 3) (by decide) (above_zero _) (dst := agSlot (Fin.succ 0)) rfl (ag_credit _)) $$ [W0 HO]
  · isplitr; · iexact HR
    isplitr; · iexact Hlev
    isplitl [HO]; · iexact HO
    iexact W0
  iintro ⟨G0, Z0, HO⟩
  ihave G0 := (Entails.of_eq (xPay_ag m c 0)) $$ G0
  iapply (wp_load 𝒱₀ (c : Thread nD τ) none Set.univ (m := agM) (ag_load (Fin.succ 0))) $$ G0; iintro G0
  ihave G0 := (Entails.of_eq (xPay_ag m c 0).symm) $$ G0
  iapply (wp_load 𝒱₀ (c : Thread nD τ) none Set.univ (m := oM) (Finset.subset_univ _)) $$ Hout; iintro Hout
  iapply (wp_store 𝒱₀ (c : Thread nD τ) none Set.univ (m := oM) (r := othO c 0) (Mk := Finset.univ) (Finset.subset_univ _)) $$ Hout; iintro Hout
  iapply (xwait m K 3 c 1 (n := 3) (by decide) (above_zero _) (dst := agSlot (Fin.succ 1)) rfl (ag_credit _)) $$ [W1 HO]
  · isplitr; · iexact HR
    isplitr; · iexact Hlev
    isplitl [HO]; · iexact HO
    iexact W1
  iintro ⟨G1, Z1, HO⟩
  ihave G1 := (Entails.of_eq (xPay_ag m c 1)) $$ G1
  iapply (wp_load 𝒱₀ (c : Thread nD τ) none Set.univ (m := agM) (ag_load (Fin.succ 1))) $$ G1; iintro G1
  ihave G1 := (Entails.of_eq (xPay_ag m c 1).symm) $$ G1
  iapply (wp_load 𝒱₀ (c : Thread nD τ) none Set.univ (m := oM) (Finset.subset_univ _)) $$ Hout; iintro Hout
  try unfold WP
  rw [wp_ret]; imodintro
  iapply Hk
  isplitl [HO]; · iexact HO
  isplitl [G0 Z0 G1 Z1]
  · isplitl [G0 Z0]
    · isplitl [G0]; · iexact G0
      iexact Z0
    isplitl [G1]; · iexact G1
    iexact Z1
  iexact Hout

theorem part21_wp {Q : BitVec 32 → sProp 𝕄} (v2 w₁ w₂ : BitVec 32) (f : OBuf F) :
    iprop(Recs m K ∗ levAts L lv ∗ ow c 0 ∗ (xW (F := F) c 3 2 ∗ xW (F := F) c 3 3) ∗ outPts c f
        ∗ (∀ w, (ow c 0 ∗ (xG m c 3 2 ∗ xG m c 3 3) ∗ outPts c (outS m c 2 (outS m c 1 f))) -∗ Q w))
      ⊢ WP c (k0_part21_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 c v2 w₁ w₂ (k0_pay33 (agv m c 1))) Q := by
  unfold k0_part21_skel outS othF agv
  simp only [semSignalWord, semWaitWord, Prog.lift, Prog.bind_op, Prog.bind_ret, Prog.pure_eq_ret, wp_deviceId]
  iintro ⟨#HR, #Hlev, HO, ⟨W2, W3⟩, Hout, Hk⟩
  iapply (wp_store 𝒱₀ (c : Thread nD τ) none Set.univ (m := oM) (r := othO c 1) (Mk := Finset.univ) (Finset.subset_univ _)) $$ Hout; iintro Hout
  iapply (xwait m K 3 c 2 (n := 3) (by decide) (above_zero _) (dst := agSlot (Fin.succ 2)) rfl (ag_credit _)) $$ [W2 HO]
  · isplitr; · iexact HR
    isplitr; · iexact Hlev
    isplitl [HO]; · iexact HO
    iexact W2
  iintro ⟨G2, Z2, HO⟩
  ihave G2 := (Entails.of_eq (xPay_ag m c 2)) $$ G2
  iapply (wp_load 𝒱₀ (c : Thread nD τ) none Set.univ (m := agM) (ag_load (Fin.succ 2))) $$ G2; iintro G2
  ihave G2 := (Entails.of_eq (xPay_ag m c 2).symm) $$ G2
  iapply (wp_load 𝒱₀ (c : Thread nD τ) none Set.univ (m := oM) (Finset.subset_univ _)) $$ Hout; iintro Hout
  iapply (wp_store 𝒱₀ (c : Thread nD τ) none Set.univ (m := oM) (r := othO c 2) (Mk := Finset.univ) (Finset.subset_univ _)) $$ Hout; iintro Hout
  iapply (xwait m K 3 c 3 (n := 3) (by decide) (above_zero _) (dst := agSlot (Fin.succ 3)) rfl (ag_credit _)) $$ [W3 HO]
  · isplitr; · iexact HR
    isplitr; · iexact Hlev
    isplitl [HO]; · iexact HO
    iexact W3
  iintro ⟨G3, Z3, HO⟩
  try unfold WP
  rw [wp_ret]; imodintro
  iapply Hk $$ %_
  isplitl [HO]; · iexact HO
  isplitl [G2 Z2 G3 Z3]
  · isplitl [G2 Z2]
    · isplitl [G2]; · iexact G2
      iexact Z2
    isplitl [G3]; · iexact G3
    iexact Z3
  iexact Hout

theorem part22_wp {Q : PUnit → sProp 𝕄} (v2 w₁ w₂ w₃ : BitVec 32) (f : OBuf F) :
    iprop(Recs m K ∗ levAts L lv ∗ ow c 0 ∗ xG m c 3 3 ∗ (xW (F := F) c 3 4) ∗ outPts c f
        ∗ ((ow c 0 ∗ (xG m c 3 3 ∗ xG m c 3 4) ∗ outPts c (outS m c 4 (outS m c 3 f))) -∗ Q ⟨⟩))
      ⊢ WP c (k0_part22_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 c v2 w₁ w₂ w₃) Q := by
  unfold k0_part22_skel outS othF agv
  simp only [semSignalWord, semWaitWord, Prog.lift, Prog.bind_op, Prog.bind_ret, Prog.pure_eq_ret, wp_deviceId]
  iintro ⟨#HR, #Hlev, HO, ⟨G3, Z3⟩, W4, Hout, Hk⟩
  ihave G3 := (Entails.of_eq (xPay_ag m c 3)) $$ G3
  iapply (wp_load 𝒱₀ (c : Thread nD τ) none Set.univ (m := agM) (ag_load (Fin.succ 3))) $$ G3; iintro G3
  ihave G3 := (Entails.of_eq (xPay_ag m c 3).symm) $$ G3
  iapply (wp_load 𝒱₀ (c : Thread nD τ) none Set.univ (m := oM) (Finset.subset_univ _)) $$ Hout; iintro Hout
  iapply (wp_store 𝒱₀ (c : Thread nD τ) none Set.univ (m := oM) (r := othO c 3) (Mk := Finset.univ) (Finset.subset_univ _)) $$ Hout; iintro Hout
  iapply (xwait m K 3 c 4 (n := 3) (by decide) (above_zero _) (dst := agSlot (Fin.succ 4)) rfl (ag_credit _)) $$ [W4 HO]
  · isplitr; · iexact HR
    isplitr; · iexact Hlev
    isplitl [HO]; · iexact HO
    iexact W4
  iintro ⟨G4, Z4, HO⟩
  ihave G4 := (Entails.of_eq (xPay_ag m c 4)) $$ G4
  iapply (wp_load 𝒱₀ (c : Thread nD τ) none Set.univ (m := agM) (ag_load (Fin.succ 4))) $$ G4; iintro G4
  ihave G4 := (Entails.of_eq (xPay_ag m c 4).symm) $$ G4
  iapply (wp_load 𝒱₀ (c : Thread nD τ) none Set.univ (m := oM) (Finset.subset_univ _)) $$ Hout; iintro Hout
  iapply (wp_store 𝒱₀ (c : Thread nD τ) none Set.univ (m := oM) (r := othO c 4) (Mk := Finset.univ) (Finset.subset_univ _)) $$ Hout; iintro Hout
  try unfold WP
  rw [wp_ret]; imodintro
  iapply Hk
  isplitl [HO]; · iexact HO
  isplitl [G3 Z3 G4 Z4]
  · isplitl [G3 Z3]
    · isplitl [G3]; · iexact G3
      iexact Z3
    isplitl [G4]; · iexact G4
    iexact Z4
  iexact Hout

theorem part23_wp {Q : PUnit → sProp 𝕄} (v2 w : BitVec 32) (f : OBuf F) :
    iprop(Recs m K ∗ levAts L lv ∗ ow c 0 ∗ (xW (F := F) c 3 5 ∗ xW (F := F) c 3 6) ∗ outPts c f
        ∗ ((ow c 0 ∗ (xG m c 3 5 ∗ xG m c 3 6) ∗ outPts c (outS m c 6 (outS m c 5 f))) -∗ Q ⟨⟩))
      ⊢ WP c (k0_part23_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 c v2 w) Q := by
  unfold k0_part23_skel outS othF agv
  simp only [semSignalWord, semWaitWord, Prog.lift, Prog.bind_op, Prog.bind_ret, Prog.pure_eq_ret, wp_deviceId]
  iintro ⟨#HR, #Hlev, HO, ⟨W5, W6⟩, Hout, Hk⟩
  iapply (xwait m K 3 c 5 (n := 3) (by decide) (above_zero _) (dst := agSlot (Fin.succ 5)) rfl (ag_credit _)) $$ [W5 HO]
  · isplitr; · iexact HR
    isplitr; · iexact Hlev
    isplitl [HO]; · iexact HO
    iexact W5
  iintro ⟨G5, Z5, HO⟩
  ihave G5 := (Entails.of_eq (xPay_ag m c 5)) $$ G5
  iapply (wp_load 𝒱₀ (c : Thread nD τ) none Set.univ (m := agM) (ag_load (Fin.succ 5))) $$ G5; iintro G5
  ihave G5 := (Entails.of_eq (xPay_ag m c 5).symm) $$ G5
  iapply (wp_load 𝒱₀ (c : Thread nD τ) none Set.univ (m := oM) (Finset.subset_univ _)) $$ Hout; iintro Hout
  iapply (wp_store 𝒱₀ (c : Thread nD τ) none Set.univ (m := oM) (r := othO c 5) (Mk := Finset.univ) (Finset.subset_univ _)) $$ Hout; iintro Hout
  iapply (xwait m K 3 c 6 (n := 3) (by decide) (above_zero _) (dst := agSlot (Fin.succ 6)) rfl (ag_credit _)) $$ [W6 HO]
  · isplitr; · iexact HR
    isplitr; · iexact Hlev
    isplitl [HO]; · iexact HO
    iexact W6
  iintro ⟨G6, Z6, HO⟩
  ihave G6 := (Entails.of_eq (xPay_ag m c 6)) $$ G6
  iapply (wp_load 𝒱₀ (c : Thread nD τ) none Set.univ (m := agM) (ag_load (Fin.succ 6))) $$ G6; iintro G6
  ihave G6 := (Entails.of_eq (xPay_ag m c 6).symm) $$ G6
  iapply (wp_load 𝒱₀ (c : Thread nD τ) none Set.univ (m := oM) (Finset.subset_univ _)) $$ Hout; iintro Hout
  iapply (wp_store 𝒱₀ (c : Thread nD τ) none Set.univ (m := oM) (r := othO c 6) (Mk := Finset.univ) (Finset.subset_univ _)) $$ Hout; iintro Hout
  try unfold WP
  rw [wp_ret]; imodintro
  iapply Hk
  isplitl [HO]; · iexact HO
  isplitl [G5 Z5 G6 Z6]
  · isplitl [G5 Z5]
    · isplitl [G5]; · iexact G5
      iexact Z5
    isplitl [G6]; · iexact G6
    iexact Z6
  iexact Hout

theorem part24_wp {Q : PUnit → sProp 𝕄}  :
    iprop(Recs m K ∗ levAts L lv ∗ ow c 0 ∗ (xW (F := F) c 2 0 ∗ xW (F := F) c 2 1 ∗ xW (F := F) c 2 2 ∗ xW (F := F) c 2 3 ∗ xW (F := F) c 2 4)
        ∗ ((ow c 0 ∗ (xG m c 2 0 ∗ xG m c 2 1 ∗ xG m c 2 2 ∗ xG m c 2 3 ∗ xG m c 2 4)) -∗ Q ⟨⟩))
      ⊢ WP c (k0_part24_skel xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 ) Q := by
  unfold k0_part24_skel
  simp only [semSignalWord, semWaitWord, Prog.lift, Prog.bind_op, Prog.bind_ret, Prog.pure_eq_ret, wp_deviceId]
  iintro ⟨#HR, #Hlev, HO, ⟨W0, W1, W2, W3, W4⟩, Hk⟩
  iapply (xwait m K 2 c 0 (n := 0) (by decide) (above_zero _) (dst := asM) rfl (rfl)) $$ [W0 HO]
  · isplitr; · iexact HR
    isplitr; · iexact Hlev
    isplitl [HO]; · iexact HO
    iexact W0
  iintro ⟨G0, Z0, HO⟩
  iapply (xwait m K 2 c 1 (n := 0) (by decide) (above_zero _) (dst := asM) rfl (rfl)) $$ [W1 HO]
  · isplitr; · iexact HR
    isplitr; · iexact Hlev
    isplitl [HO]; · iexact HO
    iexact W1
  iintro ⟨G1, Z1, HO⟩
  iapply (xwait m K 2 c 2 (n := 0) (by decide) (above_zero _) (dst := asM) rfl (rfl)) $$ [W2 HO]
  · isplitr; · iexact HR
    isplitr; · iexact Hlev
    isplitl [HO]; · iexact HO
    iexact W2
  iintro ⟨G2, Z2, HO⟩
  iapply (xwait m K 2 c 3 (n := 0) (by decide) (above_zero _) (dst := asM) rfl (rfl)) $$ [W3 HO]
  · isplitr; · iexact HR
    isplitr; · iexact Hlev
    isplitl [HO]; · iexact HO
    iexact W3
  iintro ⟨G3, Z3, HO⟩
  iapply (xwait m K 2 c 4 (n := 0) (by decide) (above_zero _) (dst := asM) rfl (rfl)) $$ [W4 HO]
  · isplitr; · iexact HR
    isplitr; · iexact Hlev
    isplitl [HO]; · iexact HO
    iexact W4
  iintro ⟨G4, Z4, HO⟩
  try unfold WP
  rw [wp_ret]; imodintro
  iapply Hk
  isplitl [HO]; · iexact HO
  isplitl [G0 Z0]
  · isplitl [G0]; · iexact G0
    iexact Z0
  isplitl [G1 Z1]
  · isplitl [G1]; · iexact G1
    iexact Z1
  isplitl [G2 Z2]
  · isplitl [G2]; · iexact G2
    iexact Z2
  isplitl [G3 Z3]
  · isplitl [G3]; · iexact G3
    iexact Z3
  isplitl [G4]; · iexact G4
  iexact Z4

end Parts

end Cert.KernelIdeal.Own
-- ==== Proof.Body.lean ====
/-
The body of the kernel on one device: its parts one after another, what one leaves regrouped for the next.
-/
module

public import proofs.«01_k».proof.Proof.PartsB
public import proofs.«01_k».proof.Proof.PartsC

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-- A sequence, part by part. -/
theorem seq_wp {α β : Type} (c : Dev nD) (p : Prg F α) (k : α → Prg F β) (Q : β → sProp 𝕄) : WP c (p >>= k) Q = WP c p fun a => WP c (k a) Q := wp_bind _ _ _ p k Q

section Regroup
variable (c : Dev nD)

/-- The devices other than c, by the step that reaches them. -/
theorem others : Finset.univ.map ⟨fun u : Fin 7 => up c u, fun u v h => by revert c u v; decide⟩ = Finset.univ.erase c := by revert c; decide

omit [FloatOps F] in
theorem devs_split (Φ : Dev nD → sProp 𝕄) : bigSep Finset.univ Φ = iprop(Φ c ∗ bigSep Finset.univ fun u : Fin 7 => Φ (up c u)) := by
  rw [bigSep_univ_at Φ c, ← others c, bigSep_map]; rfl
omit [FloatOps F] in
theorem slots_split (Φ : Fin 8 → sProp 𝕄) : bigSep Finset.univ Φ = iprop(Φ 0 ∗ bigSep Finset.univ fun u : Fin 7 => Φ u.succ) := by
  rw [bigSep_univ_at Φ 0, show (Finset.univ : Finset (Fin 8)).erase 0 = Finset.univ.map ⟨Fin.succ, Fin.succ_injective 7⟩ from by decide, bigSep_map]; rfl
omit [FloatOps F] in
theorem four_list (Φ : Fin 4 → sProp 𝕄) : bigSep Finset.univ Φ = iprop(Φ 0 ∗ Φ 1 ∗ Φ 2 ∗ Φ 3) := by
  rw [bigSep_univ_eq_bigSepL [(0 : Fin 4), 1, 2, 3] (by decide) (by decide)]
  simp only [bigSepL_cons_cons, bigSepL_singleton]; rfl
omit [FloatOps F] in
theorem two_list (Φ : Fin 2 → sProp 𝕄) : bigSep Finset.univ Φ = iprop(Φ 0 ∗ Φ 1) := bigSep_univ_two Φ

omit [FloatOps F] in
theorem kit_up (u : Fin 7) : kitR (F := F) c (up c u)
    = iprop((∃ f, rsPts (F := F) (up c u) u.succ f) ∗ dutyTok ER (xCell 0 c u) 0 (0 : Fin 7) ∗ dutyTok ER (xCell 1 (up c u) u) 0 (0 : Fin 7)) := by
  unfold kitR kit; rw [if_neg (up_ne c u), stepTo_up]
omit [FloatOps F] in
theorem kit_self : kitR (F := F) c c = iprop(emp) := by unfold kitR; rw [if_pos rfl]
theorem sent_up (u : Fin 7) : sent m c (up c u) = cred (tallyAt (xCell 0 c u) () N) := by unfold sent; rw [if_neg (up_ne c u), stepTo_up]
theorem sent_self : sent m c c = pPts c c (pC m c) := by unfold sent; rw [if_pos rfl]

/-- The landing slots of the other devices, and the duties of the scatter, by destination. -/
theorem regroup : iprop(landed7 (F := F) c ∗ bigSep Finset.univ fun u : Fin 7 => iprop(dutyTok ER (xCell 0 c u) 0 (0 : Fin 7) ∗ dutyTok ER (xCell 1 (up c u) u) 0 (0 : Fin 7)))
    ⊢ iprop((kitR (F := F) c 0 ∗ kitR (F := F) c 1 ∗ kitR (F := F) c 2 ∗ kitR (F := F) c 3 ∗ kitR (F := F) c 4 ∗ kitR (F := F) c 5 ∗ kitR (F := F) c 6 ∗ kitR (F := F) c 7)
      ∗ bigSep Finset.univ fun u : Fin 7 => iprop(∃ f, agPts (F := F) (up c u) u.succ f)) := by
  rw [← chunks_list (fun j => kitR (F := F) c j), devs_split c (fun j => kitR (F := F) c j), kit_self]
  unfold landed7 land
  simp only [kit_up, bigSep_sep']
  iintro ⟨⟨H1, H2⟩, H3, H4⟩
  isplitl [H1 H3 H4]
  · isplitr; · iempintro
    isplitl [H1]; · iexact H1
    isplitl [H3]; · iexact H3
    iexact H4
  iexact H2

theorem sents : iprop(sent m c 0 ∗ sent m c 1 ∗ sent m c 2 ∗ sent m c 3 ∗ sent m c 4 ∗ sent m c 5 ∗ sent m c 6 ∗ sent m c 7)
    ⊢ iprop(pPts c c (pC m c) ∗ bigSep Finset.univ fun u : Fin 7 => cred (tallyAt (xCell 0 c u) () N)) := by
  rw [← chunks_list (fun j => sent m c j), devs_split c (fun j => sent m c j), sent_self]
  simp only [sent_up]
  exact Entails.refl _

omit [FloatOps F] in
theorem as_set : asM.view.set = Finset.univ := View.set_whole _

/-- What restores the whole of the reduced rows from its shares. -/
abbrev asBack : sProp 𝕄 := iprop((bigSep Finset.univ fun u : Fin 7 => asPts c u (asC m c)) -∗ asWhole c (asC m c))
theorem as_lend : asWhole c (asC m c) ⊢ iprop((bigSep Finset.univ fun u : Fin 7 => asPts c u (asC m c)) ∗ asBack m c) := by
  unfold asPts
  exact lend (ℓ := (c : Thread nD τ).loc cc0_scratch6) 7 (fun _ => asM.view.set) (asC m c)

omit [FloatOps F] in
theorem xw_list (f : Fin 4) : (iprop((bigSep Finset.univ fun u : Fin 7 => cred (tallyAt (xCell f c u) () N)) ∗ bigSep Finset.univ fun u : Fin 7 => atPos ER (xCell f c u) 0 ∅ 0) : sProp 𝕄)
    ⊢ iprop(xW (F := F) c f 0 ∗ xW (F := F) c f 1 ∗ xW (F := F) c f 2 ∗ xW (F := F) c f 3 ∗ xW (F := F) c f 4 ∗ xW (F := F) c f 5 ∗ xW (F := F) c f 6) := by
  rw [← steps_list (fun u => xW (F := F) c f u), bigSep_sep']

theorem ag_kits : iprop((bigSep Finset.univ fun u : Fin 7 => asPts c u (asC m c)) ∗ (bigSep Finset.univ fun u : Fin 7 => iprop(∃ f, agPts (F := F) (up c u) u.succ f))
      ∗ bigSep Finset.univ fun u : Fin 7 => iprop(dutyTok ER (xCell 2 c u) 0 (0 : Fin 7) ∗ dutyTok ER (xCell 3 (up c u) u) 0 (0 : Fin 7)))
    ⊢ iprop(agKit m c 0 ∗ agKit m c 1 ∗ agKit m c 2 ∗ agKit m c 3 ∗ agKit m c 4 ∗ agKit m c 5 ∗ agKit m c 6) := by
  rw [← steps_list (fun u => agKit m c u)]
  simp only [bigSep_sep']
  exact Entails.refl _

omit [FloatOps F] in
theorem ag_creds : iprop(agCr (F := F) c 0 ∗ agCr (F := F) c 1 ∗ agCr (F := F) c 2 ∗ agCr (F := F) c 3 ∗ agCr (F := F) c 4 ∗ agCr (F := F) c 5 ∗ agCr (F := F) c 6)
    ⊢ bigSep Finset.univ fun u : Fin 7 => cred (tallyAt (xCell 2 c u) () N) := by
  rw [steps_list]

end Regroup

/-! ## The body -/

section Body
variable (c : Dev nD)

/-- What the body holds when it ends. -/
abbrev bodyEnd (f : OBuf F) : sProp 𝕄 :=
  iprop(ow c 0 ∗ ((qOut m c 0 ∗ qOut m c 1 ∗ qOut m c 2 ∗ qOut m c 3) ∗ (kOut m c 0 ∗ kOut m c 1) ∗ (vOut m c 0 ∗ vOut m c 1) ∗ oOut m c)
    ∗ semVal (barCell c) 0 ∗ xPts m c ∗ outPts c (outOver m c f) ∗ pPts c c (pC m c) ∗ asBack m c
    ∗ (xG m c 0 0 ∗ xG m c 0 1 ∗ xG m c 0 2 ∗ xG m c 0 3 ∗ xG m c 0 4 ∗ xG m c 0 5 ∗ xG m c 0 6)
    ∗ (xG m c 1 0 ∗ xG m c 1 1 ∗ xG m c 1 2 ∗ xG m c 1 3 ∗ xG m c 1 4 ∗ xG m c 1 5 ∗ xG m c 1 6)
    ∗ (xG m c 2 0 ∗ xG m c 2 1 ∗ xG m c 2 2 ∗ xG m c 2 3 ∗ xG m c 2 4 ∗ xG m c 2 5 ∗ xG m c 2 6)
    ∗ (xG m c 3 0 ∗ xG m c 3 1 ∗ xG m c 3 2 ∗ xG m c 3 3 ∗ xG m c 3 4 ∗ xG m c 3 5 ∗ xG m c 3 6))
/-- What it starts from. -/
abbrev bodyStart (f : OBuf F) : sProp 𝕄 :=
  iprop(Recs m K ∗ levAts L lv ∗ ow c (O₀ c) ∗ ((qIn m c 0 ∗ qIn m c 1 ∗ qIn m c 2 ∗ qIn m c 3) ∗ (kIn m c 0 ∗ kIn m c 1) ∗ (vIn m c 0 ∗ vIn m c 1) ∗ oIn m c)
    ∗ (sigKit (F := F) c 0 ∗ sigKit (F := F) c 1 ∗ sigKit (F := F) c 2 ∗ sigKit (F := F) c 3 ∗ sigKit (F := F) c 4 ∗ sigKit (F := F) c 5 ∗ sigKit (F := F) c 6)
    ∗ (cred (tallyAt (barCell c) () 7) ∗ atPos ER (barCell c) 0 ∅ 0) ∗ xPts m c
    ∗ (∃ f, pM.view.loc (c : Thread nD τ) ↦[Finset.univ]{fullShare} f) ∗ outPts c f ∗ (∃ g, asWhole c g)
    ∗ (bigSep Finset.univ fun u : Fin 7 => iprop(dutyTok ER (xCell 0 c u) 0 (0 : Fin 7) ∗ dutyTok ER (xCell 1 (up c u) u) 0 (0 : Fin 7)))
    ∗ (bigSep Finset.univ fun u : Fin 7 => iprop(dutyTok ER (xCell 2 c u) 0 (0 : Fin 7) ∗ dutyTok ER (xCell 3 (up c u) u) 0 (0 : Fin 7)))
    ∗ ((bigSep Finset.univ fun u : Fin 7 => cred (tallyAt (xCell 1 c u) () N)) ∗ bigSep Finset.univ fun u : Fin 7 => cred (tallyAt (xCell 3 c u) () N))
    ∗ ((bigSep Finset.univ fun u : Fin 7 => atPos ER (xCell 0 c u) 0 ∅ 0) ∗ (bigSep Finset.univ fun u : Fin 7 => atPos ER (xCell 1 c u) 0 ∅ 0)
      ∗ (bigSep Finset.univ fun u : Fin 7 => atPos ER (xCell 2 c u) 0 ∅ 0) ∗ bigSep Finset.univ fun u : Fin 7 => atPos ER (xCell 3 c u) 0 ∅ 0))

attribute [local irreducible] k0_cond1 k0_cond2 k0_cond3 k0_cond4 k0_cond5 k0_cond6 k0_cond7 k0_cond8

set_option maxHeartbeats 4000000 in
/-- The body on device c, from what it starts with to what it ends with. -/
theorem body_wp (f : OBuf F) {Q : PUnit → sProp 𝕄} :
    iprop(bodyStart m K c f ∗ (bodyEnd m c f -∗ Q ⟨⟩)) ⊢ WP c (cc0_body xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14) Q := by
  rw [cc0_body_eq_skeleton]
  unfold cc0_body_skel
  iintro ⟨⟨#HR, #Hlev, HO, ⟨⟨Q0, Q1, Q2, Q3⟩, ⟨K0, K1⟩, ⟨V0, V1⟩, O⟩, ⟨S0, S1, S2, S3, S4, S5, S6⟩, ⟨Hcb, Hab⟩, Hx, Hp, Hout, Has, TB, TG, ⟨C1, C3⟩, ⟨A0, A1, A2, A3⟩⟩, Hk⟩
  rw [seq_wp, k0_part1_eq_skeleton]
  iapply (part1_wp m c)
  isplitl [Q0 Q1 Q2]
  · isplitl [Q0]; · iexact Q0
    isplitl [Q1]; · iexact Q1
    iexact Q2
  iintro %w1 ⟨Q0, Q1, Q2⟩
  try dsimp only
  rw [seq_wp, k0_part2_eq_skeleton]
  iapply (part2_wp m c)
  isplitl [Q3 K0 V0 K1]
  · isplitl [Q3]; · iexact Q3
    isplitl [K0]; · iexact K0
    isplitl [V0]; · iexact V0
    iexact K1
  iintro ⟨Q3, K0, V0, K1⟩
  try dsimp only
  rw [seq_wp, k0_part3_eq_skeleton]
  iapply (part3_wp m K c w1)
  isplitr; · iexact HR
  isplitl [V1 O]
  · isplitl [V1]; · iexact V1
    iexact O
  isplitl [S0 S1 S2 S3]
  · isplitl [S0]; · iexact S0
    isplitl [S1]; · iexact S1
    isplitl [S2]; · iexact S2
    iexact S3
  isplitl [HO]; · iexact HO
  iintro ⟨V1, O, HO⟩
  try dsimp only
  rw [seq_wp, k0_part4_eq_skeleton]
  iapply (part4_wp m K c w1)
  isplitr; · iexact HR
  isplitr; · iexact Hlev
  isplitl [S4 S5 S6]
  · isplitl [S4]; · iexact S4
    isplitl [S5]; · iexact S5
    iexact S6
  isplitl [HO]; · iexact HO
  isplitl [Hcb Hab]
  · isplitl [Hcb]; · iexact Hcb
    iexact Hab
  isplitl [Hx]; · iexact Hx
  isplitl [Q0]; · iexact Q0
  iintro ⟨Hl7, Hzb, HO, Hx, Q0⟩
  try dsimp only
  rw [seq_wp, k0_part5_eq_skeleton]
  iapply (part5_wp m c)
  isplitr; · iexact Hlev
  isplitl [HO]; · iexact HO
  isplitl [Q1 Q2 Q3]
  · isplitl [Q1]; · iexact Q1
    isplitl [Q2]; · iexact Q2
    iexact Q3
  iintro ⟨HO, Q1, Q2, Q3⟩
  try dsimp only
  rw [seq_wp, k0_part6_eq_skeleton]
  iapply (part6_wp m c)
  isplitr; · iexact Hlev
  isplitl [HO]; · iexact HO
  isplitl [K0 V0 K1]
  · isplitl [K0]; · iexact K0
    isplitl [V0]; · iexact V0
    iexact K1
  iintro ⟨HO, K0, V0, K1⟩
  try dsimp only
  rw [seq_wp, k0_part7_eq_skeleton]
  iapply (part7_wp m c)
  isplitr; · iexact Hlev
  isplitl [HO]; · iexact HO
  isplitl [V1 O K0 K1 V0]
  · isplitl [V1]; · iexact V1
    isplitl [O]; · iexact O
    isplitl [K0]; · iexact K0
    isplitl [K1]; · iexact K1
    iexact V0
  iintro ⟨HO, K0, K1, V0, V1, O⟩
  try dsimp only
  rw [seq_wp, k0_part8_eq_skeleton]
  iapply (part8_wp m c)
  try dsimp only
  ihave Hg := (regroup c) $$ [Hl7 TB]
  · isplitl [Hl7]; · iexact Hl7
    iexact TB
  icases Hg with ⟨⟨R0, R1, R2, R3, R4, R5, R6, R7⟩, Hag⟩
  rw [seq_wp, k0_part9_eq_skeleton]
  iapply (part9_wp m K c w1)
  isplitr; · iexact HR
  isplitl [Hp]; · iexact Hp
  isplitl [R0 R1 R2]
  · isplitl [R0]; · iexact R0
    isplitl [R1]; · iexact R1
    iexact R2
  isplitl [HO]; · iexact HO
  iintro %w9 ⟨⟨R0, R1, R2⟩, Hp3, Hp, HO⟩
  try dsimp only
  rw [seq_wp, k0_part10_eq_skeleton]
  iapply (part10_wp m K c _ _)
  isplitr; · iexact HR
  isplitl [Hp3]; · iexact Hp3
  isplitl [R3]; · iexact R3
  isplitl [HO]; · iexact HO
  iintro ⟨R3, HO⟩
  try dsimp only
  rw [seq_wp, k0_part11_eq_skeleton]
  iapply (part11_wp m c w1)
  isplitl [Hp]; · iexact Hp
  iintro %w11 ⟨P4, P5, P6, P7⟩
  try dsimp only
  rw [seq_wp, k0_part12_eq_skeleton]
  iapply (part12_wp m K c w1 w11)
  isplitr; · iexact HR
  isplitl [P4 P5 P6 P7]
  · isplitl [P4]; · iexact P4
    isplitl [P5]; · iexact P5
    isplitl [P6]; · iexact P6
    iexact P7
  isplitl [R4 R5 R6 R7]
  · isplitl [R4]; · iexact R4
    isplitl [R5]; · iexact R5
    isplitl [R6]; · iexact R6
    iexact R7
  isplitl [HO]; · iexact HO
  iintro ⟨⟨R4, R5, R6, R7⟩, HO⟩
  try dsimp only
  ihave Hs := (sents m c) $$ [R0 R1 R2 R3 R4 R5 R6 R7]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  icases Hs with ⟨Hp, Hc0⟩
  ihave HW := (xw_list (F := F) c 1) $$ [C1 A1]
  · isplitl [C1]; · iexact C1
    iexact A1
  icases HW with ⟨W0, W1, W2, W3, W4, W5, W6⟩
  rw [seq_wp, k0_part13_eq_skeleton]
  iapply (part13_wp m K c w1)
  isplitr; · iexact HR
  isplitr; · iexact Hlev
  isplitl [HO]; · iexact HO
  isplitl [W0 W1 W2 W3]
  · isplitl [W0]; · iexact W0
    isplitl [W1]; · iexact W1
    isplitl [W2]; · iexact W2
    iexact W3
  iintro ⟨HO, X0, X1, X2, X3⟩
  try dsimp only
  rw [seq_wp, k0_part14_eq_skeleton]
  iapply (part14_wp m K c w1)
  isplitr; · iexact HR
  isplitr; · iexact Hlev
  isplitl [HO]; · iexact HO
  isplitl [W4 W5 W6]
  · isplitl [W4]; · iexact W4
    isplitl [W5]; · iexact W5
    iexact W6
  isplitl [Hp]; · iexact Hp
  isplitl [X0 X1]
  · isplitl [X0]; · iexact X0
    iexact X1
  iintro ⟨HO, Hp, X0, X1, X4, X5, X6⟩
  try dsimp only
  rw [seq_wp, k0_part15_eq_skeleton]
  iapply (part15_wp m c w1 f)
  isplitl [X2 X3 X4 X5 X6]
  · isplitl [X2]; · iexact X2
    isplitl [X3]; · iexact X3
    isplitl [X4]; · iexact X4
    isplitl [X5]; · iexact X5
    iexact X6
  isplitl [Hout]; · iexact Hout
  isplitl [Has]; · iexact Has
  iintro %w15 ⟨⟨X2, X3, X4, X5, X6⟩, Hout, Has⟩
  try dsimp only
  ihave Hl := (as_lend m c) $$ Has
  icases Hl with ⟨Hsh, Hback⟩
  ihave HA := (ag_kits m c) $$ [Hsh Hag TG]
  · isplitl [Hsh]; · iexact Hsh
    isplitl [Hag]; · iexact Hag
    iexact TG
  icases HA with ⟨G0, G1, G2, G3, G4, G5, G6⟩
  rw [seq_wp, k0_part16_eq_skeleton]
  iapply (part16_wp m K c w1 w15)
  isplitr; · iexact HR
  isplitl [G0 G1 G2]
  · isplitl [G0]; · iexact G0
    isplitl [G1]; · iexact G1
    iexact G2
  isplitl [HO]; · iexact HO
  iintro %w16 ⟨HO, G0, G1, G2⟩
  try dsimp only
  rw [seq_wp, k0_part17_eq_skeleton]
  iapply (part17_wp m K c w1 _)
  isplitr; · iexact HR
  isplitl [G3 G4 G5]
  · isplitl [G3]; · iexact G3
    isplitl [G4]; · iexact G4
    iexact G5
  isplitl [HO]; · iexact HO
  iintro %w17 ⟨HO, G3, G4, G5⟩
  try dsimp only
  ihave HW := (xw_list (F := F) c 0) $$ [Hc0 A0]
  · isplitl [Hc0]; · iexact Hc0
    iexact A0
  icases HW with ⟨W0, W1, W2, W3, W4, W5, W6⟩
  rw [seq_wp, k0_part18_eq_skeleton]
  iapply (part18_wp m K c _)
  isplitr; · iexact HR
  isplitr; · iexact Hlev
  isplitl [G6]; · iexact G6
  isplitl [HO]; · iexact HO
  isplitl [W0 W1 W2]
  · isplitl [W0]; · iexact W0
    isplitl [W1]; · iexact W1
    iexact W2
  iintro ⟨HO, G6, Y0, Y1, Y2⟩
  try dsimp only
  rw [seq_wp, k0_part19_eq_skeleton]
  iapply (part19_wp m K c _)
  isplitr; · iexact HR
  isplitr; · iexact Hlev
  isplitl [HO]; · iexact HO
  isplitl [W3 W4 W5 W6]
  · isplitl [W3]; · iexact W3
    isplitl [W4]; · iexact W4
    isplitl [W5]; · iexact W5
    iexact W6
  iintro ⟨HO, Y3, Y4, Y5, Y6⟩
  try dsimp only
  ihave HW := (xw_list (F := F) c 3) $$ [C3 A3]
  · isplitl [C3]; · iexact C3
    iexact A3
  icases HW with ⟨W0, W1, W2, W3, W4, W5, W6⟩
  rw [seq_wp, k0_part20_eq_skeleton]
  iapply (part20_wp m K c w1 _ (out0 m c f))
  isplitr; · iexact HR
  isplitr; · iexact Hlev
  isplitl [HO]; · iexact HO
  isplitl [W0 W1]
  · isplitl [W0]; · iexact W0
    iexact W1
  isplitl [Hout]; · iexact Hout
  iintro ⟨HO, ⟨Z0, Z1⟩, Hout⟩
  try dsimp only
  rw [seq_wp, k0_part21_eq_skeleton]
  iapply (part21_wp m K c w1 _ _ _)
  isplitr; · iexact HR
  isplitr; · iexact Hlev
  isplitl [HO]; · iexact HO
  isplitl [W2 W3]
  · isplitl [W2]; · iexact W2
    iexact W3
  isplitl [Hout]; · iexact Hout
  iintro %w21 ⟨HO, ⟨Z2, Z3⟩, Hout⟩
  try dsimp only
  rw [seq_wp, k0_part22_eq_skeleton]
  iapply (part22_wp m K c w1 _ _ _ _)
  isplitr; · iexact HR
  isplitr; · iexact Hlev
  isplitl [HO]; · iexact HO
  isplitl [Z3]; · iexact Z3
  isplitl [W4]; · iexact W4
  isplitl [Hout]; · iexact Hout
  iintro ⟨HO, ⟨Z3, Z4⟩, Hout⟩
  try dsimp only
  rw [seq_wp, k0_part23_eq_skeleton]
  iapply (part23_wp m K c w1 _ _)
  isplitr; · iexact HR
  isplitr; · iexact Hlev
  isplitl [HO]; · iexact HO
  isplitl [W5 W6]
  · isplitl [W5]; · iexact W5
    iexact W6
  isplitl [Hout]; · iexact Hout
  iintro ⟨HO, ⟨Z5, Z6⟩, Hout⟩
  try dsimp only
  ihave HC := (ag_creds (F := F) c) $$ [G0 G1 G2 G3 G4 G5 G6]
  · isplitl [G0]; · iexact G0
    isplitl [G1]; · iexact G1
    isplitl [G2]; · iexact G2
    isplitl [G3]; · iexact G3
    isplitl [G4]; · iexact G4
    isplitl [G5]; · iexact G5
    iexact G6
  ihave HW := (xw_list (F := F) c 2) $$ [HC A2]
  · isplitl [HC]; · iexact HC
    iexact A2
  icases HW with ⟨W0, W1, W2, W3, W4, W5, W6⟩
  rw [seq_wp, k0_part24_eq_skeleton]
  iapply (part24_wp m K c)
  isplitr; · iexact HR
  isplitr; · iexact Hlev
  isplitl [HO]; · iexact HO
  isplitl [W0 W1 W2 W3 W4]
  · isplitl [W0]; · iexact W0
    isplitl [W1]; · iexact W1
    isplitl [W2]; · iexact W2
    isplitl [W3]; · iexact W3
    iexact W4
  iintro ⟨HO, U0, U1, U2, U3, U4⟩
  try dsimp only
  simp only [Prog.lift, Prog.bind_op, Prog.bind_ret, Prog.pure_eq_ret]
  iapply (xwait m K 2 c 5 (n := 0) (by decide) (above_zero _) (dst := asM) rfl rfl) $$ [W5 HO]
  · isplitr; · iexact HR
    isplitr; · iexact Hlev
    isplitl [HO]; · iexact HO
    iexact W5
  iintro ⟨U5, UZ5, HO⟩
  iapply (xwait m K 2 c 6 (n := 0) (by decide) (above_zero _) (dst := asM) rfl rfl) $$ [W6 HO]
  · isplitr; · iexact HR
    isplitr; · iexact Hlev
    isplitl [HO]; · iexact HO
    iexact W6
  iintro ⟨U6, UZ6, HO⟩
  try unfold WP
  rw [wp_ret]; imodintro
  iapply Hk
  isplitl [HO]; · iexact HO
  isplitl [Q0 Q1 Q2 Q3 K0 K1 V0 V1 O]
  · isplitl [Q0 Q1 Q2 Q3]
    · isplitl [Q0]; · iexact Q0
      isplitl [Q1]; · iexact Q1
      isplitl [Q2]; · iexact Q2
      iexact Q3
    isplitl [K0 K1]
    · isplitl [K0]; · iexact K0
      iexact K1
    isplitl [V0 V1]
    · isplitl [V0]; · iexact V0
      iexact V1
    iexact O
  isplitl [Hzb]; · iexact Hzb
  isplitl [Hx]; · iexact Hx
  isplitl [Hout]; · iexact Hout
  isplitl [Hp]; · iexact Hp
  isplitl [Hback]; · iexact Hback
  isplitl [Y0 Y1 Y2 Y3 Y4 Y5 Y6]
  · isplitl [Y0]; · iexact Y0
    isplitl [Y1]; · iexact Y1
    isplitl [Y2]; · iexact Y2
    isplitl [Y3]; · iexact Y3
    isplitl [Y4]; · iexact Y4
    isplitl [Y5]; · iexact Y5
    iexact Y6
  isplitl [X0 X1 X2 X3 X4 X5 X6]
  · isplitl [X0]; · iexact X0
    isplitl [X1]; · iexact X1
    isplitl [X2]; · iexact X2
    isplitl [X3]; · iexact X3
    isplitl [X4]; · iexact X4
    isplitl [X5]; · iexact X5
    iexact X6
  isplitl [U0 U1 U2 U3 U4 U5 UZ5 U6 UZ6]
  · isplitl [U0]; · iexact U0
    isplitl [U1]; · iexact U1
    isplitl [U2]; · iexact U2
    isplitl [U3]; · iexact U3
    isplitl [U4]; · iexact U4
    isplitl [U5 UZ5]
    · isplitl [U5]; · iexact U5
      iexact UZ5
    isplitl [U6]; · iexact U6
    iexact UZ6
  isplitl [Z0]; · iexact Z0
  isplitl [Z1]; · iexact Z1
  isplitl [Z2]; · iexact Z2
  isplitl [Z3]; · iexact Z3
  isplitl [Z4]; · iexact Z4
  isplitl [Z5]; · iexact Z5
  iexact Z6

end Body

end Cert.KernelIdeal.Own
-- ==== Proof.Ghost.lean ====
/-
What each device starts with: the cells of the protocol made at launch, their tokens dealt to the
devices that pay with them, and the credit of what the other devices owe.
-/
module

public import proofs.«01_k».proof.Proof.Body

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's own semaphores -/

/-- The entry each family's semaphore array has for a step of distance zero: the kernel never uses it. -/
def idleS (f : Fin 4) : DmaSem sig := ⟨11 + 8 * f.val, by have := f.isLt; show _ < 43; omega⟩

abbrev OwnIx : Type := (Fin 4 ⊕ Fin 2 ⊕ Fin 2 ⊕ Fin 1 ⊕ Fin 4) ⊕ (Fin 4 × Fin 7)
def osem : OwnIx → SemLoc sig
  | .inl (.inl g) => .dma (semQ g)
  | .inl (.inr (.inl g)) => .dma (semK g)
  | .inl (.inr (.inr (.inl g))) => .dma (semV g)
  | .inl (.inr (.inr (.inr (.inl _)))) => .dma semO
  | .inl (.inr (.inr (.inr (.inr f)))) => .dma (idleS f)
  | .inr (f, u) => .dma (dsem f u)

theorem ownSemFacts : Pipeline.OwnSemFacts cfg0.spec osem := by
  decide

/-- The semaphores outside the protocol: the local copies' and the unused ones. -/
def plainSems (c : Dev nD) : sProp 𝕄 :=
  iprop((bigSep Finset.univ fun g : Fin 4 => semVal ((c : Thread nD τ), .dma (semQ g)) 0)
    ∗ (bigSep Finset.univ fun g : Fin 2 => semVal ((c : Thread nD τ), .dma (semK g)) 0)
    ∗ (bigSep Finset.univ fun g : Fin 2 => semVal ((c : Thread nD τ), .dma (semV g)) 0)
    ∗ (bigSep Finset.univ fun _ : Fin 1 => semVal ((c : Thread nD τ), .dma semO) 0)
    ∗ bigSep Finset.univ fun f : Fin 4 => semVal ((c : Thread nD τ), .dma (idleS f)) 0)

theorem ownSems0_eq (c : Dev nD) : (Pipeline.ownSems0 (Ix := Unit) (Name := ℕ) (U := UU) (Lvl := ℕ) (Val := Elt F) (τ := τ) osem c : sProp 𝕄)
    = iprop(plainSems c ∗ bigSep Finset.univ fun x : Fin 4 × Fin 7 => semVal (xCell x.1 c x.2) 0) := by
  unfold Pipeline.ownSems0 plainSems
  rw [bigSep_univ_sum, bigSep_univ_sum, bigSep_univ_sum, bigSep_univ_sum, bigSep_univ_sum]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- What is held for each of a device's cells: the barrier's and the transfers'. -/
theorem cells_split (Φ : CI → sProp 𝕄) : bigSep Finset.univ Φ = iprop(Φ none ∗ bigSep Finset.univ fun x : Fin 4 × Fin 7 => Φ (some x)) := by
  rw [bigSep_univ_at Φ none, show (Finset.univ : Finset CI).erase none = Finset.univ.map ⟨some, Option.some_injective _⟩ from by decide, bigSep_map]; rfl
/-- The same for the transfers' cells, family by family. -/
theorem fams_split (Φ : Fin 4 × Fin 7 → sProp 𝕄) : bigSep Finset.univ Φ
    = iprop((bigSep Finset.univ fun u => Φ (0, u)) ∗ (bigSep Finset.univ fun u => Φ (1, u)) ∗ (bigSep Finset.univ fun u => Φ (2, u)) ∗ bigSep Finset.univ fun u => Φ (3, u)) := by
  rw [bigSep_univ_prod, four_list]

/-! ## The launch element -/

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- A device's duties: its barrier's, a step each, and one for each transfer's cell. -/
abbrev TI : Type := Fin 7 ⊕ (Fin 4 × Fin 7)
def tokOf : Dev nD × TI → GSem nD τ sig × ℕ × Fin 7
  | (c, .inl u) => (barCell c, 0, u)
  | (c, .inr (f, u)) => (xCell f c u, 0, 0)
theorem tokOf_injective : Function.Injective tokOf := by
  rintro ⟨c, u | ⟨f, u⟩⟩ ⟨c', u' | ⟨f', u'⟩⟩ h
  · have h1 : c = c' := congrArg (fun x : GSem nD τ sig × ℕ × Fin 7 => x.1.1.1) h
    have h2 : u = u' := congrArg (fun x : GSem nD τ sig × ℕ × Fin 7 => x.2.2) h
    rw [h1, h2]
  · exact absurd (csem_injective (a₁ := none) (a₂ := some (f', u')) (congrArg (fun x : GSem nD τ sig × ℕ × Fin 7 => x.1.2) h)) (by simp)
  · exact absurd (csem_injective (a₁ := some (f, u)) (a₂ := none) (congrArg (fun x : GSem nD τ sig × ℕ × Fin 7 => x.1.2) h)) (by simp)
  · have h1 : c = c' := congrArg (fun x : GSem nD τ sig × ℕ × Fin 7 => x.1.1.1) h
    have h2 : some (f, u) = some (f', u') := csem_injective (congrArg (fun x : GSem nD τ sig × ℕ × Fin 7 => x.1.2) h)
    rw [h1, Option.some_injective _ h2]
def allToks : Finset (GSem nD τ sig × ℕ × Fin 7) := Finset.univ.map ⟨tokOf, tokOf_injective⟩

def u₀ : UU :=
  (initOf (Pipeline.cells cfgs cellOf_inj) (Pipeline.launchToks cfgs cellOf_inj), (initOf allCells allToks, 1))

/-- The duty tokens of a device's own cells. -/
def toks (c : Dev nD) : sProp 𝕄 :=
  iprop((bigSep Finset.univ fun u : Fin 7 => dutyTok ER (barCell c) 0 u) ∗ bigSep Finset.univ fun x : Fin 4 × Fin 7 => dutyTok ER (xCell x.1 c x.2) 0 (0 : Fin 7))
/-- The duty tokens a device pays with, most of them its neighbours'. -/
def payToks (c : Dev nD) : sProp 𝕄 :=
  iprop((bigSep Finset.univ fun u : Fin 7 => dutyTok ER (barCell (up c u)) 0 u)
    ∗ (bigSep Finset.univ fun u : Fin 7 => iprop(dutyTok ER (xCell 0 c u) 0 (0 : Fin 7) ∗ dutyTok ER (xCell 1 (up c u) u) 0 (0 : Fin 7)))
    ∗ bigSep Finset.univ fun u : Fin 7 => iprop(dutyTok ER (xCell 2 c u) 0 (0 : Fin 7) ∗ dutyTok ER (xCell 3 (up c u) u) 0 (0 : Fin 7)))

/-- What the launch element deals a device. -/
def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ toks c)

/-- A device's positions at its own cells. -/
def spots (c : Dev nD) : sProp 𝕄 :=
  iprop(atPos ER (barCell c) 0 ∅ 0
    ∗ (bigSep Finset.univ fun u : Fin 7 => atPos ER (xCell 0 c u) 0 ∅ 0) ∗ (bigSep Finset.univ fun u : Fin 7 => atPos ER (xCell 1 c u) 0 ∅ 0)
    ∗ (bigSep Finset.univ fun u : Fin 7 => atPos ER (xCell 2 c u) 0 ∅ 0) ∗ bigSep Finset.univ fun u : Fin 7 => atPos ER (xCell 3 c u) 0 ∅ 0)

/-- What the common step makes of it: the cells' records and the device's own share. -/
def G' (c : Dev nD) : sProp 𝕄 := iprop(∃ K, Recs m K ∗ spots c ∗ payToks c ∗ plainSems c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by rw [bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ plainSems c) := by
  unfold G
  rw [ownSems0_eq, unscopedSems0_eq]
  iintro ⟨⟨Hpl, Hx⟩, Hb, Hst, Hat, Htok⟩
  ihave Hv := (Entails.of_eq (cells_split (F := F) fun k => semVal (kcell (c, k)) 0).symm) $$ [Hb Hx]
  · isplitl [Hb]; · iexact Hb
    iexact Hx
  imod (show iprop((bigSep Finset.univ fun k : CI => semVal (kcell (c, k)) 0) ∗ bigSep Finset.univ fun k : CI => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Htok]; · iexact Htok
  iexact Hpl

/-- Held by every device for each of its steps, or by every device for the device each step leads to: the same. -/
theorem around (Φ : Dev nD → Fin 7 → sProp 𝕄) : (bigSep Finset.univ fun c : Dev nD => bigSep Finset.univ fun u : Fin 7 => Φ c u)
    = bigSep Finset.univ fun c : Dev nD => bigSep Finset.univ fun u : Fin 7 => Φ (up c u) u := by
  rw [bigSep_univ_comm, bigSep_univ_comm (fun (c : Dev nD) (u : Fin 7) => Φ (up c u) u)]
  exact bigSep_congr fun u _ => bigSep_univ_equiv (ring u) fun c => Φ c u

theorem toks_around : (bigSep Finset.univ fun c : Dev nD => (toks c : sProp 𝕄)) ⊢ bigSep Finset.univ fun c : Dev nD => payToks c := by
  unfold toks payToks; simp only [fams_split, bigSep_sep']
  rw [around (fun c u => dutyTok ER (barCell c) 0 u), around (fun c u => dutyTok ER (xCell 1 c u) 0 (0 : Fin 7)), around (fun c u => dutyTok ER (xCell 3 c u) 0 (0 : Fin 7))]
  iintro ⟨H1, H2, H3, H4, H5⟩
  isplitl [H1]; · iexact H1
  isplitl [H2 H3]
  · isplitl [H2] <;> iassumption
  isplitl [H4] <;> iassumption

theorem spots_eq (c : Dev nD) : (bigSep Finset.univ fun k : CI => atPos ER (kcell (c, k)) 0 ∅ 0 : sProp 𝕄) = spots c := by
  rw [cells_split, fams_split]; rfl

/-- With something persistent at hand for every part. -/
theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ plainSems c) : sProp 𝕄)
      ⊢ bigSep Finset.univ (G' m) := by
  rw [bigSep_sep', bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok, Hpl⟩
  ihave HK := (BI.bigSep_exists_pi Finset.univ (fun (ck : Dev nD × CI) (κ : ℕ) => (cellInv ER (Rd m) κ (kcell ck) : sProp 𝕄))) $$ HI
  icases HK with ⟨%K, #HI⟩
  ihave Htk := (toks_around (F := F)) $$ Htok
  iapply (with_all (R := Recs m K) (Φ := fun c => iprop(spots c ∗ payToks c ∗ plainSems c)) fun c _ => by
    unfold G'; iintro ⟨#HR, H⟩; iexists K; isplitr; · iexact HR
    iexact H)
  isplitr
  · unfold Recs; rw [bigSep_sep']; isplitr; · iexact HI
    iexact HR
  · rw [bigSep_sep', bigSep_sep']
    isplitl [Hat]; · iapply (Entails.of_eq (bigSep_congr (s := Finset.univ) fun c _ => spots_eq (F := F) c)); iexact Hat
    isplitl [Htk] <;> iassumption

/-- The common step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (deal m))

/-! ## The launch credit -/

theorem TS_sum (c : Dev nD) : (∑ j : Dev nD, TS c j) = ∑ u : Fin 7, tallyAt (xCell 1 (up c u) u) () N := by
  rw [← Finset.add_sum_erase Finset.univ (TS c) (Finset.mem_univ c), ← others c, Finset.sum_map]
  rw [show TS c c = 0 from if_pos rfl, zero_add]
  exact Finset.sum_congr rfl fun u _ => show TS c (up c u) = _ from by
    unfold TS; rw [if_neg (up_ne c u), stepTo_up]

theorem owe_eq (c : Dev nD) : O₀ c = (∑ u : Fin 7, tallyAt (xCell 3 (up c u) u) () N) + (∑ u : Fin 7, tallyAt (xCell 1 (up c u) u) () N)
    + ∑ u : Fin 7, tallyAt (barCell (up c u)) () 1 := by
  rw [← TS_sum]
  simp only [O₀, OB, OSAll, OS, OAll, OA, Fin.sum_univ_seven, Fin.sum_univ_eight, zero_add]
  ac_rfl

theorem one_each (s : SemLoc sig) (n : ℕ) (c : Dev nD) :
    (bigSep Finset.univ fun u : Fin 7 => (Pipeline.launchCred (fun d => tallyAt (((up d u : Dev nD) : Thread nD τ), s) () n) c : sProp 𝕄))
      ⊢ bigSep Finset.univ fun _u : Fin 7 => cred (tallyAt ((c : Thread nD τ), s) () n) :=
  bigSep_mono fun u _ => Pipeline.launchCred_tallyAt s (fun d => up d u) (fun d => dn d u) (fun d => up_dn d u) (fun d => dn_up d u) () n c
theorem fam_each (f : Fin 4) (c : Dev nD) :
    (bigSep Finset.univ fun u : Fin 7 => (Pipeline.launchCred (fun d => tallyAt (xCell f (up d u) u) () N) c : sProp 𝕄))
      ⊢ bigSep Finset.univ fun u : Fin 7 => cred (tallyAt (xCell f c u) () N) :=
  bigSep_mono fun u _ => Pipeline.launchCred_tallyAt (.dma (dsem f u)) (fun d => up d u) (fun d => dn d u) (fun d => up_dn d u) (fun d => dn_up d u) () N c

theorem creds (c : Dev nD) : (Pipeline.launchCred O₀ c : sProp 𝕄)
    ⊢ iprop((cred (tallyAt (barCell c) () 7)) ∗ (bigSep Finset.univ fun u : Fin 7 => cred (tallyAt (xCell 1 c u) () N)) ∗ bigSep Finset.univ fun u : Fin 7 => cred (tallyAt (xCell 3 c u) () N)) := by
  rw [show O₀ = fun d => ((∑ u : Fin 7, tallyAt (xCell 3 (up d u) u) () N) + (∑ u : Fin 7, tallyAt (xCell 1 (up d u) u) () N))
    + ∑ u : Fin 7, tallyAt (barCell (up d u)) () 1 from funext owe_eq,
    Pipeline.launchCred_add, Pipeline.launchCred_add, Pipeline.launchCred_sum, Pipeline.launchCred_sum, Pipeline.launchCred_sum]
  have hb : (tallyAt (barCell c) () 7 : CellTallies nD τ sig Unit) = ∑ _u : Fin 7, tallyAt (barCell c) () 1 := by
    simp only [Fin.sum_univ_seven, tallyAt_add]
  rw [hb, Pipeline.cred_finsetSum]
  iintro ⟨⟨H3, H1⟩, HB⟩
  isplitl [HB]; · iapply one_each (.reg barS) 1 c; iexact HB
  isplitl [H1]; · iapply fam_each 1 c; iexact H1
  iapply fam_each 3 c; iexact H3

end Cert.KernelIdeal.Own
-- ==== Proof.Whole.lean ====
/-
The body from what the launch leaves a device to what the launch takes back: the buffers cut into the pieces
that the copies and transfers work on, and put together again.
-/
module

public import proofs.«01_k».proof.Proof.Ghost

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A buffer of device c whole, at the contents it has at launch; at some contents. -/
abbrev whole (c : Dev nD) (b : Ref sig .tc) : sProp 𝕄 := (c : Thread nD τ).loc b ↦{fullShare} m ((c : Thread nD τ).loc b)
abbrev anyOf (c : Dev nD) (b : Ref sig .tc) : sProp 𝕄 := iprop(∃ f : Buf (Elt F) ((c : Thread nD τ).loc b), (c : Thread nD τ).loc b ↦{fullShare} f)

omit [FloatOps F] in
theorem some_each {I B : Type} (S : Finset I) (Φ : I → B → sProp 𝕄) (f : B) : bigSep S (fun i => Φ i f) ⊢ bigSep S fun i => iprop(∃ f, Φ i f) :=
  bigSep_mono fun i _ => show Φ i f ⊢ iprop(∃ f, Φ i f) from by iintro H; iexists f; iexact H
omit [FloatOps F] in
theorem some_each' {I B : Type} (S : Finset I) (Φ : I → B → sProp 𝕄) (f : I → B) : bigSep S (fun i => Φ i (f i)) ⊢ bigSep S fun i => iprop(∃ f, Φ i f) :=
  bigSep_mono fun i _ => show Φ i (f i) ⊢ iprop(∃ f, Φ i f) from by iintro H; iexists (f i); iexact H

/-! ## What the local copies are lent, and give back -/

/-- The query weights. -/
theorem q_lend (c : Dev nD) : iprop(whole m c main_arg1 ∗ anyOf c cc0_scratch2 ∗ bigSep Finset.univ fun g : Fin 4 => semVal ((c : Thread nD τ), .dma (semQ g)) 0)
    ⊢ iprop((qIn m c 0 ∗ qIn m c 1 ∗ qIn m c 2 ∗ qIn m c 3) ∗ ((qOut m c 0 ∗ qOut m c 1 ∗ qOut m c 2 ∗ qOut m c 3)
      -∗ (whole m c main_arg1 ∗ anyOf c cc0_scratch2 ∗ bigSep Finset.univ fun g : Fin 4 => semVal ((c : Thread nD τ), .dma (semQ g)) 0))) := by
  have hin : bigSep Finset.univ (fun g => qIn m c g) = iprop((bigSep Finset.univ fun g => qSrc m c g) ∗ (bigSep Finset.univ fun g => iprop(∃ f, qPts c g f))
      ∗ bigSep Finset.univ fun g : Fin 4 => semVal ((c : Thread nD τ), .dma (semQ g)) 0) := by rw [bigSep_sep', bigSep_sep']
  have hout : bigSep Finset.univ (fun g => qOut m c g) = iprop((bigSep Finset.univ fun g => qSrc m c g) ∗ (bigSep Finset.univ fun g => qPts c g (wqC m c g))
      ∗ bigSep Finset.univ fun g : Fin 4 => semVal ((c : Thread nD τ), .dma (semQ g)) 0) := by rw [bigSep_sep', bigSep_sep']
  iintro ⟨Ha, ⟨%f, Hs⟩, Hz⟩
  ihave Hl := (lend (ℓ := (c : Thread nD τ).loc main_arg1) 4 (fun g => (wqCol g).view.set) (m ((c : Thread nD τ).loc main_arg1))) $$ Ha
  icases Hl with ⟨Ht, Hb⟩
  ihave Hs := (Entails.of_eq (wq_split c f)) $$ Hs
  isplitl [Ht Hs Hz]
  · iapply (Entails.of_eq (four_list fun g => qIn m c g))
    iapply (Entails.of_eq hin.symm)
    isplitl [Ht]; · iexact Ht
    isplitl [Hs]; · iapply (some_each Finset.univ (fun g f => qPts (F := F) c g f) f); iexact Hs
    iexact Hz
  · iintro H
    ihave H := (Entails.of_eq (four_list fun g => qOut m c g).symm) $$ H
    ihave H := (Entails.of_eq hout) $$ H
    icases H with ⟨Ht, Hs, Hz⟩
    isplitl [Ht Hb]; · iapply Hb; iexact Ht
    isplitl [Hs]
    · iapply (wq_join c (m ((c : Thread nD τ).loc cc0_scratch2)))
      iapply (some_each' Finset.univ (fun g f => qPts (F := F) c g f) fun g => wqC m c g); iexact Hs
    iexact Hz

/-- The keys. -/
theorem k_lend (c : Dev nD) : iprop(whole m c main_arg2 ∗ anyOf c cc0_scratch0 ∗ bigSep Finset.univ fun g : Fin 2 => semVal ((c : Thread nD τ), .dma (semK g)) 0)
    ⊢ iprop((kIn m c 0 ∗ kIn m c 1) ∗ ((kOut m c 0 ∗ kOut m c 1)
      -∗ (whole m c main_arg2 ∗ anyOf c cc0_scratch0 ∗ bigSep Finset.univ fun g : Fin 2 => semVal ((c : Thread nD τ), .dma (semK g)) 0))) := by
  have hin : bigSep Finset.univ (fun g => kIn m c g) = iprop((bigSep Finset.univ fun g => kSrc m c g) ∗ (bigSep Finset.univ fun g => iprop(∃ f, kPts c g f))
      ∗ bigSep Finset.univ fun g : Fin 2 => semVal ((c : Thread nD τ), .dma (semK g)) 0) := by rw [bigSep_sep', bigSep_sep']
  have hout : bigSep Finset.univ (fun g => kOut m c g) = iprop((bigSep Finset.univ fun g => kSrc m c g) ∗ (bigSep Finset.univ fun g => kPts c g (kC m c g))
      ∗ bigSep Finset.univ fun g : Fin 2 => semVal ((c : Thread nD τ), .dma (semK g)) 0) := by rw [bigSep_sep', bigSep_sep']
  iintro ⟨Ha, ⟨%f, Hs⟩, Hz⟩
  ihave Hl := (lend (ℓ := (c : Thread nD τ).loc main_arg2) 2 (fun g => (kHead c g).view.set) (m ((c : Thread nD τ).loc main_arg2))) $$ Ha
  icases Hl with ⟨Ht, Hb⟩
  ihave Hs := (Entails.of_eq (kk_split c f)) $$ Hs
  isplitl [Ht Hs Hz]
  · iapply (Entails.of_eq (two_list fun g => kIn m c g))
    iapply (Entails.of_eq hin.symm)
    isplitl [Ht]; · iexact Ht
    isplitl [Hs]; · iapply (some_each Finset.univ (fun g f => kPts (F := F) c g f) f); iexact Hs
    iexact Hz
  · iintro H
    ihave H := (Entails.of_eq (two_list fun g => kOut m c g).symm) $$ H
    ihave H := (Entails.of_eq hout) $$ H
    icases H with ⟨Ht, Hs, Hz⟩
    isplitl [Ht Hb]; · iapply Hb; iexact Ht
    isplitl [Hs]
    · iapply (kk_join c (m ((c : Thread nD τ).loc cc0_scratch0)))
      iapply (some_each' Finset.univ (fun g f => kPts (F := F) c g f) fun g => kC m c g); iexact Hs
    iexact Hz

/-- The values. -/
theorem v_lend (c : Dev nD) : iprop(whole m c main_arg3 ∗ anyOf c cc0_scratch1 ∗ bigSep Finset.univ fun g : Fin 2 => semVal ((c : Thread nD τ), .dma (semV g)) 0)
    ⊢ iprop((vIn m c 0 ∗ vIn m c 1) ∗ ((vOut m c 0 ∗ vOut m c 1)
      -∗ (whole m c main_arg3 ∗ anyOf c cc0_scratch1 ∗ bigSep Finset.univ fun g : Fin 2 => semVal ((c : Thread nD τ), .dma (semV g)) 0))) := by
  have hin : bigSep Finset.univ (fun g => vIn m c g) = iprop((bigSep Finset.univ fun g => vSrc m c g) ∗ (bigSep Finset.univ fun g => iprop(∃ f, vPts c g f))
      ∗ bigSep Finset.univ fun g : Fin 2 => semVal ((c : Thread nD τ), .dma (semV g)) 0) := by rw [bigSep_sep', bigSep_sep']
  have hout : bigSep Finset.univ (fun g => vOut m c g) = iprop((bigSep Finset.univ fun g => vSrc m c g) ∗ (bigSep Finset.univ fun g => vPts c g (vC m c g))
      ∗ bigSep Finset.univ fun g : Fin 2 => semVal ((c : Thread nD τ), .dma (semV g)) 0) := by rw [bigSep_sep', bigSep_sep']
  iintro ⟨Ha, ⟨%f, Hs⟩, Hz⟩
  ihave Hl := (lend (ℓ := (c : Thread nD τ).loc main_arg3) 2 (fun g => (vHead c g).view.set) (m ((c : Thread nD τ).loc main_arg3))) $$ Ha
  icases Hl with ⟨Ht, Hb⟩
  ihave Hs := (Entails.of_eq (vvs_split c f)) $$ Hs
  isplitl [Ht Hs Hz]
  · iapply (Entails.of_eq (two_list fun g => vIn m c g))
    iapply (Entails.of_eq hin.symm)
    isplitl [Ht]; · iexact Ht
    isplitl [Hs]; · iapply (some_each Finset.univ (fun g f => vPts (F := F) c g f) f); iexact Hs
    iexact Hz
  · iintro H
    ihave H := (Entails.of_eq (two_list fun g => vOut m c g).symm) $$ H
    ihave H := (Entails.of_eq hout) $$ H
    icases H with ⟨Ht, Hs, Hz⟩
    isplitl [Ht Hb]; · iapply Hb; iexact Ht
    isplitl [Hs]
    · iapply (vvs_join c (m ((c : Thread nD τ).loc cc0_scratch1)))
      iapply (some_each' Finset.univ (fun g f => vPts (F := F) c g f) fun g => vC m c g); iexact Hs
    iexact Hz

omit [FloatOps F] in
theorem one_list (Φ : Fin 1 → sProp 𝕄) : bigSep Finset.univ Φ = Φ 0 := by
  rw [show (Finset.univ : Finset (Fin 1)) = {0} from rfl, bigSep_singleton]
theorem wo_set : woM.view.set = Finset.univ := View.set_whole _
theorem woH_set : woH.view.set = Finset.univ := View.set_whole _
/-- The output weights. -/
theorem o_lend (c : Dev nD) : iprop(whole m c main_arg4 ∗ anyOf c cc0_scratch3 ∗ bigSep Finset.univ fun _ : Fin 1 => semVal ((c : Thread nD τ), .dma semO) 0)
    ⊢ iprop(oIn m c ∗ (oOut m c
      -∗ (whole m c main_arg4 ∗ anyOf c cc0_scratch3 ∗ bigSep Finset.univ fun _ : Fin 1 => semVal ((c : Thread nD τ), .dma semO) 0))) := by
  rw [one_list]
  unfold oIn oOut oSrc oPts
  rw [wo_set, woH_set]
  iintro ⟨Ha, Hs, Hz⟩
  isplitl
  · isplitl [Ha]; · iexact Ha
    isplitl [Hs]; · iexact Hs
    iexact Hz
  · iintro ⟨Ha, Hs, Hz⟩
    isplitl [Ha]; · iexact Ha
    isplitl [Hs]; · iexists _; iexact Hs
    iexact Hz

/-! ## The landing buffers, slot by slot -/

theorem rs_in (c : Dev nD) : anyOf (F := F) c cc0_scratch5 ⊢ iprop((∃ f, rsPts (F := F) c 0 f) ∗ bigSep Finset.univ fun u : Fin 7 => iprop(∃ f, rsPts (F := F) c u.succ f)) := by
  iintro ⟨%f, H⟩
  ihave H := (Entails.of_eq (rs_split c f)) $$ H
  ihave H := (some_each Finset.univ (fun k f => rsPts (F := F) c k f) f) $$ H
  iapply (Entails.of_eq (slots_split fun k => iprop(∃ f, rsPts (F := F) c k f))); iexact H
theorem ag_in (c : Dev nD) : anyOf (F := F) c cc0_scratch7 ⊢ iprop((∃ f, agPts (F := F) c 0 f) ∗ bigSep Finset.univ fun u : Fin 7 => iprop(∃ f, agPts (F := F) c u.succ f)) := by
  iintro ⟨%f, H⟩
  ihave H := (Entails.of_eq (ag_split c f)) $$ H
  ihave H := (some_each Finset.univ (fun k f => agPts (F := F) c k f) f) $$ H
  iapply (Entails.of_eq (slots_split fun k => iprop(∃ f, agPts (F := F) c k f))); iexact H
theorem rs_out (c : Dev nD) : iprop((∃ f, rsPts (F := F) c 0 f) ∗ bigSep Finset.univ fun u : Fin 7 => rsPts c u.succ (rsC m c u)) ⊢ anyOf (F := F) c cc0_scratch5 := by
  iintro ⟨H0, H⟩
  iapply (rs_join c (m ((c : Thread nD τ).loc cc0_scratch5)))
  iapply (Entails.of_eq (slots_split fun k => iprop(∃ f, rsPts (F := F) c k f)).symm)
  isplitl [H0]; · iexact H0
  iapply (some_each' Finset.univ (fun (u : Fin 7) f => rsPts (F := F) c u.succ f) fun u => rsC m c u); iexact H
theorem ag_out (c : Dev nD) : iprop((∃ f, agPts (F := F) c 0 f) ∗ bigSep Finset.univ fun u : Fin 7 => agPts c u.succ (agC m c u)) ⊢ anyOf (F := F) c cc0_scratch7 := by
  iintro ⟨H0, H⟩
  iapply (ag_join c (m ((c : Thread nD τ).loc cc0_scratch7)))
  iapply (Entails.of_eq (slots_split fun k => iprop(∃ f, agPts (F := F) c k f)).symm)
  isplitl [H0]; · iexact H0
  iapply (some_each' Finset.univ (fun (u : Fin 7) f => agPts (F := F) c u.succ f) fun u => agC m c u); iexact H

/-- The seven signals' kits: the tokens of the neighbours' barrier cells and the landing slots handed over. -/
theorem sig_kits (c : Dev nD) : iprop((bigSep Finset.univ fun u : Fin 7 => dutyTok ER (barCell (up c u)) 0 u)
      ∗ (bigSep Finset.univ fun u : Fin 7 => iprop(∃ f, rsPts (F := F) c u.succ f)) ∗ bigSep Finset.univ fun u : Fin 7 => iprop(∃ f, agPts (F := F) c u.succ f))
    ⊢ iprop(sigKit (F := F) c 0 ∗ sigKit (F := F) c 1 ∗ sigKit (F := F) c 2 ∗ sigKit (F := F) c 3 ∗ sigKit (F := F) c 4 ∗ sigKit (F := F) c 5 ∗ sigKit (F := F) c 6) := by
  have h : iprop((bigSep Finset.univ fun u : Fin 7 => iprop(∃ f, rsPts (F := F) c u.succ f)) ∗ bigSep Finset.univ fun u : Fin 7 => iprop(∃ f, agPts (F := F) c u.succ f))
      = bigSep Finset.univ fun u : Fin 7 => land (F := F) c (rev u) :=
    (bigSep_sep' Finset.univ (fun u : Fin 7 => iprop(∃ f, rsPts (F := F) c u.succ f)) fun u => iprop(∃ f, agPts (F := F) c u.succ f)).symm.trans
      (bigSep_univ_equiv revE fun u => land (F := F) c u)
  rw [h, ← bigSep_sep']
  exact Entails.of_eq (steps_list fun u => sigKit (F := F) c u)

/-- What the transfers' cells hand back: the payloads, and the counters at zero. -/
theorem gots (c : Dev nD) (f : Fin 4) : iprop(xG m c f 0 ∗ xG m c f 1 ∗ xG m c f 2 ∗ xG m c f 3 ∗ xG m c f 4 ∗ xG m c f 5 ∗ xG m c f 6)
    ⊢ iprop((bigSep Finset.univ fun u : Fin 7 => xPay m f c u) ∗ bigSep Finset.univ fun u : Fin 7 => semVal (xCell f c u) 0) :=
  (Entails.of_eq (steps_list fun u => xG m c f u).symm).trans (Entails.of_eq (bigSep_sep' _ _ _))

/-! ## Before and after the body -/

abbrev args (c : Dev nD) : sProp 𝕄 := iprop(whole m c main_arg1 ∗ whole m c main_arg2 ∗ whole m c main_arg3 ∗ whole m c main_arg4)
abbrev scr (c : Dev nD) : sProp 𝕄 :=
  iprop(anyOf (F := F) c cc0_scratch0 ∗ anyOf (F := F) c cc0_scratch1 ∗ anyOf (F := F) c cc0_scratch2 ∗ anyOf (F := F) c cc0_scratch3
    ∗ anyOf (F := F) c cc0_scratch4 ∗ anyOf (F := F) c cc0_scratch5 ∗ anyOf (F := F) c cc0_scratch6 ∗ anyOf (F := F) c cc0_scratch7)
/-- The credit a device starts with. -/
abbrev credit (c : Dev nD) : sProp 𝕄 :=
  iprop(cred (tallyAt (barCell c) () 7) ∗ (bigSep Finset.univ fun u : Fin 7 => cred (tallyAt (xCell 1 c u) () N)) ∗ bigSep Finset.univ fun u : Fin 7 => cred (tallyAt (xCell 3 c u) () N))
abbrev start (c : Dev nD) : sProp 𝕄 := iprop(G' m c ∗ credit (F := F) c ∗ levAts L lv ∗ args m c)
def Φ₀ (c : Dev nD) : sProp 𝕄 := iprop(start m c ∗ scr (F := F) c)
def Φ₁ (c : Dev nD) : sProp 𝕄 :=
  iprop(semVal (barCell c) 0 ∗ (plainSems (F := F) c ∗ bigSep Finset.univ fun x : Fin 4 × Fin 7 => semVal (xCell x.1 c x.2) 0) ∗ args m c ∗ scr (F := F) c)

attribute [local irreducible] k0_cond1 k0_cond2 k0_cond3 k0_cond4 k0_cond5 k0_cond6 k0_cond7 k0_cond8

set_option maxHeartbeats 1000000 in
/-- The body on device c, from what the launch leaves it. -/
theorem body_run (c : Dev nD) (f : OBuf F) {Q : PUnit → sProp 𝕄} :
    iprop((Φ₀ m c ∗ ow c (O₀ c) ∗ xPts m c ∗ outPts c f) ∗ ((Φ₁ m c ∗ ow c 0 ∗ xPts m c ∗ outPts c (outC m c)) -∗ Q ⟨⟩))
      ⊢ WP c (cc0_body xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14) Q := by
  unfold Φ₀ Φ₁ start G' spots payToks plainSems
  iintro ⟨⟨⟨⟨⟨%K, #HR, ⟨Pb, P0, P1, P2, P3⟩, ⟨Tb, Tr, Ta⟩, Zq, Zk, Zv, Zo, Zi⟩, ⟨Cb, C1, C3⟩, Hlev, ⟨A1, A2, A3, A4⟩⟩, ⟨S0, S1, S2, S3, S4, S5, S6, S7⟩⟩, HO, Hx, Hout⟩, Hk⟩
  ihave Lq := (q_lend m c) $$ [A1 S2 Zq]
  · isplitl [A1]; · iexact A1
    isplitl [S2]; · iexact S2
    iexact Zq
  ihave Lk := (k_lend m c) $$ [A2 S0 Zk]
  · isplitl [A2]; · iexact A2
    isplitl [S0]; · iexact S0
    iexact Zk
  ihave Lv := (v_lend m c) $$ [A3 S1 Zv]
  · isplitl [A3]; · iexact A3
    isplitl [S1]; · iexact S1
    iexact Zv
  ihave Lo := (o_lend m c) $$ [A4 S3 Zo]
  · isplitl [A4]; · iexact A4
    isplitl [S3]; · iexact S3
    iexact Zo
  icases Lq with ⟨Iq, Bq⟩
  icases Lk with ⟨Ik, Bk⟩
  icases Lv with ⟨Iv, Bv⟩
  icases Lo with ⟨Io, Bo⟩
  ihave R := (rs_in (F := F) c) $$ S5
  ihave A := (ag_in (F := F) c) $$ S7
  icases R with ⟨R0, R⟩
  icases A with ⟨A0, A⟩
  ihave Hs := (sig_kits (F := F) c) $$ [Tb R A]
  · isplitl [Tb]; · iexact Tb
    isplitl [R]; · iexact R
    iexact A
  iapply (body_wp m K c f)
  isplitl [HO Hx Hout Hlev Iq Ik Iv Io Hs Cb Pb S4 S6 Tr Ta C1 C3 P0 P1 P2 P3]
  · isplitr; · iexact HR
    isplitl [Hlev]; · iexact Hlev
    isplitl [HO]; · iexact HO
    isplitl [Iq Ik Iv Io]
    · isplitl [Iq]; · iexact Iq
      isplitl [Ik]; · iexact Ik
      isplitl [Iv]; · iexact Iv
      iexact Io
    isplitl [Hs]; · iexact Hs
    isplitl [Cb Pb]
    · isplitl [Cb]; · iexact Cb
      iexact Pb
    isplitl [Hx]; · iexact Hx
    isplitl [S4]; · iexact S4
    isplitl [Hout]; · iexact Hout
    isplitl [S6]; · iexact S6
    isplitl [Tr]; · iexact Tr
    isplitl [Ta]; · iexact Ta
    isplitl [C1 C3]
    · isplitl [C1]; · iexact C1
      iexact C3
    isplitl [P0]; · iexact P0
    isplitl [P1]; · iexact P1
    isplitl [P2]; · iexact P2
    iexact P3
  iintro ⟨HO, ⟨Oq, Ok, Ov, Oo⟩, Zb, Hx, Hout, Hp, Has, X0, X1, X2, X3⟩
  ihave X0 := (gots m c 0) $$ X0
  ihave X1 := (gots m c 1) $$ X1
  ihave X2 := (gots m c 2) $$ X2
  ihave X3 := (gots m c 3) $$ X3
  icases X0 with ⟨Y0, Z0⟩
  icases X1 with ⟨Y1, Z1⟩
  icases X2 with ⟨Y2, Z2⟩
  icases X3 with ⟨Y3, Z3⟩
  ihave Bq := Bq $$ Oq
  ihave Bk := Bk $$ Ok
  ihave Bv := Bv $$ Ov
  ihave Bo := Bo $$ Oo
  icases Bq with ⟨A1, S2, Zq⟩
  icases Bk with ⟨A2, S0, Zk⟩
  icases Bv with ⟨A3, S1, Zv⟩
  icases Bo with ⟨A4, S3, Zo⟩
  iapply Hk
  isplitl [Zb Zq Zk Zv Zo Zi Z0 Z1 Z2 Z3 A1 A2 A3 A4 S0 S1 S2 S3 Hp Y0 R0 Y1 Has Y2 A0 Y3]
  · isplitl [Zb]; · iexact Zb
    isplitl [Zq Zk Zv Zo Zi Z0 Z1 Z2 Z3]
    · isplitl [Zq Zk Zv Zo Zi]
      · isplitl [Zq]; · iexact Zq
        isplitl [Zk]; · iexact Zk
        isplitl [Zv]; · iexact Zv
        isplitl [Zo]; · iexact Zo
        iexact Zi
      iapply (Entails.of_eq (fams_split fun x => semVal (xCell x.1 c x.2) 0).symm)
      isplitl [Z0]; · iexact Z0
      isplitl [Z1]; · iexact Z1
      isplitl [Z2]; · iexact Z2
      iexact Z3
    isplitl [A1 A2 A3 A4]
    · isplitl [A1]; · iexact A1
      isplitl [A2]; · iexact A2
      isplitl [A3]; · iexact A3
      iexact A4
    isplitl [S0]; · iexact S0
    isplitl [S1]; · iexact S1
    isplitl [S2]; · iexact S2
    isplitl [S3]; · iexact S3
    isplitl [Hp Y0]
    · iexists (pC m c)
      iapply (Entails.of_eq (p_chunks c (pC m c)).symm)
      iapply (Entails.of_eq (devs_split c fun j => pPts c j (pC m c)).symm)
      isplitl [Hp]; · iexact Hp
      iapply (Entails.of_eq (show (bigSep Finset.univ fun u : Fin 7 => xPay m 0 c u) = bigSep Finset.univ fun u : Fin 7 => pPts c (up c u) (pC m c) from rfl)); iexact Y0
    isplitl [R0 Y1]
    · iapply (rs_out m c)
      isplitl [R0]; · iexact R0
      iapply (Entails.of_eq (show (bigSep Finset.univ fun u : Fin 7 => xPay m 1 c u) = bigSep Finset.univ fun u : Fin 7 => rsPts c u.succ (rsC m c u) from rfl)); iexact Y1
    isplitl [Has Y2]
    · iexists (asC m c)
      iapply Has
      iapply (Entails.of_eq (show (bigSep Finset.univ fun u : Fin 7 => xPay m 2 c u) = bigSep Finset.univ fun u : Fin 7 => asPts c u (asC m c) from rfl)); iexact Y2
    iapply (ag_out m c)
    isplitl [A0]; · iexact A0
    iapply (Entails.of_eq (show (bigSep Finset.univ fun u : Fin 7 => xPay m 3 c u) = bigSep Finset.univ fun u : Fin 7 => agPts c u.succ (agC m c u) from rfl)); iexact Y3
  isplitl [HO]; · iexact HO
  isplitl [Hx]; · iexact Hx
  iapply (Entails.of_eq (congrArg (fun g => outPts c g) (outOver_eq m c f))); iexact Hout

end Cert.KernelIdeal.Own
-- ==== Proof.Launch.lean ====
/-
The launch of the eight devices: every weakly fair run ends, with the arrays at the contents computed.
-/
module

public import proofs.«01_k».proof.Proof.Whole
public import proofs.«01_k».proof.Proof.Gen.KernelIdeal.Points
public import Idealize.ShloMosaic.Lib.Pipeline.FrameBody
public import Idealize.ShloMosaic.Lib.Pipeline.Quiescent

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## The pipeline's data: one grid point, x staged in, the result staged out -/

def dats (_ : Fin 1) (c : Dev nD) : Dat τ (Elt F) Unit ℕ UU ℕ cfg0 c where
  A w := m ((cfg0.win w).arr.view.loc (c : Thread nD τ))
  after w _ := match w with
    | ⟨0, _⟩ => xC m c
    | ⟨1, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole (c : Dev nD) (b : Ref sig .tc) (X : b.ty.Contents (Elt F)) :
    (owns (c : Thread nD τ) (Memref.whole b) fullShare X : sProp 𝕄) = iprop(∃ f, ⌜f = X⌝ ∗ (c : Thread nD τ).loc b ↦{fullShare} f) := by
  unfold owns
  simp only [Memref.view_whole, View.read_whole, View.set_whole]

attribute [local irreducible] k0_cond1 k0_cond2 k0_cond3 k0_cond4 k0_cond5 k0_cond6 k0_cond7 k0_cond8

abbrev held (c : Dev nD) (b : Ref sig .tc) (X : b.ty.Contents (Elt F)) : sProp 𝕄 := iprop(∃ f, ⌜f = X⌝ ∗ (c : Thread nD τ).loc b ↦{fullShare} f)

def before' (c : Dev nD) : sProp 𝕄 :=
  iprop(Φ₀ m c ∗ (dats m 0 c).owesAt () t0_0.castSucc
    ∗ (∃ d, held c cc0_stg0_0 ((dats m 0 c).before (0 : Fin 2) t0_0 d))
    ∗ (∃ d, held c cc0_stg1_0 ((dats m 0 c).before (1 : Fin 2) t0_0 d)))
def after' (c : Dev nD) : sProp 𝕄 :=
  iprop(Φ₁ m c ∗ (dats m 0 c).owesAt () t0_0.succ ∗ held c cc0_stg0_0 (xC m c) ∗ held c cc0_stg1_0 (outC m c))

theorem before_x (c : Dev nD) (d) : (dats m 0 c).before (0 : Fin 2) t0_0 d = xC m c := by
  unfold Dat.before; rw [if_pos (fetch0_0 t0_0)]; rfl

set_option maxRecDepth 4000 in
set_option maxHeartbeats 1000000 in
theorem point (c : Dev nD) : before' m c ⊢ WP c (cc0_body xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14) fun _ => after' m c := by
  unfold before' after' Dat.owesAt Pipeline.owesWithin
  rw [show (dats m 0 c).owed t0_0.castSucc = O₀ c from rfl, show (dats m 0 c).owed t0_0.succ = 0 from rfl]
  iintro ⟨HΦ, ⟨%W, %hW, HO⟩, ⟨%d, %fx, %hx, Hx⟩, ⟨%d', %fo, %ho, Hout⟩⟩
  rw [before_x] at hx
  subst hx
  iapply (body_run m c fo)
  isplitl [HΦ HO Hx Hout]
  · isplitl [HΦ]; · iexact HΦ
    isplitl [HO]; · unfold ow; iexists W; iexact HO
    isplitl [Hx]; · iexact Hx
    iexact Hout
  unfold ow
  iintro ⟨HΦ, ⟨%W', HO⟩, Hx, Hout⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

theorem row : defs₀ (F := F) .tc cfg0.body (cfg0.bodyArgs t0_0 (cfg0.slots t0_0)) = cc0_body xM (Memref.isWhole_whole _) wqH (Memref.isWhole_whole _) woH (Memref.isWhole_whole _) kH (Memref.isWhole_whole _) vH (Memref.isWhole_whole _) oM (Memref.isWhole_whole _) kM (Memref.isWhole_whole _) vM (Memref.isWhole_whole _) wqM (Memref.isWhole_whole _) woM (Memref.isWhole_whole _) pM (Memref.isWhole_whole _) rsM (Memref.isWhole_whole _) asM (Memref.isWhole_whole _) agM (Memref.isWhole_whole _) cc0_scratch8 cc0_scratch9 cc0_scratch10 cc0_scratch11 cc0_scratch12 cc0_scratch13 cc0_scratch14 := by
  unfold defs₀; rw [Defs.onTc_tc]

attribute [local irreducible] outC xC Φ₀ Φ₁ in
set_option maxRecDepth 8000 in
set_option maxHeartbeats 1000000 in
theorem body_obligation (c : Dev nD) : BodyObligation (dats (F := F) m 0 c) (defs₀ (F := F)) 𝒱₀ () Set.univ := fun t => by
  rw [fin_N0 t]
  rw [bigSep_W0, bigSep_W0]
  simp only [owns_whole]
  refine triple_restated (point m c) (congrArg (fun p => wp frame (wpE (defs₀ (F := F)) 𝒱₀ (c : Thread nD τ) none) Set.univ p) row.symm) ?_ fun _ => ?_
  · exact .rfl
  · exact .rfl

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [show (Pipeline.unscopedRestP Pipeline.Prefetch.none cfg0.spec c (fun b => m ((c : Thread nD τ).loc b)) : sProp 𝕄)
    = args m c from (Pipeline.unscopedRestP_eq_of_list spec0 c Pipeline.Prefetch.none (fun b => m ((c : Thread nD τ).loc b)) [main_arg1, main_arg2, main_arg3, main_arg4] (by decide) (by decide)).trans rfl]
  iintro ⟨Ha, Hlev, Hcr, -, HG⟩
  ihave Hc := (creds (F := F) c) $$ Hcr
  imodintro
  unfold start
  isplitl
  · isplitl [HG]; · iexact HG
    isplitl [Hc]; · iexact Hc
    isplitl [Hlev]; · iexact Hlev
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest cfg0.spec c : sProp 𝕄) = scr c from scopedRest0_eq c]
  unfold Φ₀
  iintro ⟨Hs, -, Hr⟩
  isplitl [Hs]; · iexact Hs
  iexact Hr

theorem phi1_exit (c : Dev nD) :
    (dats m 0 c).Φ (Fin.last cfg0.N) ⊢ iprop((unscopedSems0 c ∗ args m c) ∗ Pipeline.ownSems0 osem c ∗ Pipeline.scopedRest cfg0.spec c) := by
  rw [show (dats m 0 c).Φ (Fin.last cfg0.N) = Φ₁ m c from rfl, show (Pipeline.scopedRest cfg0.spec c : sProp 𝕄) = scr c from scopedRest0_eq c,
    ownSems0_eq, unscopedSems0_eq]
  unfold Φ₁
  iintro ⟨Hb, Hz, Ha, Hr⟩
  isplitl [Hb Ha]
  · isplitl [Hb]; · iexact Hb
    iexact Ha
  isplitl [Hz]; · iexact Hz
  iexact Hr

theorem cls_stage (w : Fin cfg0.W) (s) : cls (.dma ((cfg0.win w).sem s)) = none := by
  cases h : cls (.dma ((cfg0.win w).sem s)) with
  | none => rfl
  | some i =>
    have hi := csem_of_cls h
    exfalso
    rcases i with _ | ⟨f, u⟩
    · cases hi
    · exact ownSemFacts.disj (.inr (f, u)) w s hi

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_of (n := 0) (Nat.le_of_eq (lv_none c _ (Or.inl (by revert w s; decide)))) (above_OB c _)
    · rw [show (dats m 0 c).owed ⟨_ + 1, ht⟩ = 0 from rfl, MayWait_zero]; iintro -; iempintro

/-! ## The run -/

/-- Device c's arrays after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ (r.2.mem ((c : Thread nD τ).loc main_arg1) = m ((c : Thread nD τ).loc main_arg1) ∧ r.2.mem ((c : Thread nD τ).loc main_arg2) = m ((c : Thread nD τ).loc main_arg2)
      ∧ r.2.mem ((c : Thread nD τ).loc main_arg3) = m ((c : Thread nD τ).loc main_arg3) ∧ r.2.mem ((c : Thread nD τ).loc main_arg4) = m ((c : Thread nD τ).loc main_arg4))

def QY (c : Dev nD) (s : MemSt nD τ sig (Elt F)) : Prop :=
  (s.mem ((c : Thread nD τ).loc main_arg1) = m ((c : Thread nD τ).loc main_arg1) ∧ s.mem ((c : Thread nD τ).loc main_arg2) = m ((c : Thread nD τ).loc main_arg2)
      ∧ s.mem ((c : Thread nD τ).loc main_arg3) = m ((c : Thread nD τ).loc main_arg3) ∧ s.mem ((c : Thread nD τ).loc main_arg4) = m ((c : Thread nD τ).loc main_arg4))
    ∧ ∀ sm : SemLoc sig, sm.isScoped .tc = false → s.sem ((c.tc : Thread nD τ), sm) = 0

theorem read_end (c : Dev nD) (s' : Phys nD τ sig (Elt F)) :
    iprop((unscopedSems0 c ∗ args m c) ∗ emp ∗ SI s') ⊢ (|={Set.univ}=> iprop(⌜QY m c s'.mem⌝ ∗ SI s') : sProp 𝕄) := by
  unfold args whole
  iintro ⟨⟨Hu, H1, H2, H3, H4⟩, -, HSI⟩
  ihave %h1 := (SI_pointsTo_agree (st := s') (ℓ := (c : Thread nD τ).loc main_arg1) (I := Finset.univ) (f := m ((c : Thread nD τ).loc main_arg1)) (q := fullShare)) $$ [H1 HSI]
  · isplitl [HSI]; · iexact HSI
    iexact H1
  ihave %h2 := (SI_pointsTo_agree (st := s') (ℓ := (c : Thread nD τ).loc main_arg2) (I := Finset.univ) (f := m ((c : Thread nD τ).loc main_arg2)) (q := fullShare)) $$ [H2 HSI]
  · isplitl [HSI]; · iexact HSI
    iexact H2
  ihave %h3 := (SI_pointsTo_agree (st := s') (ℓ := (c : Thread nD τ).loc main_arg3) (I := Finset.univ) (f := m ((c : Thread nD τ).loc main_arg3)) (q := fullShare)) $$ [H3 HSI]
  · isplitl [HSI]; · iexact HSI
    iexact H3
  ihave %h4 := (SI_pointsTo_agree (st := s') (ℓ := (c : Thread nD τ).loc main_arg4) (I := Finset.univ) (f := m ((c : Thread nD τ).loc main_arg4)) (q := fullShare)) $$ [H4 HSI]
  · isplitl [HSI]; · iexact HSI
    iexact H4
  ihave %hz := (tcUnscoped_read c s') $$ [Hu HSI]
  · isplitl [Hu]; · iexact Hu
    iexact HSI
  imodintro
  isplitr
  · ipureintro; exact ⟨⟨funext fun i => h1 i (Finset.mem_univ i), funext fun i => h2 i (Finset.mem_univ i), funext fun i => h3 i (Finset.mem_univ i), funext fun i => h4 i (Finset.mem_univ i)⟩, hz⟩
  iexact HSI

set_option maxRecDepth 8000 in
/-- From any memory with the semaphores at zero, for any float values: every weakly fair run of the eight devices ends, with each
    device's arrays at the contents computed and every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c)) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_cells m) $$ HX with HG
      imodintro
      isplitl [HP]; · iexact HP
      iexact HG)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m) (hout := phi1_exit m)
    (QY := QY m)
    (hY := read_end m)
    (hQ := fun _ h hs => ⟨fun c => ⟨fun w => (h c).1 w, (h c).2.2.1⟩, sem_eq_zero hs fun c => (h c).2.2.2⟩)

/-- The staged argument is as it was. -/
theorem finalA_x (c : Dev nD) : finalA m c (0 : Fin 2) = m (win0_0.arr.view.loc (c : Thread nD τ)) :=
  (dats (F := F) m 0 c).arrAt_in (0 : Fin 2) rfl _

end Cert.KernelIdeal.Own
-- ==== Proof.Frames.lean ====
/-
The frames: the kernel, bit-exact and ideal, and the reference run to an end and leave their arguments as they were.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.KernelIdeal.Own

open Cert.KernelIdeal
open Idealize.ShloMosaic Idealize.SL.Sem

/-- What a frame says of a final state: the arguments unchanged, every counter at zero. -/
def Kept {F : FTy → Type} [FloatOps F] (m : (ℓ : Loc nD τ sig) → Buf (Elt F) ℓ) (r : PUnit × MemSt nD τ sig (Elt F)) : Prop :=
  (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0

/-- The frame at any float values: the launch theorem, read at its arguments. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (Kept m) :=
  (θ_run (defs (F := F)) (onTc (τ := τ) (main (F := F))) ⟨m, fun _ => 0, ρ⟩).mono
    (fun _ h => ⟨fun c => ⟨((h.1 c).1 (0 : Fin 2)).trans (finalA_x m c), (h.1 c).2⟩, h.2⟩) (run_main m ρ)

/-- The ideal kernel's frame. -/
theorem frame_kernelIdeal : Cert.quiescent_KernelIdeal := fun m ρ _ => frame_any (F := Ideal) m ρ

/-- The two programs call the same kernel function at the same pipeline. -/
theorem defs₀_same : (Cert.Kernel.defs₀ (F := Bits)) = (defs₀ (F := Bits)) := by
  refine congrArg Defs.onTc (funext fun l => ?_)
  match l with
  | 0 => exact funext fun ⟨t, s⟩ => rfl

theorem defs_same : (Cert.Kernel.defs (F := Bits)) = (defs (F := Bits)) := congrArg (Pipeline.defs pcfgs) defs₀_same

/-- The kernel's own frame: the same launch at the bit-exact instance. -/
theorem frame_kernel : Cert.quiescent_Kernel := fun m ρ _ =>
  (congrArg (fun d => θ_run d (onTc (τ := τ) (main (F := Bits))) ⟨m, fun _ => 0, ρ⟩ (Kept m)) defs_same).mpr
    (frame_any (F := Bits) m ρ)

/-- The reference's frame: its run leaves its arguments, and it declares no semaphore. -/
theorem frame_reference : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run m ρ)

end Cert.KernelIdeal.Own
-- ==== Proof.Softmax.lean ====
/-
  Softmax over the extended reals, scalars only: the weighted sum of exponentials divided by their sum, and the same quotient
  reached block by block with a running maximum. Scores are real numbers; the weights may be infinite.
-/
module

public import Idealize.ShloMosaic.PureOps.Ideal

@[expose] public section

noncomputable section

namespace Cert.Own.Softmax

open Idealize.ShloMosaic

/-- A finite sum of reals, read in the extended reals. -/
theorem coe_sum {ι : Type} [Fintype ι] (f : ι → ℝ) : ((∑ i, f i : ℝ) : EReal) = ∑ i, (f i : EReal) := by
  classical
  refine Finset.induction_on (motive := fun s : Finset ι => ((∑ i ∈ s, f i : ℝ) : EReal) = ∑ i ∈ s, (f i : EReal)) Finset.univ ?_ ?_
  · simp
  · intro a s ha ih
    rw [Finset.sum_insert ha, Finset.sum_insert ha, EReal.coe_add, ih]

/-- A nonnegative real distributes over any sum. -/
theorem coe_mul_add {a : ℝ} (ha : 0 ≤ a) (x y : EReal) : (a : EReal) * (x + y) = a * x + a * y :=
  EReal.left_distrib_of_nonneg_of_ne_top (by exact_mod_cast ha) (EReal.coe_ne_top a) x y

/-- A nonnegative real distributes over any finite sum. -/
theorem coe_mul_sum {ι : Type} [Fintype ι] {a : ℝ} (ha : 0 ≤ a) (f : ι → EReal) : (a : EReal) * ∑ i, f i = ∑ i, a * f i := by
  classical
  refine Finset.induction_on (motive := fun s : Finset ι => (a : EReal) * ∑ i ∈ s, f i = ∑ i ∈ s, a * f i) Finset.univ ?_ ?_
  · simp
  · intro b s hb ih
    rw [Finset.sum_insert hb, Finset.sum_insert hb, coe_mul_add ha, ih]

/-- The exponential of a difference of reals, as a product. -/
theorem exp_sub (s μ : ℝ) : Ideal.exp ((s : EReal) - (μ : EReal)) = ((Real.exp (-μ) : ℝ) : EReal) * ((Real.exp s : ℝ) : EReal) := by
  rw [← EReal.coe_sub, ← EReal.coe_mul, ← Real.exp_add]
  show ((Real.exp (s - μ) : ℝ) : EReal) = _
  congr 2; ring

/-- The first block: nothing is carried in, because the carried value is zero. -/
theorem first {ι : Type} [Fintype ι] (s : ι → ℝ) (w : ι → EReal) (μ : ℝ) (a : EReal) :
    0 * a + ∑ j, w j * Ideal.exp ((s j : EReal) - (μ : EReal))
      = ((Real.exp (-μ) : ℝ) : EReal) * ∑ j, w j * ((Real.exp (s j) : ℝ) : EReal) := by
  rw [zero_mul, zero_add, coe_mul_sum (Real.exp_pos _).le]
  refine Finset.sum_congr rfl fun j _ => ?_
  rw [exp_sub, mul_left_comm]

/-- A later block: the carried sum is rescaled from the old maximum to the new one. -/
theorem next {ι : Type} [Fintype ι] (s : ι → ℝ) (w : ι → EReal) (μ μ' : ℝ) (C : EReal) :
    ((Real.exp (-μ) : ℝ) : EReal) * C * Ideal.exp ((μ : EReal) - (μ' : EReal))
        + ∑ j, w j * Ideal.exp ((s j : EReal) - (μ' : EReal))
      = ((Real.exp (-μ') : ℝ) : EReal) * (C + ∑ j, w j * ((Real.exp (s j) : ℝ) : EReal)) := by
  rw [coe_mul_add (Real.exp_pos _).le, coe_mul_sum (Real.exp_pos _).le, exp_sub]
  congr 1
  · rw [mul_right_comm, mul_left_comm, ← mul_assoc, ← EReal.coe_mul, ← EReal.coe_mul, ← Real.exp_add, ← Real.exp_add]
    congr 3
    ring
  · refine Finset.sum_congr rfl fun j _ => ?_
    rw [exp_sub, mul_left_comm]

/-- The quotient does not see a common positive factor. -/
theorem div_cancel {a L : ℝ} (ha : 0 < a) (hL : 0 < L) (O : EReal) :
    Ideal.div ((a : EReal) * O) ((a : EReal) * (L : EReal)) = Ideal.div O (L : EReal) := by
  rw [← EReal.coe_mul, Ideal.div_coe (mul_pos ha hL).ne', Ideal.div_coe hL.ne', mul_comm (a : EReal) O, mul_assoc, ← EReal.coe_mul]
  congr 2
  field_simp

/-- Softmax of the scores `s` applied to the weights `w`. -/
def att (s : Fin 4096 → ℝ) (w : Fin 4096 → EReal) : EReal :=
  Ideal.div (∑ j, w j * ((Real.exp (s j) : ℝ) : EReal)) ((∑ j, Real.exp (s j) : ℝ) : EReal)

/-- Position `j` of block `b`. -/
abbrev at4 (b : Fin 4) (j : Fin 1024) : Fin 4096 := ⟨1024 * b.val + j.val, by omega⟩

/-- A sum over 4096 positions, block by block. -/
theorem sum_blocks {M : Type} [AddCommMonoid M] (f : Fin 4096 → M) :
    (∑ j, f j) = (∑ j, f (at4 0 j)) + (∑ j, f (at4 1 j)) + (∑ j, f (at4 2 j)) + ∑ j, f (at4 3 j) := by
  have e := (finProdFinEquiv (m := 4) (n := 1024)).sum_comp (fun i => f i)
  rw [← e, Fintype.sum_prod_type, Fin.sum_univ_four]
  have h : ∀ b : Fin 4, ∀ j : Fin 1024, (finProdFinEquiv (b, j) : Fin (4 * 1024)) = at4 b j := by
    intro b j; apply Fin.ext; simp [finProdFinEquiv]; omega
  simp only [h]

/-- Four blocks with a running maximum come to the softmax of the whole. -/
theorem online (s : Fin 4096 → ℝ) (w : Fin 4096 → EReal) (μ : Fin 4 → ℝ) (a : EReal) :
    Ideal.div
        ((((0 * a + ∑ j, w (at4 0 j) * Ideal.exp ((s (at4 0 j) : EReal) - (μ 0 : EReal)))
              * Ideal.exp ((μ 0 : EReal) - (μ 1 : EReal)) + ∑ j, w (at4 1 j) * Ideal.exp ((s (at4 1 j) : EReal) - (μ 1 : EReal)))
            * Ideal.exp ((μ 1 : EReal) - (μ 2 : EReal)) + ∑ j, w (at4 2 j) * Ideal.exp ((s (at4 2 j) : EReal) - (μ 2 : EReal)))
          * Ideal.exp ((μ 2 : EReal) - (μ 3 : EReal)) + ∑ j, w (at4 3 j) * Ideal.exp ((s (at4 3 j) : EReal) - (μ 3 : EReal)))
        ((((0 * a + ∑ j, Ideal.exp ((s (at4 0 j) : EReal) - (μ 0 : EReal)))
              * Ideal.exp ((μ 0 : EReal) - (μ 1 : EReal)) + ∑ j, Ideal.exp ((s (at4 1 j) : EReal) - (μ 1 : EReal)))
            * Ideal.exp ((μ 1 : EReal) - (μ 2 : EReal)) + ∑ j, Ideal.exp ((s (at4 2 j) : EReal) - (μ 2 : EReal)))
          * Ideal.exp ((μ 2 : EReal) - (μ 3 : EReal)) + ∑ j, Ideal.exp ((s (at4 3 j) : EReal) - (μ 3 : EReal)))
      = att s w := by
  have one : ∀ (b c : Fin 4), (∑ j, Ideal.exp ((s (at4 b j) : EReal) - (μ c : EReal)))
      = ∑ j, 1 * Ideal.exp ((s (at4 b j) : EReal) - (μ c : EReal)) := fun b c => by simp only [one_mul]
  rw [one, one, one, one, first (fun j => s (at4 0 j)) (fun j => w (at4 0 j)), first (fun j => s (at4 0 j)) (fun _ => 1),
    next (fun j => s (at4 1 j)) (fun j => w (at4 1 j)), next (fun j => s (at4 1 j)) (fun _ => 1),
    next (fun j => s (at4 2 j)) (fun j => w (at4 2 j)), next (fun j => s (at4 2 j)) (fun _ => 1),
    next (fun j => s (at4 3 j)) (fun j => w (at4 3 j)), next (fun j => s (at4 3 j)) (fun _ => 1),
    ← sum_blocks (fun j => w j * ((Real.exp (s j) : ℝ) : EReal)), ← sum_blocks (fun j => 1 * ((Real.exp (s j) : ℝ) : EReal))]
  simp only [one_mul]
  rw [← coe_sum, div_cancel (Real.exp_pos _) (Finset.sum_pos (fun j _ => Real.exp_pos _) Finset.univ_nonempty)]
  rfl

/-- The scale, a real number. -/
theorem scale_real : ∃ r : ℝ, Ideal.ofBits .f32 0x3DB504F3#32 = (r : EReal) := by
  simp only [Ideal.ofBits, Ideal.ieee]
  exact ⟨_, rfl⟩

/-- The scale. -/
def sc : ℝ := scale_real.choose
theorem sc_eq : Ideal.ofBits .f32 0x3DB504F3#32 = (sc : EReal) := scale_real.choose_spec

/-- A score of row `i`, head `h`, position `j`, over real queries, weights and keys. -/
def scr (x : Fin 256 → Fin 1024 → ℝ) (w : Fin 1024 → Fin 8192 → ℝ) (k : Fin 4096 → Fin 16 → Fin 128 → ℝ) (h : Fin 64) (i : Fin 256) (j : Fin 4096) : ℝ :=
  (∑ e : Fin 128, (∑ d : Fin 1024, x i d * w d ⟨h.val * 128 + e.val, by omega⟩) * k j ⟨h.val / 4, by omega⟩ e) * sc

end Cert.Own.Softmax
-- ==== Proof.Heads.lean ====
/-
  The kernel's partial product, cut into its stages: a block of queries, one head's softmax over 128 rows, the eight heads side by
  side times the output weights. Each stage is read at an index.
-/
module

public import proofs.«01_k».proof.Proof.Contents
public import proofs.«01_k».proof.Proof.Softmax
public import Idealize.ShloMosaic.Lib.Pointwise
public import Idealize.ShloMosaic.Lib.Tactic.CleanTypes

@[expose] public section

set_option maxRecDepth 16384

noncomputable section

namespace Cert.KernelIdeal.Own

open Cert.KernelIdeal Cert.KernelIdeal.Gen Idealize.ShloMosaic Idealize.ShloMosaic.TcCoe

/-- A block of queries: x times 256 columns of weights, scaled. -/
def qBlk (x : FVec Ideal S256x1024 .bf16) (w : FVec Ideal S1024x256 .bf16) : FVec Ideal S256x256 .bf16 := k0_pay6 x w

/-- A quarter of a block of queries: 128 rows of one head. -/
def qQ (q : FVec Ideal S256x256 .bf16) : Fin 2 → Fin 2 → FVec Ideal S128x128 .bf16
  | 0, 0 => extractStridedSlice S128x128 ![0, 0] q slices_S256x256_o0_0_S128x128
  | 0, 1 => extractStridedSlice S128x128 ![0, 128] q slices_S256x256_o0_128_S128x128
  | 1, 0 => extractStridedSlice S128x128 ![128, 0] q slices_S256x256_o128_0_S128x128
  | 1, 1 => extractStridedSlice S128x128 ![128, 128] q slices_S256x256_o128_128_S128x128

/-- One head over 128 rows: softmax of the scores, applied to the values. -/
def hd (q : FVec Ideal S128x128 .bf16) (k v : FVec Ideal S4096x128 .bf16) : FVec Ideal S128x128 .f32 :=
  k0_pay15 k v q zS

/-- The eight heads side by side, times the output weights. -/
def joinWo (h : Fin 8 → FVec Ideal S128x128 .f32) (wo : FVec Ideal S1024x1024 .bf16) : FVec Ideal S128x1024 .bf16 :=
  shapeCast S128x1024 (truncf .bf16 (matmul dot_S128x1024_S1024x1024_S128x1024_1_0_0_1_n_n none
    (truncf .bf16 (concatenate S128x1024 1 [⟨S128x128, h 0⟩, ⟨S128x128, h 1⟩, ⟨S128x128, h 2⟩, ⟨S128x128, h 3⟩, ⟨S128x128, h 4⟩, ⟨S128x128, h 5⟩, ⟨S128x128, h 6⟩, ⟨S128x128, h 7⟩]
      concatenates_S128x128_S128x128_S128x128_S128x128_S128x128_S128x128_S128x128_S128x128_S128x1024_d1) (by decide)) wo (constant S128x1024 .f32 0x00000000#32)) (by decide)) (by decide)

/-- A query entry of the kernel. -/
theorem qBlk_at (x w) (i : Fin 256) (n : Fin 256) :
    qBlk x w (ix2 i n) = (∑ d : Fin 1024, x (ix2 i d) * w (ix2 d n)) * Ideal.ofBits .f32 0x3DB504F3#32 := by
  pointwise [qBlk, k0_pay6]

/-- An entry of a quarter. -/
theorem qQ_at (q) (a b : Fin 2) (r e : Fin 128) :
    qQ q a b (ix2 r e) = q (ix2 ⟨128 * a.val + r.val, by omega⟩ ⟨128 * b.val + e.val, by omega⟩) := by
  fin_cases a <;> fin_cases b <;> pointwise [qQ]

/-- An entry of a head. -/
theorem hd_at (q k v) (r e : Fin 128) :
    hd q k v (ix2 r e) = Ideal.div (∑ j : Fin 4096, Ideal.exp (∑ d : Fin 128, q (ix2 r d) * k (ix2 j d)) * v (ix2 j e))
      (∑ j : Fin 4096, Ideal.exp (∑ d : Fin 128, q (ix2 r d) * k (ix2 j d))) := by
  pointwise [hd, k0_pay15, zS]

/-- An entry of the product with the output weights: over head and entry as one column index. -/
theorem joinWo_at (h wo) (r : Fin 128) (n : Fin 1024) :
    joinWo h wo (ix2 r n) = ∑ t : Fin 1024, h ⟨t.val / 128, by omega⟩ (ix2 r ⟨t.val % 128, by omega⟩) * wo (ix2 t n) := by
  have hc : ∀ (a b : Fin 8) (e e' : Fin 128), a.val = b.val → e.val = e'.val → h a (ix2 r e) = h b (ix2 r e') := by
    intro a b e e' h1 h2
    rw [Fin.ext h1, Fin.ext h2]
  pointwise [joinWo]
  refine Finset.sum_congr rfl fun t _ => ?_
  congr 1
  have ht := t.isLt
  split_ifs <;> (apply hc <;> first | (show (_ : Nat) = t.val / 128; simp; omega) | (show (_ : Nat) = t.val % 128; simp; omega))

/-- The upper half of the partial product is its stages in order, -/
theorem pTop_eq (m : (ℓ : Loc nD τ sig) → Buf (Elt Ideal) ℓ) (c : Dev nD) :
    pTop m c = joinWo ![hd (qQ (q0 m c) 0 0) (k0B m c) (v0B m c), hd (qQ (q0 m c) 0 1) (k0B m c) (v0B m c),
      hd (qQ (q1 m c) 0 0) (k0B m c) (v0B m c), hd (qQ (q1 m c) 0 1) (k0B m c) (v0B m c),
      hd (qQ (q2 m c) 0 0) (k1B m c) (v1B m c), hd (qQ (q2 m c) 0 1) (k1B m c) (v1B m c),
      hd (qQ (q3 m c) 0 0) (k1B m c) (v1B m c), hd (qQ (q3 m c) 0 1) (k1B m c) (v1B m c)] (woB m c) := rfl

/-- and so is the lower half. -/
theorem pBot_eq (m : (ℓ : Loc nD τ sig) → Buf (Elt Ideal) ℓ) (c : Dev nD) :
    pBot m c = joinWo ![hd (qQ (q0 m c) 1 0) (k0B m c) (v0B m c), hd (qQ (q0 m c) 1 1) (k0B m c) (v0B m c),
      hd (qQ (q1 m c) 1 0) (k0B m c) (v0B m c), hd (qQ (q1 m c) 1 1) (k0B m c) (v0B m c),
      hd (qQ (q2 m c) 1 0) (k1B m c) (v1B m c), hd (qQ (q2 m c) 1 1) (k1B m c) (v1B m c),
      hd (qQ (q3 m c) 1 0) (k1B m c) (v1B m c), hd (qQ (q3 m c) 1 1) (k1B m c) (v1B m c)] (woB m c) := rfl

end Cert.KernelIdeal.Own
-- ==== Proof.Loads.lean ====
/-
  What the kernel's loads hold, entry by entry: each load reads back what a local or a remote copy brought in.
-/
module

public import proofs.«01_k».proof.Proof.Facts
public import Idealize.ShloMosaic.Lib.Pointwise
public import Idealize.ShloMosaic.Lib.ViewIndex
public import Idealize.ShloMosaic.Lib.WritesUnit

@[expose] public section

set_option maxRecDepth 16384

noncomputable section

namespace Cert.KernelIdeal.Own

open Cert.KernelIdeal Cert.KernelIdeal.Gen Idealize.ShloMosaic Idealize.ShloMosaic.TcCoe

/-- Where a rectangle of unit stride puts an index. -/
theorem unit_emb {s : Shape} {off off' size : Fin s.rank → ℕ} (inb : ∀ a, off a + size a ≤ s.size a) (x : (Rect.unit (s := s) off size inb).shape.Idx) (y : s.Idx)
    (heq : off = off') (h : ∀ a, (y a).val = off' a + (x a).val) : (Rect.unit (s := s) off size inb).emb x = y := by
  subst heq
  refine funext fun a => Fin.ext ?_
  show off a + 1 * (x a).val = (y a).val
  rw [h a, Nat.one_mul]

/-- Reading a view after a write through a reshaping of it. -/
theorem slot_read {sig : RefSig} {κ : Kind} {Val : EltTy → Type} {sp : Space} {s s' : Shape} {e : EltTy} (v : View sig κ sp s e) (h : s'.numel = s.numel)
    (f : v.ty.Contents Val) (w : s'.Idx → Val e) (x : s'.Idx) (y : s.Idx) (hs : Shape.reshapeEquiv h x = y) :
    v.read Val ((v.reshape s' h).write Val f w Finset.univ) y = w x :=
  hs ▸ View.read_write_reshape v h f w x

/-- Dropping axes of size one keeps the other coordinates. -/
theorem drop_wq (h : S1024x256.numel = S1x1024x256.numel) (d : Fin 1024) (n : Fin 256) : Shape.reshapeEquiv h (ix2 d n) = ix3 (0 : Fin 1) d n := by
  pointwise
@[inherit_doc drop_wq] theorem drop_kv (h : S4096x128.numel = S1x4096x128.numel) (j : Fin 4096) (e : Fin 128) : Shape.reshapeEquiv h (ix2 j e) = ix3 (0 : Fin 1) j e := by
  pointwise
@[inherit_doc drop_wq] theorem drop_head (h : S4096x128.numel = S1x4096x1x128.numel) (j : Fin 4096) (e : Fin 128) : Shape.reshapeEquiv h (ix2 j e) = ix4 (0 : Fin 1) j (0 : Fin 1) e := by
  pointwise
@[inherit_doc drop_wq] theorem drop_slot (h : S32x1024.numel = S1x32x1024.numel) (r : Fin 32) (n : Fin 1024) : Shape.reshapeEquiv h (ix2 r n) = ix3 (0 : Fin 1) r n := by
  pointwise

/-- Device numbers are below eight. -/
theorem dlt (c : Dev nD) : c.val < 8 := c.isLt

variable {F : FTy → Type} [FloatOps F] (m : (ℓ : Loc nD τ sig) → Buf (Elt F) ℓ)

theorem off1_eq (c : Dev nD) (g : Fin 2) : k0_off1 c (BitVec.ofNat 32 g.val) = ![0, 0, 2 * c.val + g.val, 0] := by funext a; revert c g a; decide

/-- The rows of x. -/
theorem xv_at (c : Dev nD) (i : Fin 256) (d : Fin 1024) : xv m c (ix3 0 i d) = m ((c : Thread nD τ).loc main_arg0) (ix3 0 i d) := by
  have e1 : (xR).emb (ix3 (0 : Fin 1) i d) = (ix3 (0 : Fin 1) i d : S1x256x1024.Idx) :=
    unit_emb _ _ _ rfl (fun a => by fin_cases a <;> simp)
  have e2 : (win0_0.blk (0 : Fin 1)).view.emb (ix3 (0 : Fin 1) i d) = (ix3 (0 : Fin 1) i d : S1x256x1024.Idx) :=
    unit_emb _ _ _ rfl (fun a => by fin_cases a <;> simp <;> exact .inl rfl)
  show (m ((c : Thread nD τ).loc main_arg0)) ((win0_0.blk (0 : Fin 1)).view.emb ((xR).emb (ix3 (0 : Fin 1) i d))) = _
  rw [e1, e2]

/-- 256 columns of the query weights. -/
theorem wqv_at (c : Dev nD) (g : Fin 4) (d : Fin 1024) (n : Fin 256) :
    wqv m c g (ix3 0 d n) = m ((c : Thread nD τ).loc main_arg1) (ix2 d ⟨256 * g.val + n.val, by omega⟩) := by
  have e1 : (colR g).emb (ix2 d n) = (ix2 d (⟨256 * g.val + n.val, by omega⟩ : Fin 1024) : S1024x1024.Idx) :=
    unit_emb _ _ _ rfl (fun a => by fin_cases a <;> simp)
  refine (slot_read (Val := Elt F) (wqM.view.slice (wqR g)) squeezes_S1x1024x256_S1024x256.numel_eq (m ((c : Thread nD τ).loc cc0_scratch2)) ((wqCol g).view.read (Elt F) (m ((c : Thread nD τ).loc main_arg1))) (ix2 d n) (ix3 0 d n) (drop_wq _ d n)).trans ?_
  show (m ((c : Thread nD τ).loc main_arg1)) ((colR g).emb (ix2 d n)) = _
  rw [e1]

/-- One head of the keys. -/
theorem kv_at (c : Dev nD) (g : Fin 2) (j : Fin 4096) (e : Fin 128) :
    kv m c g (ix3 0 j e) = m ((c : Thread nD τ).loc main_arg2) (ix4 0 j ⟨2 * c.val + g.val, by have := dlt c; omega⟩ e) := by
  have e1 : (headR c g).emb (ix4 (0 : Fin 1) j (0 : Fin 1) e) = (ix4 0 j (⟨2 * c.val + g.val, by have := dlt c; omega⟩ : Fin 16) e : S1x4096x16x128.Idx) :=
    unit_emb _ _ _ (off1_eq c g) (fun a => by fin_cases a <;> simp)
  refine (slot_read (Val := Elt F) (kM.view.slice (kvR g)) squeezes_S1x4096x128_S4096x128.numel_eq (m ((c : Thread nD τ).loc cc0_scratch0)) ((kHead c g).view.read (Elt F) (m ((c : Thread nD τ).loc main_arg2))) (ix2 j e) (ix3 0 j e) (drop_kv _ j e)).trans ?_
  show (m ((c : Thread nD τ).loc main_arg2)) ((headR c g).emb (Shape.reshapeEquiv squeezes_S1x4096x1x128_S4096x128.numel_eq (ix2 j e))) = _
  rw [drop_head, e1]

/-- One head of the values. -/
theorem vv_at (c : Dev nD) (g : Fin 2) (j : Fin 4096) (e : Fin 128) :
    vv m c g (ix3 0 j e) = m ((c : Thread nD τ).loc main_arg3) (ix4 0 j ⟨2 * c.val + g.val, by have := dlt c; omega⟩ e) := by
  have e1 : (headR c g).emb (ix4 (0 : Fin 1) j (0 : Fin 1) e) = (ix4 0 j (⟨2 * c.val + g.val, by have := dlt c; omega⟩ : Fin 16) e : S1x4096x16x128.Idx) :=
    unit_emb _ _ _ (off1_eq c g) (fun a => by fin_cases a <;> simp)
  refine (slot_read (Val := Elt F) (vM.view.slice (kvR g)) squeezes_S1x4096x128_S4096x128.numel_eq (m ((c : Thread nD τ).loc cc0_scratch1)) ((vHead c g).view.read (Elt F) (m ((c : Thread nD τ).loc main_arg3))) (ix2 j e) (ix3 0 j e) (drop_kv _ j e)).trans ?_
  show (m ((c : Thread nD τ).loc main_arg3)) ((headR c g).emb (Shape.reshapeEquiv squeezes_S1x4096x1x128_S4096x128.numel_eq (ix2 j e))) = _
  rw [drop_head, e1]

/-- The output weights. -/
theorem wov_at (c : Dev nD) (t n : Fin 1024) : wov m c (ix2 t n) = m ((c : Thread nD τ).loc main_arg4) (ix2 t n) := by
  have e1 : (woR).emb (ix2 t n) = (ix2 t n : S1024x1024.Idx) := unit_emb _ _ _ rfl (fun a => by fin_cases a <;> simp)
  show woM.view.read (Elt F) (woC m c) ((woR).emb (ix2 t n)) = _
  rw [e1]
  exact View.read_write_of_mem (v := woM.view) _ _ (Finset.mem_univ _)

/-- The upper rows of the partial product's buffer, -/
theorem pC_top (c : Dev nD) (i : Fin 256) (n : Fin 1024) (h : i.val < 128) :
    pM.view.read (Elt F) (pC m c) (ix2 i n) = pTop m c (ix2 ⟨i.val, h⟩ n) := by
  refine (View.read_writes_cons_unit_of_not_mem pM.view (m ((c : Thread nD τ).loc cc0_scratch4)) inb_S256x1024_S128x1024_128_0 (pBot m c)
    [⟨topR, pTop m c⟩] (ix2 i n) rfl (0 : Fin 2) (.inl h)).trans ?_
  exact View.read_writes_cons_unit_of_mem pM.view (m ((c : Thread nD τ).loc cc0_scratch4)) inb_S256x1024_S128x1024_0_0 (pTop m c)
    [] (ix2 i n) (ix2 ⟨i.val, h⟩ n) rfl (fun a => by fin_cases a <;> simp)

/-- and the lower. -/
theorem pC_bot (c : Dev nD) (i : Fin 256) (n : Fin 1024) (h : 128 ≤ i.val) :
    pM.view.read (Elt F) (pC m c) (ix2 i n) = pBot m c (ix2 ⟨i.val - 128, by omega⟩ n) := by
  exact View.read_writes_cons_unit_of_mem pM.view (m ((c : Thread nD τ).loc cc0_scratch4)) inb_S256x1024_S128x1024_128_0 (pBot m c)
    [⟨topR, pTop m c⟩] (ix2 i n) (ix2 ⟨i.val - 128, by omega⟩ n) rfl (fun a => by fin_cases a <;> simp <;> omega)

/-- The device's own rows of its own partial product. -/
theorem pv_at (c : Dev nD) (r : Fin 32) (n : Fin 1024) :
    pv m c (ix2 r n) = pM.view.read (Elt F) (pC m c) (ix2 ⟨32 * c.val + r.val, by have := dlt c; omega⟩ n) := by
  have e1 : (ownR c).emb (ix2 r n) = (ix2 (⟨32 * c.val + r.val, by have := dlt c; omega⟩ : Fin 256) n : S256x1024.Idx) :=
    unit_emb _ _ _ (off18_eq c) (fun a => by fin_cases a <;> simp)
  show pM.view.read (Elt F) (pC m c) ((ownR c).emb (ix2 r n)) = _
  rw [e1]

/-- The device's own rows of another device's partial product. -/
theorem rsv_at (c : Dev nD) (u : Fin 7) (r : Fin 32) (n : Fin 1024) :
    rsv m c u (ix3 0 r n) = pM.view.read (Elt F) (pC m (dn c u)) (ix2 ⟨32 * c.val + r.val, by have := dlt c; omega⟩ n) := by
  have e1 : (chunkR c).emb (ix2 r n) = (ix2 (⟨32 * c.val + r.val, by have := dlt c; omega⟩ : Fin 256) n : S256x1024.Idx) :=
    unit_emb _ _ _ rfl (fun a => by fin_cases a <;> simp)
  refine (slot_read (Val := Elt F) (rsM.view.slice (slotR u.succ)) squeezes_S1x32x1024_S32x1024.numel_eq (m ((c : Thread nD τ).loc cc0_scratch5)) ((pChunk c).view.read (Elt F) (pC m (dn c u))) (ix2 r n) (ix3 0 r n) (drop_slot _ r n)).trans ?_
  show pM.view.read (Elt F) (pC m (dn c u)) ((chunkR c).emb (ix2 r n)) = _
  rw [e1]

/-- Another device's reduced rows. -/
theorem agv_at (c : Dev nD) (u : Fin 7) (r : Fin 32) (n : Fin 1024) : agv m c u (ix3 0 r n) = redB m (dn c u) (ix2 r n) := by
  have e1 : (asR).emb (ix2 r n) = (ix2 r n : S32x1024.Idx) := unit_emb _ _ _ rfl (fun a => by fin_cases a <;> simp)
  refine (slot_read (Val := Elt F) (agM.view.slice (slotR u.succ)) squeezes_S1x32x1024_S32x1024.numel_eq (m ((c : Thread nD τ).loc cc0_scratch7)) (asM.view.read (Elt F) (asC m (dn c u))) (ix2 r n) (ix3 0 r n) (drop_slot _ r n)).trans ?_
  exact (congrArg (asM.view.read (Elt F) (asC m (dn c u))) e1.symm).trans
    (View.read_write_of_mem (v := asM.view.slice asR) _ _ (Finset.mem_univ _))

end Cert.KernelIdeal.Own
-- ==== Proof.Partial.lean ====
/-
  The device's partial product at an index: over its own 1024 columns (eight heads of 128), the softmax of the scores applied to
  the values, times the device's rows of the output weights.
-/
module

public import proofs.«01_k».proof.Proof.Heads
public import proofs.«01_k».proof.Proof.Loads

@[expose] public section

set_option maxRecDepth 16384

noncomputable section

namespace Cert.KernelIdeal.Own

open Cert.KernelIdeal Cert.KernelIdeal.Gen Idealize.ShloMosaic Idealize.ShloMosaic.TcCoe
open Cert.Own.Softmax

variable (m : (ℓ : Loc nD τ sig) → Buf (Elt Ideal) ℓ)
variable (x : Fin 256 → Fin 1024 → ℝ) (w : Fin 1024 → Fin 8192 → ℝ) (k : Fin 4096 → Fin 16 → Fin 128 → ℝ)

/-- Device `c` holds the reals x, its 1024 columns of w, and k. -/
structure Holds (c : Dev nD) : Prop where
  hx : ∀ i d, m ((c : Thread nD τ).loc main_arg0) (ix3 0 i d) = (x i d : EReal)
  hw : ∀ d (n : Fin 1024), m ((c : Thread nD τ).loc main_arg1) (ix2 d n) = (w d ⟨1024 * c.val + n.val, by have := dlt c; omega⟩ : EReal)
  hk : ∀ j g e, m ((c : Thread nD τ).loc main_arg2) (ix4 0 j g e) = (k j g e : EReal)

/-- The partial product of device `c` at row `i`, column `n`. -/
def part (c : Dev nD) (i : Fin 256) (n : Fin 1024) : EReal :=
  ∑ t : Fin 1024, att (scr x w k ⟨8 * c.val + t.val / 128, by have := dlt c; omega⟩ i)
    (fun j => m ((c : Thread nD τ).loc main_arg3) (ix4 0 j ⟨2 * c.val + t.val / 128 / 4, by have := dlt c; omega⟩ ⟨t.val % 128, by omega⟩))
    * m ((c : Thread nD τ).loc main_arg4) (ix2 t n)

/-- A head whose scores are the reals `s` is their softmax. -/
theorem hd_att (q : FVec Ideal S128x128 .bf16) (kB vB : FVec Ideal S4096x128 .bf16) (r e : Fin 128) (s : Fin 4096 → ℝ)
    (hs : ∀ j, (∑ d : Fin 128, q (ix2 r d) * kB (ix2 j d) : EReal) = (s j : EReal)) :
    hd q kB vB (ix2 r e) = att s (fun j => vB (ix2 j e)) := by
  rw [hd_at]
  unfold att
  rw [coe_sum]
  refine congrArg₂ Ideal.div ?_ ?_
  · refine Finset.sum_congr rfl fun j _ => ?_
    rw [mul_comm]
    exact congrArg (fun z : EReal => vB (ix2 j e) * z) (congrArg Ideal.exp (hs j))
  · exact Finset.sum_congr rfl fun j _ => congrArg Ideal.exp (hs j)

/-- Head `H` of the model, computed as quarter `(a, b)` of query block `g`. -/
theorem head_at (c : Dev nD) (g : Fin 4) (a b : Fin 2) (q : FVec Ideal S256x256 .bf16) (kB vB : FVec Ideal S4096x128 .bf16)
    (hq : ∀ i n, q (ix2 i n) = (((∑ d : Fin 1024, x i d * w d ⟨1024 * c.val + 256 * g.val + n.val, by have := dlt c; omega⟩) * sc : ℝ) : EReal))
    (H : Fin 64) (i : Fin 256) (r e : Fin 128) (G : Fin 16) (hH : H.val = 8 * c.val + 2 * g.val + b.val) (hi : i.val = 128 * a.val + r.val)
    (hG : G.val = H.val / 4) (hk : ∀ j e, kB (ix2 j e) = (k j G e : EReal)) :
    hd (qQ q a b) kB vB (ix2 r e) = att (scr x w k H i) (fun j => vB (ix2 j e)) := by
  refine hd_att _ _ _ r e _ fun j => ?_
  have hc := dlt c
  have e1 : ∀ d : Fin 128, (qQ q a b (ix2 r d) * kB (ix2 j d) : EReal)
      = (((∑ d' : Fin 1024, x i d' * w d' ⟨H.val * 128 + d.val, by omega⟩) * sc * k j ⟨H.val / 4, by omega⟩ d : ℝ) : EReal) := by
    intro d
    rw [qQ_at, hq, hk, EReal.coe_mul]
    have ei : (⟨128 * a.val + r.val, by omega⟩ : Fin 256) = i := Fin.ext hi.symm
    have eG : (⟨H.val / 4, by omega⟩ : Fin 16) = G := Fin.ext hG.symm
    have ew : (⟨1024 * c.val + 256 * g.val + (128 * b.val + d.val), by omega⟩ : Fin 8192) = ⟨H.val * 128 + d.val, by omega⟩ := Fin.ext (by show 1024 * c.val + 256 * g.val + (128 * b.val + d.val) = H.val * 128 + d.val; omega)
    rw [eG, ← ei]
    simp only [ew, EReal.coe_mul]
  rw [Finset.sum_congr rfl fun d _ => e1 d, ← coe_sum]
  unfold scr
  rw [Finset.sum_mul]
  congr 1
  exact Finset.sum_congr rfl fun d _ => by ring

variable {m x w k}

/-- The four query blocks of the device. -/
theorem qblk_real {c : Dev nD} (h : Holds m x w k c) (g : Fin 4) (X : FVec Ideal S256x1024 .bf16) (W : FVec Ideal S1024x256 .bf16)
    (hX : ∀ i d, X (ix2 i d) = m ((c : Thread nD τ).loc main_arg0) (ix3 0 i d)) (hW : ∀ d n, W (ix2 d n) = wqv m c g (ix3 0 d n)) (i n : Fin 256) :
    qBlk X W (ix2 i n) = (((∑ d : Fin 1024, x i d * w d ⟨1024 * c.val + 256 * g.val + n.val, by have := dlt c; omega⟩) * sc : ℝ) : EReal) := by
  rw [qBlk_at, sc_eq, EReal.coe_mul, coe_sum]
  congr 1
  refine Finset.sum_congr rfl fun d _ => ?_
  have hc := dlt c
  have ew : (⟨1024 * c.val + (256 * g.val + n.val), by omega⟩ : Fin 8192) = ⟨1024 * c.val + 256 * g.val + n.val, by omega⟩ :=
    Fin.ext (by show 1024 * c.val + (256 * g.val + n.val) = 1024 * c.val + 256 * g.val + n.val; omega)
  rw [hX, hW, wqv_at, h.hx, h.hw, EReal.coe_mul, ← ew]

theorem xB_at (c : Dev nD) (i : Fin 256) (d : Fin 1024) : xB m c (ix2 i d) = m ((c : Thread nD τ).loc main_arg0) (ix3 0 i d) := by
  refine Eq.trans ?_ (xv_at m c i d)
  pointwise [xB, k0_pay1]

theorem wcast_at (v : Vec Ideal S1x1024x256 .f32) (d : Fin 1024) (n : Fin 256) : k0_pay5 v (ix2 d n) = v (ix3 0 d n) := by
  pointwise [k0_pay5]

theorem kcast_at (v : Vec Ideal S1x4096x128 .f32) (j : Fin 4096) (e : Fin 128) : k0_pay7 v (ix2 j e) = v (ix3 0 j e) := by
  pointwise [k0_pay7]

theorem q0_eq (c : Dev nD) : q0 m c = qBlk (xB m c) (k0_pay5 (wqv m c 0)) := rfl
theorem q1_eq (c : Dev nD) : q1 m c = qBlk (xB m c) (k0_pay5 (wqv m c 1)) := rfl
theorem q2_eq (c : Dev nD) : q2 m c = qBlk (xB m c) (k0_pay5 (wqv m c 2)) := rfl
theorem q3_eq (c : Dev nD) : q3 m c = qBlk (xB m c) (k0_pay5 (wqv m c 3)) := rfl
theorem k0B_eq (c : Dev nD) : k0B m c = k0_pay7 (kv m c 0) := rfl
theorem k1B_eq (c : Dev nD) : k1B m c = k0_pay7 (kv m c 1) := rfl
theorem v0B_eq (c : Dev nD) : v0B m c = k0_pay7 (vv m c 0) := rfl
theorem v1B_eq (c : Dev nD) : v1B m c = k0_pay7 (vv m c 1) := rfl

theorem woB_at (c : Dev nD) (t n : Fin 1024) : woB m c (ix2 t n) = m ((c : Thread nD τ).loc main_arg4) (ix2 t n) := by
  refine Eq.trans ?_ (wov_at m c t n)
  pointwise [woB, k0_pay11]

/-- One head of the device. -/
theorem dev_head {c : Dev nD} (h : Holds m x w k c) (g : Fin 4) (a b : Fin 2) (p : Fin 2) (hp : p.val = g.val / 2) (t : Fin 8) (ht : t.val = 2 * g.val + b.val)
    (i : Fin 256) (r e : Fin 128) (hi : i.val = 128 * a.val + r.val) :
    hd (qQ (qBlk (xB m c) (k0_pay5 (wqv m c g))) a b) (k0_pay7 (kv m c p)) (k0_pay7 (vv m c p)) (ix2 r e)
      = att (scr x w k ⟨8 * c.val + t.val, by have := dlt c; omega⟩ i)
          (fun j => m ((c : Thread nD τ).loc main_arg3) (ix4 0 j ⟨2 * c.val + t.val / 4, by have := dlt c; omega⟩ e)) := by
  have hc := dlt c
  have eG : ∀ h1, (⟨2 * c.val + p.val, h1⟩ : Fin 16) = ⟨2 * c.val + t.val / 4, by omega⟩ := fun h1 => Fin.ext (by show 2 * c.val + p.val = 2 * c.val + t.val / 4; omega)
  rw [head_at x w k c g a b _ _ _ (qblk_real h g _ _ (xB_at c) (wcast_at _)) ⟨8 * c.val + t.val, by omega⟩ i r e ⟨2 * c.val + t.val / 4, by omega⟩
    (by show 8 * c.val + t.val = _; omega) hi (by show 2 * c.val + t.val / 4 = (8 * c.val + t.val) / 4; omega)
    (fun j e => by rw [kcast_at, kv_at, eG, h.hk])]
  congr 1
  funext j
  rw [kcast_at, vv_at, eG]

/-- The partial product's buffer at an index. -/
theorem pC_at {c : Dev nD} (h : Holds m x w k c) (i : Fin 256) (n : Fin 1024) :
    pM.view.read (Elt Ideal) (pC m c) (ix2 i n) = part m x w k c i n := by
  by_cases hi : i.val < 128
  · rw [pC_top m c i n hi, pTop_eq, joinWo_at]
    unfold part
    refine Finset.sum_congr rfl fun t _ => ?_
    rw [woB_at, q0_eq, q1_eq, q2_eq, q3_eq, k0B_eq, k1B_eq, v0B_eq, v1B_eq]
    congr 1
    have key : ∀ t' : Fin 8, ∀ e : Fin 128, (![hd (qQ (qBlk (xB m c) (k0_pay5 (wqv m c 0))) 0 0) (k0_pay7 (kv m c 0)) (k0_pay7 (vv m c 0)), hd (qQ (qBlk (xB m c) (k0_pay5 (wqv m c 0))) 0 1) (k0_pay7 (kv m c 0)) (k0_pay7 (vv m c 0)),
        hd (qQ (qBlk (xB m c) (k0_pay5 (wqv m c 1))) 0 0) (k0_pay7 (kv m c 0)) (k0_pay7 (vv m c 0)), hd (qQ (qBlk (xB m c) (k0_pay5 (wqv m c 1))) 0 1) (k0_pay7 (kv m c 0)) (k0_pay7 (vv m c 0)),
        hd (qQ (qBlk (xB m c) (k0_pay5 (wqv m c 2))) 0 0) (k0_pay7 (kv m c 1)) (k0_pay7 (vv m c 1)), hd (qQ (qBlk (xB m c) (k0_pay5 (wqv m c 2))) 0 1) (k0_pay7 (kv m c 1)) (k0_pay7 (vv m c 1)),
        hd (qQ (qBlk (xB m c) (k0_pay5 (wqv m c 3))) 0 0) (k0_pay7 (kv m c 1)) (k0_pay7 (vv m c 1)), hd (qQ (qBlk (xB m c) (k0_pay5 (wqv m c 3))) 0 1) (k0_pay7 (kv m c 1)) (k0_pay7 (vv m c 1))] : Fin 8 → FVec Ideal S128x128 .f32) t' (ix2 ⟨i.val, hi⟩ e)
        = att (scr x w k ⟨8 * c.val + t'.val, by have := dlt c; omega⟩ i)
          (fun j => m ((c : Thread nD τ).loc main_arg3) (ix4 0 j ⟨2 * c.val + t'.val / 4, by have := dlt c; omega⟩ e)) := by
      intro t' e
      match t' with
      | 0 => exact dev_head h 0 0 0 0 rfl 0 rfl i _ e (by simp)
      | 1 => exact dev_head h 0 0 1 0 rfl 1 rfl i _ e (by simp)
      | 2 => exact dev_head h 1 0 0 0 rfl 2 rfl i _ e (by simp)
      | 3 => exact dev_head h 1 0 1 0 rfl 3 rfl i _ e (by simp)
      | 4 => exact dev_head h 2 0 0 1 rfl 4 rfl i _ e (by simp)
      | 5 => exact dev_head h 2 0 1 1 rfl 5 rfl i _ e (by simp)
      | 6 => exact dev_head h 3 0 0 1 rfl 6 rfl i _ e (by simp)
      | 7 => exact dev_head h 3 0 1 1 rfl 7 rfl i _ e (by simp)
    exact key _ _
  · have hi' : 128 ≤ i.val := by omega
    rw [pC_bot m c i n hi', pBot_eq, joinWo_at]
    unfold part
    refine Finset.sum_congr rfl fun t _ => ?_
    rw [woB_at, q0_eq, q1_eq, q2_eq, q3_eq, k0B_eq, k1B_eq, v0B_eq, v1B_eq]
    congr 1
    have key : ∀ t' : Fin 8, ∀ e : Fin 128, (![hd (qQ (qBlk (xB m c) (k0_pay5 (wqv m c 0))) 1 0) (k0_pay7 (kv m c 0)) (k0_pay7 (vv m c 0)), hd (qQ (qBlk (xB m c) (k0_pay5 (wqv m c 0))) 1 1) (k0_pay7 (kv m c 0)) (k0_pay7 (vv m c 0)),
        hd (qQ (qBlk (xB m c) (k0_pay5 (wqv m c 1))) 1 0) (k0_pay7 (kv m c 0)) (k0_pay7 (vv m c 0)), hd (qQ (qBlk (xB m c) (k0_pay5 (wqv m c 1))) 1 1) (k0_pay7 (kv m c 0)) (k0_pay7 (vv m c 0)),
        hd (qQ (qBlk (xB m c) (k0_pay5 (wqv m c 2))) 1 0) (k0_pay7 (kv m c 1)) (k0_pay7 (vv m c 1)), hd (qQ (qBlk (xB m c) (k0_pay5 (wqv m c 2))) 1 1) (k0_pay7 (kv m c 1)) (k0_pay7 (vv m c 1)),
        hd (qQ (qBlk (xB m c) (k0_pay5 (wqv m c 3))) 1 0) (k0_pay7 (kv m c 1)) (k0_pay7 (vv m c 1)), hd (qQ (qBlk (xB m c) (k0_pay5 (wqv m c 3))) 1 1) (k0_pay7 (kv m c 1)) (k0_pay7 (vv m c 1))] : Fin 8 → FVec Ideal S128x128 .f32) t' (ix2 ⟨i.val - 128, by omega⟩ e)
        = att (scr x w k ⟨8 * c.val + t'.val, by have := dlt c; omega⟩ i)
          (fun j => m ((c : Thread nD τ).loc main_arg3) (ix4 0 j ⟨2 * c.val + t'.val / 4, by have := dlt c; omega⟩ e)) := by
      intro t' e
      match t' with
      | 0 => exact dev_head h 0 1 0 0 rfl 0 rfl i _ e (by simp; omega)
      | 1 => exact dev_head h 0 1 1 0 rfl 1 rfl i _ e (by simp; omega)
      | 2 => exact dev_head h 1 1 0 0 rfl 2 rfl i _ e (by simp; omega)
      | 3 => exact dev_head h 1 1 1 0 rfl 3 rfl i _ e (by simp; omega)
      | 4 => exact dev_head h 2 1 0 1 rfl 4 rfl i _ e (by simp; omega)
      | 5 => exact dev_head h 2 1 1 1 rfl 5 rfl i _ e (by simp; omega)
      | 6 => exact dev_head h 3 1 0 1 rfl 6 rfl i _ e (by simp; omega)
      | 7 => exact dev_head h 3 1 1 1 rfl 7 rfl i _ e (by simp; omega)
    exact key _ _

end Cert.KernelIdeal.Own
-- ==== Proof.Result.lean ====
/-
  The kernel's result at an index: the sum over the eight devices of their partial products, the same on every device.
-/
module

public import proofs.«01_k».proof.Proof.Partial
public import proofs.«01_k».proof.Proof.Launch
public import Idealize.ShloMosaic.Lib.Pipeline.ValueKit.Geometry

@[expose] public section

set_option maxRecDepth 16384

noncomputable section

namespace Cert.KernelIdeal.Own

open Cert.KernelIdeal Cert.KernelIdeal.Gen Idealize.ShloMosaic Idealize.ShloMosaic.TcCoe
open Idealize.ShloMosaic.Pipeline (Dat)

/-- A device and the seven before it are all eight. -/
theorem sum_devs {M : Type} [AddCommMonoid M] (f : Dev nD → M) (c : Dev nD) :
    f c + f (dn c 0) + f (dn c 1) + f (dn c 2) + f (dn c 3) + f (dn c 4) + f (dn c 5) + f (dn c 6) = ∑ d : Dev nD, f d := by
  rw [Fin.sum_univ_eight (fun d : Fin 8 => f d)]
  obtain h | h | h | h | h | h | h | h : c = (0 : Fin 8) ∨ c = (1 : Fin 8) ∨ c = (2 : Fin 8) ∨ c = (3 : Fin 8) ∨ c = (4 : Fin 8) ∨ c = (5 : Fin 8) ∨ c = (6 : Fin 8) ∨ c = (7 : Fin 8) := by
    revert c; decide
  · subst h; rw [show dn (0 : Fin 8) 0 = (7 : Fin 8) from by decide, show dn (0 : Fin 8) 1 = (6 : Fin 8) from by decide, show dn (0 : Fin 8) 2 = (5 : Fin 8) from by decide, show dn (0 : Fin 8) 3 = (4 : Fin 8) from by decide, show dn (0 : Fin 8) 4 = (3 : Fin 8) from by decide, show dn (0 : Fin 8) 5 = (2 : Fin 8) from by decide, show dn (0 : Fin 8) 6 = (1 : Fin 8) from by decide]; ac_rfl
  · subst h; rw [show dn (1 : Fin 8) 0 = (0 : Fin 8) from by decide, show dn (1 : Fin 8) 1 = (7 : Fin 8) from by decide, show dn (1 : Fin 8) 2 = (6 : Fin 8) from by decide, show dn (1 : Fin 8) 3 = (5 : Fin 8) from by decide, show dn (1 : Fin 8) 4 = (4 : Fin 8) from by decide, show dn (1 : Fin 8) 5 = (3 : Fin 8) from by decide, show dn (1 : Fin 8) 6 = (2 : Fin 8) from by decide]; ac_rfl
  · subst h; rw [show dn (2 : Fin 8) 0 = (1 : Fin 8) from by decide, show dn (2 : Fin 8) 1 = (0 : Fin 8) from by decide, show dn (2 : Fin 8) 2 = (7 : Fin 8) from by decide, show dn (2 : Fin 8) 3 = (6 : Fin 8) from by decide, show dn (2 : Fin 8) 4 = (5 : Fin 8) from by decide, show dn (2 : Fin 8) 5 = (4 : Fin 8) from by decide, show dn (2 : Fin 8) 6 = (3 : Fin 8) from by decide]; ac_rfl
  · subst h; rw [show dn (3 : Fin 8) 0 = (2 : Fin 8) from by decide, show dn (3 : Fin 8) 1 = (1 : Fin 8) from by decide, show dn (3 : Fin 8) 2 = (0 : Fin 8) from by decide, show dn (3 : Fin 8) 3 = (7 : Fin 8) from by decide, show dn (3 : Fin 8) 4 = (6 : Fin 8) from by decide, show dn (3 : Fin 8) 5 = (5 : Fin 8) from by decide, show dn (3 : Fin 8) 6 = (4 : Fin 8) from by decide]; ac_rfl
  · subst h; rw [show dn (4 : Fin 8) 0 = (3 : Fin 8) from by decide, show dn (4 : Fin 8) 1 = (2 : Fin 8) from by decide, show dn (4 : Fin 8) 2 = (1 : Fin 8) from by decide, show dn (4 : Fin 8) 3 = (0 : Fin 8) from by decide, show dn (4 : Fin 8) 4 = (7 : Fin 8) from by decide, show dn (4 : Fin 8) 5 = (6 : Fin 8) from by decide, show dn (4 : Fin 8) 6 = (5 : Fin 8) from by decide]; ac_rfl
  · subst h; rw [show dn (5 : Fin 8) 0 = (4 : Fin 8) from by decide, show dn (5 : Fin 8) 1 = (3 : Fin 8) from by decide, show dn (5 : Fin 8) 2 = (2 : Fin 8) from by decide, show dn (5 : Fin 8) 3 = (1 : Fin 8) from by decide, show dn (5 : Fin 8) 4 = (0 : Fin 8) from by decide, show dn (5 : Fin 8) 5 = (7 : Fin 8) from by decide, show dn (5 : Fin 8) 6 = (6 : Fin 8) from by decide]; ac_rfl
  · subst h; rw [show dn (6 : Fin 8) 0 = (5 : Fin 8) from by decide, show dn (6 : Fin 8) 1 = (4 : Fin 8) from by decide, show dn (6 : Fin 8) 2 = (3 : Fin 8) from by decide, show dn (6 : Fin 8) 3 = (2 : Fin 8) from by decide, show dn (6 : Fin 8) 4 = (1 : Fin 8) from by decide, show dn (6 : Fin 8) 5 = (0 : Fin 8) from by decide, show dn (6 : Fin 8) 6 = (7 : Fin 8) from by decide]; ac_rfl
  · subst h; rw [show dn (7 : Fin 8) 0 = (6 : Fin 8) from by decide, show dn (7 : Fin 8) 1 = (5 : Fin 8) from by decide, show dn (7 : Fin 8) 2 = (4 : Fin 8) from by decide, show dn (7 : Fin 8) 3 = (3 : Fin 8) from by decide, show dn (7 : Fin 8) 4 = (2 : Fin 8) from by decide, show dn (7 : Fin 8) 5 = (1 : Fin 8) from by decide, show dn (7 : Fin 8) 6 = (0 : Fin 8) from by decide]; ac_rfl

variable {m : (ℓ : Loc nD τ sig) → Buf (Elt Ideal) ℓ}
variable {x : Fin 256 → Fin 1024 → ℝ} {w : Fin 1024 → Fin 8192 → ℝ} {k : Fin 4096 → Fin 16 → Fin 128 → ℝ}

/-- The eight-term sum of the kernel, at an index. -/
theorem redB_sum (c : Dev nD) (r : Fin 32) (n : Fin 1024) :
    redB m c (ix2 r n) = (pv m c (ix2 r n) + rsv m c 0 (ix3 0 r n) + rsv m c 1 (ix3 0 r n) + rsv m c 2 (ix3 0 r n) + rsv m c 3 (ix3 0 r n)
      + rsv m c 4 (ix3 0 r n) + rsv m c 5 (ix3 0 r n) + rsv m c 6 (ix3 0 r n) : EReal) := by
  pointwise [redB, k0_pay31, k0_pay29, sum1, k0_pay28]

/-- The stored rows are the sent rows. -/
theorem redF_at (c : Dev nD) (r : Fin 32) (n : Fin 1024) : redF m c (ix3 0 r n) = redB m c (ix2 r n) := by
  pointwise [redF, redB, k0_pay30, k0_pay31]

/-- The rows stored for another device are the rows received from it. -/
theorem othF_at (c : Dev nD) (u : Fin 7) (r : Fin 32) (n : Fin 1024) : othF m c u (ix3 0 r n) = agv m c u (ix3 0 r n) := by
  pointwise [othF, k0_pay32]

/-- The reduced rows at an index. -/
theorem redB_at (h : ∀ c, Holds m x w k c) (c : Dev nD) (r : Fin 32) (n : Fin 1024) :
    redB m c (ix2 r n) = ∑ d : Dev nD, part m x w k d ⟨32 * c.val + r.val, by have := dlt c; omega⟩ n := by
  rw [redB_sum, pv_at, rsv_at, rsv_at, rsv_at, rsv_at, rsv_at, rsv_at, rsv_at, pC_at (h _), pC_at (h _), pC_at (h _), pC_at (h _), pC_at (h _), pC_at (h _), pC_at (h _), pC_at (h _)]
  exact sum_devs (fun d => part m x w k d ⟨32 * c.val + r.val, by have := dlt c; omega⟩ n) c

/-- The device's own store. -/
theorem out0_val (h : ∀ c, Holds m x w k c) (c : Dev nD) (f : OBuf Ideal) (i : Fin 256) (n : Fin 1024) (hi : i.val / 32 = c.val) :
    oM.view.read (Elt Ideal) (out0 m c f) (ix3 0 i n) = ∑ d : Dev nD, part m x w k d i n := by
  refine (View.read_writes_cons_unit_of_mem oM.view f (k0_off19_inb c) (redF m c) [] (ix3 0 i n) (ix3 0 (⟨i.val % 32, by omega⟩ : Fin 32) n) (off19_eq c)
    (fun a => by fin_cases a <;> simp; omega)).trans ?_
  refine (redF_at c _ n).trans ((redB_at h c _ n).trans ?_)
  have e : (⟨32 * c.val + i.val % 32, by have := dlt c; omega⟩ : Fin 256) = i := Fin.ext (by show 32 * c.val + i.val % 32 = i.val; omega)
  simp only [e]

/-- One of the seven other stores: its own rows hold the result, the rest stays. -/
theorem outS_val (h : ∀ c, Holds m x w k c) (c : Dev nD) (u : Fin 7) (f : OBuf Ideal) (i : Fin 256) (n : Fin 1024)
    (hf : i.val / 32 ≠ (dn c u).val → oM.view.read (Elt Ideal) f (ix3 0 i n) = ∑ d : Dev nD, part m x w k d i n) :
    oM.view.read (Elt Ideal) (outS m c u f) (ix3 0 i n) = ∑ d : Dev nD, part m x w k d i n := by
  by_cases hi : i.val / 32 = (dn c u).val
  · refine (View.read_writes_cons_unit_of_mem oM.view f (k0_off20_inb c u) (othF m c u) [] (ix3 0 i n) (ix3 0 (⟨i.val % 32, by omega⟩ : Fin 32) n) (off20_eq c u)
      (fun a => by fin_cases a <;> simp; omega)).trans ?_
    refine (othF_at c u _ n).trans ((agv_at m c u _ n).trans ((redB_at h (dn c u) _ n).trans ?_))
    have e : (⟨32 * (dn c u).val + i.val % 32, by have := dlt (dn c u); omega⟩ : Fin 256) = i := Fin.ext (by show 32 * (dn c u).val + i.val % 32 = i.val; omega)
    simp only [e]
  · refine (View.read_writes_cons_unit_of_not_mem oM.view f (k0_off20_inb c u) (othF m c u) [] (ix3 0 i n) (off20_eq c u) (1 : Fin 3) ?_).trans (hf hi)
    show i.val < 32 * (dn c u).val ∨ 32 * (dn c u).val + 32 ≤ i.val
    omega

/-- The result's staging buffer at an index. -/
theorem outC_val (h : ∀ c, Holds m x w k c) (c : Dev nD) (i : Fin 256) (n : Fin 1024) :
    oM.view.read (Elt Ideal) (outC m c) (ix3 0 i n) = ∑ d : Dev nD, part m x w k d i n := by
  unfold outC outOver
  have hi : i.val / 32 < 8 := by omega
  have ne : ∀ {d : Dev nD}, i.val / 32 ≠ d.val → (⟨i.val / 32, hi⟩ : Dev nD) ≠ d := fun hd e => hd (congrArg Fin.val e)
  exact outS_val h c 6 _ i n fun n6 => outS_val h c 5 _ i n fun n5 => outS_val h c 4 _ i n fun n4 => outS_val h c 3 _ i n fun n3 =>
    outS_val h c 2 _ i n fun n2 => outS_val h c 1 _ i n fun n1 => outS_val h c 0 _ i n fun n0 =>
      out0_val h c _ i n (congrArg Fin.val (some_step c ⟨i.val / 32, hi⟩ (ne n0) (ne n1) (ne n2) (ne n3) (ne n4) (ne n5) (ne n6)))

attribute [local irreducible] outC in
/-- The result array ends as the staging buffer. -/
theorem finalA_out (c : Dev nD) : finalA m c (1 : Fin 2) = outC m c := by
  have hA : (dats m 0 c).after (1 : Fin 2) t0_0 = outC m c := rfl
  unfold finalA
  generalize outC m c = G at hA ⊢
  refine (dats m 0 c).arrAt_eq_of_after_last (1 : Fin 2) t0_0 (by decide +kernel) G fun j => ?_
  rw [hA]
  rfl

/-- The result array at an index. -/
theorem final_at (h : ∀ c, Holds m x w k c) (c : Dev nD) (i : Fin 256) (n : Fin 1024) :
    finalA m c (1 : Fin 2) (ix3 (0 : Fin 1) i n) = ∑ d : Dev nD, part m x w k d i n := by
  have e := finalA_out (m := m) c
  have v := outC_val h c i n
  generalize outC m c = G at e v
  exact (congrFun e _).trans v

end Cert.KernelIdeal.Own
-- ==== Proof.RefStages.lean ====
/-
  The reference, cut into its stages: the query projection, the repeated keys and values, one block of scores, the running
  maximum, the running sum and the running output, and the last projection. Each stage is read at an index.
-/
module

public import proofs.«01_k».proof.Proof.Gen.ReferenceIdeal.Run
public import proofs.«01_k».proof.Proof.Softmax
public import Idealize.ShloMosaic.Lib.Pointwise
public import Idealize.ShloMosaic.Lib.Tactic.CleanTypes

@[expose] public section

set_option maxRecDepth 16384

noncomputable section

namespace Cert.ReferenceIdeal.Own

open Cert.ReferenceIdeal Cert.ReferenceIdeal.Gen Idealize.ShloMosaic Idealize.ShloMosaic.TcCoe

/-- The queries: x times Wq, split into 64 heads. -/
def rQ (x : FVec Ideal S1x256x1024 .f32) (wq : FVec Ideal S1024x8192 .f32) : FVec Ideal S1x256x64x128 .f32 :=
  shapeCast _ (Host.dotGeneral dot_S1x256x1024_S1024x8192_S1x256x8192_2_0_01_1_n_n none x wq) shapeCasts_S1x256x8192_S1x256x64x128

/-- Keys or values, each of the 16 heads repeated four times. -/
def rRep (k : FVec Ideal S1x4096x16x128 .f32) : FVec Ideal S1x4096x64x128 .f32 :=
  shapeCast _ (broadcastInDim S1x4096x16x4x128 ![0, 1, 2, 4] bcast_S1x4096x16x128_S1x4096x16x4x128_0_1_2_4 k) shapeCasts_S1x4096x16x4x128_S1x4096x64x128

/-- The four blocks of 1024 positions. -/
def rBlk (k : FVec Ideal S1x4096x64x128 .f32) : Fin 4 → FVec Ideal S1x1024x64x128 .f32
  | 0 => extractStridedSlice S1x1024x64x128 ![0, 0, 0, 0] k slices_S1x4096x64x128_S1x1024x64x128_0_0_0_0
  | 1 => extractStridedSlice S1x1024x64x128 ![0, 1024, 0, 0] k slices_S1x4096x64x128_S1x1024x64x128_0_1024_0_0
  | 2 => extractStridedSlice S1x1024x64x128 ![0, 2048, 0, 0] k slices_S1x4096x64x128_S1x1024x64x128_0_2048_0_0
  | 3 => extractStridedSlice S1x1024x64x128 ![0, 3072, 0, 0] k slices_S1x4096x64x128_S1x1024x64x128_0_3072_0_0

/-- One block of scaled scores. -/
def rS (q : FVec Ideal S1x256x64x128 .f32) (kb : FVec Ideal S1x1024x64x128 .f32) : FVec Ideal S1x64x256x1024 .f32 :=
  mulf (Host.dotGeneral dot_S1x256x64x128_S1x1024x64x128_S1x64x256x1024_3_3_1_1_02_02 none q kb) (broadcastInDim S1x64x256x1024 ![] bcast_S_S1x64x256x1024 (constant S_ .f32 0x3DB504F3#32))

/-- The running maximum before any block. -/
def rM0 : FVec Ideal S1x64x256x1 .f32 := broadcastInDim S1x64x256x1 ![] bcast_S_S1x64x256x1 (constant S_ .f32 0xFF800000#32)

/-- The running maximum after one more block. -/
def rM (mx : FVec Ideal S1x64x256x1 .f32) (s : FVec Ideal S1x64x256x1024 .f32) : FVec Ideal S1x64x256x1 .f32 :=
  maximumf mx (broadcastInDim S1x64x256x1 ![0, 1, 2] bcast_S1x64x256_S1x64x256x1_0_1_2 (Host.reduce FloatOps.maximumf s (constant S_ .f32 0xFF800000#32) reducesTo_S1x64x256x1024_S1x64x256_d3 h_S_))

/-- The rescaling factor from one maximum to the next. -/
def rA (mx mx' : FVec Ideal S1x64x256x1 .f32) : FVec Ideal S1x64x256x1 .f32 := Host.exp (subf mx mx')

/-- One block of exponentials. -/
def rP (s : FVec Ideal S1x64x256x1024 .f32) (mx : FVec Ideal S1x64x256x1 .f32) : FVec Ideal S1x64x256x1024 .f32 :=
  Host.exp (subf s (broadcastInDim S1x64x256x1024 ![0, 1, 2, 3] bcast_S1x64x256x1_S1x64x256x1024_0_1_2_3 mx))

/-- The running sum before any block. -/
def rL0 : FVec Ideal S1x64x256x1 .f32 := broadcastInDim S1x64x256x1 ![] bcast_S_S1x64x256x1 (constant S_ .f32 0x00000000#32)

/-- The running sum after one more block. -/
def rL (l a : FVec Ideal S1x64x256x1 .f32) (p : FVec Ideal S1x64x256x1024 .f32) : FVec Ideal S1x64x256x1 .f32 :=
  addf (mulf l a) (broadcastInDim S1x64x256x1 ![0, 1, 2] bcast_S1x64x256_S1x64x256x1_0_1_2 (Host.reduceAdd p (constant S_ .f32 0x00000000#32) reducesTo_S1x64x256x1024_S1x64x256_d3 h_S_))

/-- A column per row and head, spread over the 128 entries of the head. -/
def rSpread (a : FVec Ideal S1x64x256x1 .f32) : FVec Ideal S1x256x64x128 .f32 :=
  broadcastInDim S1x256x64x128 ![0, 1, 2, 3] bcast_S1x256x64x1_S1x256x64x128_0_1_2_3 (transpose S1x256x64x1 [0, 2, 1, 3] a transposes_S1x64x256x1_S1x256x64x1_0_2_1_3)

/-- The running output before any block. -/
def rO0 : FVec Ideal S1x256x64x128 .f32 := broadcastInDim S1x256x64x128 ![] bcast_S_S1x256x64x128 (constant S_ .f32 0x00000000#32)

/-- The running output after one more block. -/
def rO (o : FVec Ideal S1x256x64x128 .f32) (a : FVec Ideal S1x64x256x1 .f32) (p : FVec Ideal S1x64x256x1024 .f32) (vb : FVec Ideal S1x1024x64x128 .f32) : FVec Ideal S1x256x64x128 .f32 :=
  addf (mulf o (rSpread a)) (transpose S1x256x64x128 [0, 3, 1, 2] (Host.dotGeneral dot_S1x1024x64x128_S1x64x256x1024_S1x64x128x256_1_3_3_2_02_01 none vb p) transposes_S1x64x128x256_S1x256x64x128_0_3_1_2)

/-- The quotient and the last projection. -/
def rOut (o : FVec Ideal S1x256x64x128 .f32) (l : FVec Ideal S1x64x256x1 .f32) (wo : FVec Ideal S8192x1024 .f32) : FVec Ideal S1x256x1024 .f32 :=
  Host.dotGeneral dot_S1x256x8192_S8192x1024_S1x256x1024_2_0_01_1_n_n none (shapeCast _ (Host.divf o (rSpread l)) shapeCasts_S1x256x64x128_S1x256x8192) wo

/-- A query entry. -/
theorem rQ_at (x wq) (i : Fin 256) (h : Fin 64) (e : Fin 128) :
    rQ x wq (ix4 0 i h e) = ∑ d : Fin 1024, x (ix3 0 i d) * wq (ix2 d ⟨h.val * 128 + e.val, by omega⟩) := by
  pointwise [rQ]

/-- A repeated entry is the entry of head h/4. -/
theorem rRep_at (k) (j : Fin 4096) (h : Fin 64) (e : Fin 128) :
    rRep k (ix4 0 j h e) = k (ix4 0 j ⟨h.val / 4, by omega⟩ e) := by
  pointwise [rRep]

/-- Block b holds positions 1024 b and on. -/
theorem rBlk_at (k) (b : Fin 4) (j : Fin 1024) (h : Fin 64) (e : Fin 128) :
    rBlk k b (ix4 0 j h e) = k (ix4 0 (Cert.Own.Softmax.at4 b j) h e) := by
  fin_cases b <;> pointwise [rBlk]
  · exact congrArg (fun i => k (ix4 0 i h e)) (Fin.ext (by simp))
  all_goals exact congrArg (fun i => k (ix4 0 i h e)) (Fin.ext (by simp))

/-- A score. -/
theorem rS_at (q kb) (h : Fin 64) (i : Fin 256) (j : Fin 1024) :
    rS q kb (ix4 0 h i j) = (∑ e : Fin 128, q (ix4 0 i h e) * kb (ix4 0 j h e)) * Ideal.ofBits .f32 0x3DB504F3#32 := by
  pointwise [rS]

/-- Folding the maximum of reals from minus infinity gives a real. -/
theorem fold_real {ι : Type} [Fintype ι] [Nonempty ι] (b : Ideal .f32) (hb : b = (⊥ : EReal)) (f : ι → Ideal .f32) (hf : ∀ i, ∃ r : ℝ, f i = (r : EReal)) :
    ∃ r : ℝ, Finset.univ.fold (FloatOps.maximumf (F := Ideal) (φ := .f32)) b f = (r : EReal) := by
  classical
  have h : ∀ s : Finset ι, s.fold (FloatOps.maximumf (F := Ideal) (φ := .f32)) b f = (⊥ : EReal) ∧ s = ∅
      ∨ ∃ r : ℝ, s.fold (FloatOps.maximumf (F := Ideal) (φ := .f32)) b f = (r : EReal) := by
    intro s
    refine Finset.induction_on s (Or.inl ⟨by rw [Finset.fold_empty, hb], rfl⟩) ?_
    intro a s ha ih
    right
    obtain ⟨x, hx⟩ := hf a
    rw [Finset.fold_insert ha, hx]
    rcases ih with ⟨h, _⟩ | ⟨r, h⟩
    · exact ⟨x, by rw [h]; exact max_bot_right _⟩
    · exact ⟨max x r, by rw [h]; exact (EReal.coe_strictMono.monotone.map_max (a := x) (b := r)).symm⟩
  rcases h Finset.univ with ⟨_, h⟩ | h
  · exact absurd h (Finset.univ_nonempty).ne_empty
  · exact h

/-- The initial value of the maximum is minus infinity. -/
theorem neg_inf : (constant (F := Ideal) S_ .f32 0xFF800000#32) (Shape.Idx.first h_S_) = (⊥ : EReal) := by
  show Ideal.ofBits .f32 0xFF800000#32 = (⊥ : EReal)
  simp [Ideal.ofBits, Ideal.ieee]

/-- The maximum runs over the last axis. -/
theorem reduces_3 : S1x64x256x1024.Reduces [3] S1x64x256 := by decide

/-- The last axis is not empty. -/
theorem ne3 : Nonempty (Fin (S1x64x256x1024.size 3)) := ⟨⟨0, by decide⟩⟩

/-- The maximum of a block of real scores is real. -/
theorem rmax_real (s : FVec Ideal S1x64x256x1024 .f32) (hs : ∀ i, ∃ r : ℝ, s i = (r : EReal)) (k : S1x64x256.Idx) :
    ∃ r : ℝ, Host.reduce (FloatOps.maximumf (F := Ideal) (φ := .f32)) s (constant S_ .f32 0xFF800000#32) reducesTo_S1x64x256x1024_S1x64x256_d3 h_S_ k = (r : EReal) := by
  rw [Host.reduce_eq_fold_single (FloatOps.maximumf (F := Ideal) (φ := .f32)) s _ reducesTo_S1x64x256x1024_S1x64x256_d3 reduces_3 h_S_ k]
  haveI := ne3
  exact fold_real _ neg_inf _ (fun i => hs _)

/-- The running maximum reads one entry of the block's maxima. -/
theorem rM_src (mx : FVec Ideal S1x64x256x1 .f32) (R : FVec Ideal S1x64x256 .f32) (j : S1x64x256x1.Idx) :
    ∃ k, maximumf mx (broadcastInDim S1x64x256x1 ![0, 1, 2] bcast_S1x64x256_S1x64x256x1_0_1_2 R) j = max (mx j) (R k) := ⟨_, rfl⟩

/-- The running maximum is real after any block of real scores. -/
theorem rM_real (mx : FVec Ideal S1x64x256x1 .f32) (s : FVec Ideal S1x64x256x1024 .f32) (hs : ∀ i, ∃ r : ℝ, s i = (r : EReal)) (j : S1x64x256x1.Idx)
    (hm : mx j = (⊥ : EReal) ∨ ∃ r : ℝ, mx j = (r : EReal)) : ∃ r : ℝ, rM mx s j = (r : EReal) := by
  unfold rM
  obtain ⟨k, e⟩ := rM_src mx (Host.reduce FloatOps.maximumf s (constant S_ .f32 0xFF800000#32) reducesTo_S1x64x256x1024_S1x64x256_d3 h_S_) j
  obtain ⟨x, hx⟩ := rmax_real s hs k
  rw [e, hx]
  rcases hm with h | ⟨y, h⟩
  · exact ⟨x, by rw [h]; exact max_bot_left _⟩
  · exact ⟨max y x, by rw [h]; exact (EReal.coe_strictMono.monotone.map_max (a := y) (b := x)).symm⟩

/-- The rescaling factor. -/
theorem rA_at (mx mx') (h : Fin 64) (i : Fin 256) :
    rA mx mx' (ix4 0 h i 0) = Ideal.exp (mx (ix4 0 h i 0) - mx' (ix4 0 h i 0)) := by
  pointwise [rA]

/-- An exponential. -/
theorem rP_at (s mx) (h : Fin 64) (i : Fin 256) (j : Fin 1024) :
    rP s mx (ix4 0 h i j) = Ideal.exp (s (ix4 0 h i j) - mx (ix4 0 h i 0)) := by
  pointwise [rP]

/-- One step of the running sum. -/
theorem rL_at (l a p) (h : Fin 64) (i : Fin 256) :
    rL l a p (ix4 0 h i 0) = l (ix4 0 h i 0) * a (ix4 0 h i 0) + ∑ j : Fin 1024, p (ix4 0 h i j) := by
  pointwise [rL]

/-- The spread column. -/
theorem rSpread_at (a) (i : Fin 256) (h : Fin 64) (e : Fin 128) : rSpread a (ix4 0 i h e) = a (ix4 0 h i 0) := by
  pointwise [rSpread]

/-- One step of the running output. -/
theorem rO_at (o a p vb) (i : Fin 256) (h : Fin 64) (e : Fin 128) :
    rO o a p vb (ix4 0 i h e) = o (ix4 0 i h e) * a (ix4 0 h i 0) + ∑ j : Fin 1024, vb (ix4 0 j h e) * p (ix4 0 h i j) := by
  pointwise [rO, rSpread]

/-- The last projection: over head and entry as one column index. -/
theorem rOut_at (o l wo) (i : Fin 256) (n : Fin 1024) :
    rOut o l wo (ix3 0 i n) = ∑ t : Fin 8192, Ideal.div (o (ix4 0 i ⟨t.val / 128, by omega⟩ ⟨t.val % 128, by omega⟩)) (l (ix4 0 ⟨t.val / 128, by omega⟩ i 0)) * wo (ix2 t n) := by
  pointwise [rOut, rSpread]

/-- The first running maximum is minus infinity. -/
theorem rM0_at (j : S1x64x256x1.Idx) : rM0 j = (⊥ : EReal) := by
  show Ideal.ofBits .f32 0xFF800000#32 = (⊥ : EReal)
  simp [Ideal.ofBits, Ideal.ieee]

/-- The first running sum is zero. -/
theorem rL0_at (h : Fin 64) (i : Fin 256) : rL0 (ix4 0 h i 0) = (0 : EReal) := by
  pointwise [rL0]

/-- The first running output is zero. -/
theorem rO0_at (i : Fin 256) (h : Fin 64) (e : Fin 128) : rO0 (ix4 0 i h e) = (0 : EReal) := by
  pointwise [rO0]

end Cert.ReferenceIdeal.Own
-- ==== Proof.RefValue.lean ====
/-
  The reference's result at an index: over the 8192 columns (head and entry), the softmax of the scores applied to the values,
  times the output weights.
-/
module

public import proofs.«01_k».proof.Proof.RefStages

@[expose] public section

set_option maxRecDepth 16384

noncomputable section

namespace Cert.ReferenceIdeal.Own

open Cert.ReferenceIdeal Cert.ReferenceIdeal.Gen Idealize.ShloMosaic Idealize.ShloMosaic.TcCoe
open Cert.Own.Softmax

/-- A block of scores, as a vector. -/
abbrev SV := FVec Ideal S1x64x256x1024 .f32

/-- The running maximum after one, two, three and four blocks. -/
def m1 (s : Fin 4 → SV) := rM rM0 (s 0)
@[inherit_doc m1] def m2 (s : Fin 4 → SV) := rM (m1 s) (s 1)
@[inherit_doc m1] def m3 (s : Fin 4 → SV) := rM (m2 s) (s 2)
@[inherit_doc m1] def m4 (s : Fin 4 → SV) := rM (m3 s) (s 3)

/-- The running sum after the four blocks. -/
def l4 (s : Fin 4 → SV) :=
  rL (rL (rL (rL rL0 (rA rM0 (m1 s)) (rP (s 0) (m1 s))) (rA (m1 s) (m2 s)) (rP (s 1) (m2 s))) (rA (m2 s) (m3 s)) (rP (s 2) (m3 s))) (rA (m3 s) (m4 s)) (rP (s 3) (m4 s))

/-- The running output after the four blocks. -/
def o4 (s : Fin 4 → SV) (vb : Fin 4 → FVec Ideal S1x1024x64x128 .f32) :=
  rO (rO (rO (rO rO0 (rA rM0 (m1 s)) (rP (s 0) (m1 s)) (vb 0)) (rA (m1 s) (m2 s)) (rP (s 1) (m2 s)) (vb 1)) (rA (m2 s) (m3 s)) (rP (s 2) (m3 s)) (vb 2)) (rA (m3 s) (m4 s)) (rP (s 3) (m4 s)) (vb 3)

/-- All four blocks of scores. -/
def sAll (x : FVec Ideal S1x256x1024 .f32) (wq : FVec Ideal S1024x8192 .f32) (k : FVec Ideal S1x4096x16x128 .f32) : Fin 4 → SV :=
  fun b => rS (rQ x wq) (rBlk (rRep k) b)

/-- The reference's result is its stages in order. -/
theorem res_eq (m : (ℓ : Loc nD τ sig) → Buf (Elt Ideal) ℓ) (c : Dev nD) :
    Value.res_main_v105 m c
      = rOut (o4 (sAll (m ((c.tc : Thread nD τ).loc main_arg0)) (m ((c.tc : Thread nD τ).loc main_arg1)) (m ((c.tc : Thread nD τ).loc main_arg2)))
            (rBlk (rRep (m ((c.tc : Thread nD τ).loc main_arg3)))))
          (l4 (sAll (m ((c.tc : Thread nD τ).loc main_arg0)) (m ((c.tc : Thread nD τ).loc main_arg1)) (m ((c.tc : Thread nD τ).loc main_arg2))))
          (m ((c.tc : Thread nD τ).loc main_arg4)) := by
  unfold Value.res_main_v105
  rfl

/-- The quotient of the running output and the running sum is the softmax of the row of scores. -/
theorem att_at (s : Fin 4 → SV) (vb : Fin 4 → FVec Ideal S1x1024x64x128 .f32) (i : Fin 256) (h : Fin 64) (e : Fin 128)
    (sr : Fin 4096 → ℝ) (w : Fin 4096 → EReal) (hs : ∀ b j, s b (ix4 0 h i j) = (sr (at4 b j) : EReal))
    (hr : ∀ b i, ∃ r : ℝ, s b i = (r : EReal)) (hw : ∀ b j, vb b (ix4 0 j h e) = w (at4 b j)) :
    Ideal.div (o4 s vb (ix4 0 i h e)) (l4 s (ix4 0 h i 0)) = att sr w := by
  obtain ⟨μ0, h0⟩ := rM_real rM0 (s 0) (hr 0) (ix4 0 h i 0) (.inl (rM0_at _))
  obtain ⟨μ1, h1⟩ := rM_real (m1 s) (s 1) (hr 1) (ix4 0 h i 0) (.inr ⟨μ0, h0⟩)
  obtain ⟨μ2, h2⟩ := rM_real (m2 s) (s 2) (hr 2) (ix4 0 h i 0) (.inr ⟨μ1, h1⟩)
  obtain ⟨μ3, h3⟩ := rM_real (m3 s) (s 3) (hr 3) (ix4 0 h i 0) (.inr ⟨μ2, h2⟩)
  have e0 : m1 s (ix4 0 h i 0) = (μ0 : EReal) := h0
  have e1 : m2 s (ix4 0 h i 0) = (μ1 : EReal) := h1
  have e2 : m3 s (ix4 0 h i 0) = (μ2 : EReal) := h2
  have e3 : m4 s (ix4 0 h i 0) = (μ3 : EReal) := h3
  have key := online sr w ![μ0, μ1, μ2, μ3] (Ideal.exp (⊥ - (μ0 : EReal)))
  rw [← key]
  simp only [o4, l4, rO_at, rL_at, rA_at, rP_at, rO0_at, rL0_at, rM0_at, e0, e1, e2, e3, hs, hw]
  rfl

variable (x : Fin 256 → Fin 1024 → ℝ) (w : Fin 1024 → Fin 8192 → ℝ) (k : Fin 4096 → Fin 16 → Fin 128 → ℝ)

/-- The scores of the reference are these real scores. -/
theorem sAll_at (X : FVec Ideal S1x256x1024 .f32) (W : FVec Ideal S1024x8192 .f32) (K : FVec Ideal S1x4096x16x128 .f32)
    (hX : ∀ i d, X (ix3 0 i d) = (x i d : EReal)) (hW : ∀ d n, W (ix2 d n) = (w d n : EReal)) (hK : ∀ j g e, K (ix4 0 j g e) = (k j g e : EReal))
    (b : Fin 4) (h : Fin 64) (i : Fin 256) (j : Fin 1024) :
    sAll X W K b (ix4 0 h i j) = (scr x w k h i (at4 b j) : EReal) := by
  simp only [sAll, rS_at, rQ_at, rBlk_at, rRep_at, hX, hW, hK, sc_eq, scr, EReal.coe_mul, coe_sum]

/-- Every index of a block of scores is a head, a row and a position. -/
theorem idx4 (P : S1x64x256x1024.Idx → Prop) (h : ∀ h i j, P (ix4 0 h i j)) (idx : S1x64x256x1024.Idx) : P idx := by
  idx_vars idx
  obtain rfl : idx0 = (0 : Fin 1) := Subsingleton.elim _ _
  exact h _ _ _

/-- The reference's result at an index. -/
theorem res_at (m : (ℓ : Loc nD τ sig) → Buf (Elt Ideal) ℓ) (c : Dev nD) (X : FVec Ideal S1x256x1024 .f32) (W : FVec Ideal S1024x8192 .f32)
    (K V : FVec Ideal S1x4096x16x128 .f32) (O : FVec Ideal S8192x1024 .f32)
    (eX : m ((c.tc : Thread nD τ).loc main_arg0) = X) (eW : m ((c.tc : Thread nD τ).loc main_arg1) = W)
    (eK : m ((c.tc : Thread nD τ).loc main_arg2) = K) (eV : m ((c.tc : Thread nD τ).loc main_arg3) = V) (eO : m ((c.tc : Thread nD τ).loc main_arg4) = O)
    (hX : ∀ i d, X (ix3 0 i d) = (x i d : EReal)) (hW : ∀ d n, W (ix2 d n) = (w d n : EReal)) (hK : ∀ j g e, K (ix4 0 j g e) = (k j g e : EReal))
    (i : Fin 256) (n : Fin 1024) :
    Value.res_main_v105 m c (ix3 0 i n)
      = ∑ t : Fin 8192, att (scr x w k ⟨t.val / 128, by omega⟩ i) (fun j => V (ix4 0 j ⟨t.val / 128 / 4, by omega⟩ ⟨t.val % 128, by omega⟩)) * O (ix2 t n) := by
  rw [res_eq, eX, eW, eK, eV, eO]
  refine (rOut_at _ _ _ i n).trans (Finset.sum_congr rfl fun t _ => ?_)
  congr 1
  refine att_at _ _ i _ _ _ _ (fun b j => sAll_at x w k X W K hX hW hK b _ i j) (fun b idx => ?_) (fun b j => ?_)
  · exact idx4 (fun idx => ∃ r : ℝ, sAll X W K b idx = (r : EReal)) (fun h i j => ⟨_, sAll_at x w k X W K hX hW hK b h i j⟩) idx
  · rw [rBlk_at, rRep_at]

end Cert.ReferenceIdeal.Own
-- ==== Proof.Finite.lean ====
/-
  What the precondition says: the activations, the query weights and the keys are real numbers, on every device.
-/
module

public import proofs.«01_k».proof.Defs
public import Idealize.ShloMosaic.Lib.ReduceAll
public import Idealize.ShloMosaic.PureOps.Ideal.Laws

@[expose] public section

set_option maxRecDepth 16384

noncomputable section

namespace Cert.Own.Finite

open Idealize.ShloMosaic

/-- The side conditions of the precondition's own operations, over one device's blocks. -/
theorem blocks : Cert.Pre_finite_KernelIdeal.Facts where
  bcast_S_S1x256x1024 := by decide
  reducesTo_S1x256x1024_S_d0_1_2 := by decide
  h_S_ := by decide
  bcast_S_S1024x1024 := by decide
  reducesTo_S1024x1024_S_d0_1 := by decide
  bcast_S_S1x4096x16x128 := by decide
  reducesTo_S1x4096x16x128_S_d0_1_2_3 := by decide

/-- The same over whole arrays. -/
theorem wholes : Cert.Pre_finite_ReferenceIdeal.Facts := by
  constructor <;> decide

/-- A magnitude below infinity is that of a real number. -/
theorem real_of (a : EReal) (h : Ideal.cmp .olt (max a (-a)) (Ideal.ofBits .f32 0x7F800000#32) = 1#1) : ((a.toReal : ℝ) : EReal) = a := by
  have ht : Ideal.ofBits .f32 0x7F800000#32 = (⊤ : EReal) := by simp [Ideal.ofBits, Ideal.ieee]
  rw [ht] at h
  have hlt : max a (-a) < ⊤ := by
    by_contra hn
    simp [Ideal.cmp, hn] at h
  obtain ⟨h1, h2⟩ := max_lt_iff.1 hlt
  refine EReal.coe_toReal h1.ne fun hb => ?_
  rw [hb] at h2
  simp at h2

/-- A scalar has one index. -/
instance : Subsingleton (Cert.Pre_finite_KernelIdeal.S_).Idx := ⟨fun a b => funext fun i => i.elim0⟩

/-- One array's check: every element is real. -/
theorem all_real (s : Shape) {axes : List (Fin s.rank)} (X : FVec Ideal s .f32) (b : Cert.Pre_finite_KernelIdeal.S_.BroadcastsInDim s (![] : Fin 0 → Fin s.rank))
    (hr : s.ReducesTo axes Cert.Pre_finite_KernelIdeal.S_) (hp : 0 < Cert.Pre_finite_KernelIdeal.S_.numel) (j : (Cert.Pre_finite_KernelIdeal.S_).Idx)
    (h : Host.reduce IntOp.andi (cmpf .olt (Host.absf X) (broadcastInDim s ![] b (constant (F := Ideal) Cert.Pre_finite_KernelIdeal.S_ .f32 0x7F800000#32)))
      (constantI Cert.Pre_finite_KernelIdeal.S_ 1 1#1) hr hp j = 1#1) (i : s.Idx) : (((X i : EReal).toReal : ℝ) : EReal) = X i :=
  real_of (X i) (Host.reduce_andi_all _ _ hr hp j h i)

/-- The precondition, read. -/
theorem pre_real (hF : Cert.Pre_finite_KernelIdeal.Facts) (X : FVec Ideal Cert.Pre_finite_KernelIdeal.S1x256x1024 .f32) (W : FVec Ideal Cert.Pre_finite_KernelIdeal.S1024x1024 .f32)
    (K V : FVec Ideal Cert.Pre_finite_KernelIdeal.S1x4096x16x128 .f32) (O : FVec Ideal Cert.Pre_finite_KernelIdeal.S1024x1024 .f32)
    (h : Cert.Pre_finite_KernelIdeal.fn (F := Ideal) X W K V O = fun _ => 1#1) :
    (∀ i, (((X i : EReal).toReal : ℝ) : EReal) = X i) ∧ (∀ i, (((W i : EReal).toReal : ℝ) : EReal) = W i) ∧ ∀ i, (((K i : EReal).toReal : ℝ) : EReal) = K i := by
  have h0 := congrFun h (fun a : Fin 0 => a.elim0)
  obtain ⟨h1, hk⟩ := IntOp.andi_eq_one.1 h0
  obtain ⟨hx, hw⟩ := IntOp.andi_eq_one.1 h1
  exact ⟨all_real _ X _ _ _ _ hx, all_real _ W _ _ _ _ hw, all_real _ K _ _ _ _ hk⟩

end Cert.Own.Finite
-- ==== Proof.Algebraic.lean ====
/-
  The kernel and the reference end with one result over the extended reals.
-/
module

public import proofs.«01_k».proof.Proof.Result
public import proofs.«01_k».proof.Proof.RefValue
public import proofs.«01_k».proof.Proof.Finite
public import proofs.«01_k».proof.Proof.Frames
public import Idealize.ShloMosaic.Lib.Layout

@[expose] public section

set_option maxRecDepth 16384

noncomputable section

namespace Cert.KernelIdeal.Own

open Cert.KernelIdeal Cert.KernelIdeal.Gen Cert.Own.Softmax Idealize.ShloMosaic Idealize.SL.Sem

/-- Row `t` of device `c`'s block among the whole array's rows. -/
def wholeRow (c : Fin 8) (t : Fin 1024) : Fin 8192 := ⟨1024 * c.val + t.val, by omega⟩

/-- A sum over all rows, device by device. -/
theorem sum_rows {M : Type} [AddCommMonoid M] (f : Fin 8192 → M) : (∑ t, f t) = ∑ c : Fin 8, ∑ t : Fin 1024, f (wholeRow c t) := by
  have e := (finProdFinEquiv (m := 8) (n := 1024)).sum_comp (fun i => f i)
  rw [← e, Fintype.sum_prod_type]
  refine Finset.sum_congr rfl fun c _ => Finset.sum_congr rfl fun t _ => congrArg f (Fin.ext ?_)
  simp [finProdFinEquiv, wholeRow]; omega

/-- A block of the query weights, at an index. -/
theorem block_cols (c : Fin 8) (W : FVec Ideal ⟨2, ![1024, 8192]⟩ .f32) (d n : Fin 1024) :
    Layout.block ⟨2, ![1024, 1024]⟩ ⟨2, ![1024, 8192]⟩ 1 8 c W (by decide) (ix2 d n) = W (ix2 d (wholeRow c n)) := by
  rw [Layout.block_apply]
  refine congrArg W (funext fun a => Fin.ext ?_)
  fin_cases a
  · exact (Layout.idx_cols_val _ c (ix2 d n)).1
  · refine (Layout.idx_cols_val _ c (ix2 d n)).2.trans ?_
    show c.val * 1024 + n.val = 1024 * c.val + n.val; omega

/-- A block of the output weights, at an index. -/
theorem block_rows (c : Fin 8) (O : FVec Ideal ⟨2, ![8192, 1024]⟩ .f32) (t n : Fin 1024) :
    Layout.block ⟨2, ![1024, 1024]⟩ ⟨2, ![8192, 1024]⟩ 0 8 c O (by decide) (ix2 t n) = O (ix2 (wholeRow c t) n) := by
  rw [Layout.block_apply]
  refine congrArg O (funext fun a => Fin.ext ?_)
  fin_cases a
  · refine (Layout.idx_rows_val _ c (ix2 t n)).1.trans ?_
    show c.val * 1024 + t.val = 1024 * c.val + t.val; omega
  · exact (Layout.idx_rows_val _ c (ix2 t n)).2

section
variable (m : (ℓ : Loc nD τ sig) → Buf (Elt Ideal) ℓ) (m' : (ℓ : Loc Cert.ReferenceIdeal.nD Cert.ReferenceIdeal.τ Cert.ReferenceIdeal.sig) → Buf (Elt Ideal) ℓ)
variable (c0 : Dev Cert.ReferenceIdeal.nD)
variable (X : FVec Ideal ⟨3, ![1, 256, 1024]⟩ .f32) (W : FVec Ideal ⟨2, ![1024, 8192]⟩ .f32) (K V : FVec Ideal ⟨4, ![1, 4096, 16, 128]⟩ .f32) (O : FVec Ideal ⟨2, ![8192, 1024]⟩ .f32)

/-- The two results at an index, from the same arrays. -/
theorem same_at
    (kX : ∀ c : Dev nD, m ((c.tc : Thread nD τ).loc main_arg0) = X)
    (kW : ∀ c : Dev nD, m ((c.tc : Thread nD τ).loc main_arg1) = Layout.block ⟨2, ![1024, 1024]⟩ ⟨2, ![1024, 8192]⟩ 1 8 c W)
    (kK : ∀ c : Dev nD, m ((c.tc : Thread nD τ).loc main_arg2) = K)
    (kV : ∀ c : Dev nD, m ((c.tc : Thread nD τ).loc main_arg3) = V)
    (kO : ∀ c : Dev nD, m ((c.tc : Thread nD τ).loc main_arg4) = Layout.block ⟨2, ![1024, 1024]⟩ ⟨2, ![8192, 1024]⟩ 0 8 c O)
    (eX : m' ((c0.tc : Thread _ _).loc Cert.ReferenceIdeal.main_arg0) = X) (eW : m' ((c0.tc : Thread _ _).loc Cert.ReferenceIdeal.main_arg1) = W)
    (eK : m' ((c0.tc : Thread _ _).loc Cert.ReferenceIdeal.main_arg2) = K) (eV : m' ((c0.tc : Thread _ _).loc Cert.ReferenceIdeal.main_arg3) = V)
    (eO : m' ((c0.tc : Thread _ _).loc Cert.ReferenceIdeal.main_arg4) = O)
    (hX : ∀ i, (((X i : EReal).toReal : ℝ) : EReal) = X i) (hK : ∀ i, (((K i : EReal).toReal : ℝ) : EReal) = K i)
    (hW : ∀ (c : Dev nD) (i : (⟨2, ![1024, 1024]⟩ : Shape).Idx), ((((Layout.block ⟨2, ![1024, 1024]⟩ ⟨2, ![1024, 8192]⟩ 1 8 c W) i : EReal).toReal : ℝ) : EReal) = (Layout.block ⟨2, ![1024, 1024]⟩ ⟨2, ![1024, 8192]⟩ 1 8 c W) i)
    (c : Dev nD) (i : Fin 256) (n : Fin 1024) :
    finalA m c (1 : Fin 2) (ix3 (0 : Fin 1) i n) = Cert.ReferenceIdeal.Value.res_main_v105 m' c0 (ix3 (0 : Fin 1) i n) := by
  have hW' : ∀ d n, (((W (ix2 d n) : EReal).toReal : ℝ) : EReal) = W (ix2 d n) := by
    intro d n
    have h := hW (⟨n.val / 1024, by omega⟩ : Fin 8) (ix2 d ⟨n.val % 1024, by omega⟩)
    have e : wholeRow ⟨n.val / 1024, by omega⟩ ⟨n.val % 1024, by omega⟩ = n := Fin.ext (by show 1024 * (n.val / 1024) + n.val % 1024 = n.val; omega)
    rw [block_cols, e] at h
    exact h
  have hold : ∀ d : Dev nD, Holds m (fun i d => (X (ix3 0 i d) : EReal).toReal) (fun d n => (W (ix2 d n) : EReal).toReal) (fun j g e => (K (ix4 0 j g e) : EReal).toReal) d := fun d =>
    ⟨fun i e => (congrFun (kX d) _).trans (hX _).symm,
     fun e n => (congrFun (kW d) _).trans ((block_cols d W e n).trans (hW' _ _).symm),
     fun j g e => (congrFun (kK d) _).trans (hK _).symm⟩
  have hf := final_at hold c i n
  have hs := Cert.ReferenceIdeal.Own.res_at (fun i d => (X (ix3 0 i d) : EReal).toReal) (fun d n => (W (ix2 d n) : EReal).toReal)
    (fun j g e => (K (ix4 0 j g e) : EReal).toReal) m' c0 X W K V O eX eW eK eV eO (fun i d => (hX _).symm) (fun d n => (hW' d n).symm) (fun j g e => (hK _).symm) i n
  rw [sum_rows] at hs
  refine hf.trans (Eq.trans ?_ hs.symm)
  refine Finset.sum_congr (M := EReal) rfl fun d _ => Finset.sum_congr (M := EReal) rfl fun t _ => ?_
  have h8 : d.val < 8 := dlt d
  have e1 : (⟨8 * d.val + t.val / 128, by omega⟩ : Fin 64) = ⟨(wholeRow d t).val / 128, by omega⟩ := Fin.ext (by show 8 * d.val + t.val / 128 = (1024 * d.val + t.val) / 128; omega)
  have e2 : (⟨2 * d.val + t.val / 128 / 4, by omega⟩ : Fin 16) = ⟨(wholeRow d t).val / 128 / 4, by omega⟩ := Fin.ext (by show 2 * d.val + t.val / 128 / 4 = (1024 * d.val + t.val) / 128 / 4; omega)
  have e3 : (⟨t.val % 128, by omega⟩ : Fin 128) = ⟨(wholeRow d t).val % 128, by omega⟩ := Fin.ext (by show t.val % 128 = (1024 * d.val + t.val) % 128; omega)
  have eO' : m ((d.tc : Thread nD τ).loc main_arg4) (ix2 t n) = O (ix2 (wholeRow d t) n) := (congrFun (kO d) _).trans (block_rows d O t n)
  rw [eO', ← e1, ← e2, ← e3]
  have eV' : m ((d.tc : Thread nD τ).loc main_arg3) = V := kV d
  rw [eV']

end

/-- The value claim. -/
theorem algebraic (hF : Cert.Pre_finite_KernelIdeal.Facts) :
    Cert.algebraic_KernelIdeal_ReferenceIdeal_pre_finite_KernelIdeal (hPre_finite_KernelIdeal := hF) := by
  intro m g m' g' hp hm
  have hr := fun c => Cert.Own.Finite.pre_real hF _ _ _ _ _ (hp c)
  have hv : ∀ c : Dev nD, finalA m c (1 : Fin 2) = Cert.ReferenceIdeal.Value.res_main_v105 m' 0 := fun c => by
    funext idx
    have hj : ∀ idx : (⟨3, ![1, 256, 1024]⟩ : Shape).Idx, ∃ i n, idx = ix3 (0 : Fin 1) i n := fun idx => by
      idx_vars idx
      obtain rfl : idx0 = (0 : Fin 1) := Subsingleton.elim _ _
      exact ⟨_, _, rfl⟩
    obtain ⟨i, n, rfl⟩ := hj idx
    exact same_at m m' 0 _ _ _ _ _ (fun c => (hm c).1) (fun c => (hm c).2.1) (fun c => (hm c).2.2.1) (fun c => (hm c).2.2.2.1) (fun c => (hm c).2.2.2.2)
      rfl rfl rfl rfl rfl (fun i => (hm c).1 ▸ (hr c).1 i) (fun i => (hm c).2.2.1 ▸ (hr c).2.2 i) (fun c i => (hm c).2.1 ▸ (hr c).2.1 i) c i n
  refine ⟨Cert.ReferenceIdeal.Value.res_main_v105 m' 0, ?_, ?_⟩
  · exact (θ_run (defs (F := Ideal)) (onTc (τ := τ) (main (F := Ideal))) ⟨m, fun _ => 0, g⟩).mono
      (fun _ h c => ⟨((h.1 c).1 (1 : Fin 2)).trans (hv c), ((h.1 c).1 (0 : Fin 2)).trans (finalA_x m c), (h.1 c).2⟩) (run_main m g)
  · exact (θ_run Cert.ReferenceIdeal.defs _ _).mono (fun _ h => h 0) (Cert.ReferenceIdeal.Value.run m' g')

end Cert.KernelIdeal.Own
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Own.Finite.blocks, Cert.Own.Finite.wholes,
  Cert.KernelIdeal.Own.frame_kernel, Cert.KernelIdeal.Own.frame_kernelIdeal, fun m g _ => Cert.KernelIdeal.Own.frame_kernelIdeal m g trivial,
  Cert.KernelIdeal.Own.frame_reference, fun m g _ => Cert.KernelIdeal.Own.frame_reference m g trivial, trivial, Cert.KernelIdeal.Own.algebraic _⟩

end Cert.Proof

end
